-- ==== Defs.lean ====
def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_finite [hPre_finite : Cert.Pre_finite.Facts] (m : (ℓ : Loc Cert.WinIdeal.nD Cert.WinIdeal.τ Cert.WinIdeal.sig) → Buf (Elt Ideal) ℓ) : Prop :=
  ∀ c : Dev Cert.WinIdeal.nD,
    (Cert.Pre_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3)) (m ((c.tc : Thread Cert.WinIdeal.nD Cert.WinIdeal.τ).loc Cert.WinIdeal.main_arg4)) (m ((c.tc : Thread Cert.WinIdeal.nD Cert.WinIdeal.τ).loc Cert.WinIdeal.main_arg5)) (m ((c.tc : Thread Cert.WinIdeal.nD Cert.WinIdeal.τ).loc Cert.WinIdeal.main_arg6))) = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_finite [hPre_finite : Cert.Pre_finite.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3)) (m ((c.tc : Thread Cert.WinRefIdeal.nD Cert.WinRefIdeal.τ).loc Cert.WinRefIdeal.main_arg4)) (m ((c.tc : Thread Cert.WinRefIdeal.nD Cert.WinRefIdeal.τ).loc Cert.WinRefIdeal.main_arg5)) (m ((c.tc : Thread Cert.WinRefIdeal.nD Cert.WinRefIdeal.τ).loc Cert.WinRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_finite_weights [hPre_finite_weights : Cert.Pre_finite_weights.Facts] (m : (ℓ : Loc Cert.CmpIdeal.nD Cert.CmpIdeal.τ Cert.CmpIdeal.sig) → Buf (Elt Ideal) ℓ) : Prop :=
  ∀ c : Dev Cert.CmpIdeal.nD,
    (Cert.Pre_finite_weights.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4))) = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_finite_weights [hPre_finite_weights : Cert.Pre_finite_weights.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_finite_weights.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4))) = (fun _ => 1#1)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4)
      ∧ r.2.mem ((c.tc : Thread Cert.Win.nD Cert.Win.τ).loc Cert.Win.main_arg5) = m ((c.tc : Thread Cert.Win.nD Cert.Win.τ).loc Cert.Win.main_arg5)
      ∧ r.2.mem ((c.tc : Thread Cert.Win.nD Cert.Win.τ).loc Cert.Win.main_arg6) = m ((c.tc : Thread Cert.Win.nD Cert.Win.τ).loc Cert.Win.main_arg6))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5)
      ∧ r.2.mem ((c.tc : Thread Cert.WinIdeal.nD Cert.WinIdeal.τ).loc Cert.WinIdeal.main_arg6) = m ((c.tc : Thread Cert.WinIdeal.nD Cert.WinIdeal.τ).loc Cert.WinIdeal.main_arg6))
      ∧ r.2.sem = fun _ => 0)

def quiescent_WinIdeal_pre_finite [hWinIdeal : Cert.WinIdeal.Facts] [hPre_finite : Cert.Pre_finite.Facts] : Prop :=
  ∀ (m : (ℓ : Loc Cert.WinIdeal.nD Cert.WinIdeal.τ Cert.WinIdeal.sig) → Buf (Elt Ideal) ℓ) (g : Dev Cert.WinIdeal.nD → PrngReg), Pre_WinIdeal_finite m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5)
      ∧ r.2.mem ((c.tc : Thread Cert.WinIdeal.nD Cert.WinIdeal.τ).loc Cert.WinIdeal.main_arg6) = m ((c.tc : Thread Cert.WinIdeal.nD Cert.WinIdeal.τ).loc Cert.WinIdeal.main_arg6))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5)
      ∧ r.2.mem ((c.tc : Thread Cert.WinRefIdeal.nD Cert.WinRefIdeal.τ).loc Cert.WinRefIdeal.main_arg6) = m ((c.tc : Thread Cert.WinRefIdeal.nD Cert.WinRefIdeal.τ).loc Cert.WinRefIdeal.main_arg6))
      ∧ r.2.sem = fun _ => 0)

def quiescent_WinRefIdeal_pre_finite [hWinRefIdeal : Cert.WinRefIdeal.Facts] [hPre_finite : Cert.Pre_finite.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_finite m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5)
      ∧ r.2.mem ((c.tc : Thread Cert.WinRefIdeal.nD Cert.WinRefIdeal.τ).loc Cert.WinRefIdeal.main_arg6) = m ((c.tc : Thread Cert.WinRefIdeal.nD Cert.WinRefIdeal.τ).loc Cert.WinRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2)
      ∧ r.2.mem ((c.tc : Thread Cert.InP.nD Cert.InP.τ).loc Cert.InP.main_arg3) = m ((c.tc : Thread Cert.InP.nD Cert.InP.τ).loc Cert.InP.main_arg3)
      ∧ r.2.mem ((c.tc : Thread Cert.InP.nD Cert.InP.τ).loc Cert.InP.main_arg4) = m ((c.tc : Thread Cert.InP.nD Cert.InP.τ).loc Cert.InP.main_arg4)
      ∧ r.2.mem ((c.tc : Thread Cert.InP.nD Cert.InP.τ).loc Cert.InP.main_arg5) = m ((c.tc : Thread Cert.InP.nD Cert.InP.τ).loc Cert.InP.main_arg5)
      ∧ r.2.mem ((c.tc : Thread Cert.InP.nD Cert.InP.τ).loc Cert.InP.main_arg6) = m ((c.tc : Thread Cert.InP.nD Cert.InP.τ).loc Cert.InP.main_arg6))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
      ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
      ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
      ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
      ∧ r.2.mem ((c.tc : Thread Cert.InPIdeal.nD Cert.InPIdeal.τ).loc Cert.InPIdeal.main_arg6) = m ((c.tc : Thread Cert.InPIdeal.nD Cert.InPIdeal.τ).loc Cert.InPIdeal.main_arg6))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m ((c.tc : Thread Cert.InPRefIdeal.nD Cert.InPRefIdeal.τ).loc Cert.InPRefIdeal.main_arg2)
      ∧ r.2.mem ((c.tc : Thread Cert.InPRefIdeal.nD Cert.InPRefIdeal.τ).loc Cert.InPRefIdeal.main_arg3) = m ((c.tc : Thread Cert.InPRefIdeal.nD Cert.InPRefIdeal.τ).loc Cert.InPRefIdeal.main_arg3)
      ∧ r.2.mem ((c.tc : Thread Cert.InPRefIdeal.nD Cert.InPRefIdeal.τ).loc Cert.InPRefIdeal.main_arg4) = m ((c.tc : Thread Cert.InPRefIdeal.nD Cert.InPRefIdeal.τ).loc Cert.InPRefIdeal.main_arg4)
      ∧ r.2.mem ((c.tc : Thread Cert.InPRefIdeal.nD Cert.InPRefIdeal.τ).loc Cert.InPRefIdeal.main_arg5) = m ((c.tc : Thread Cert.InPRefIdeal.nD Cert.InPRefIdeal.τ).loc Cert.InPRefIdeal.main_arg5)
      ∧ r.2.mem ((c.tc : Thread Cert.InPRefIdeal.nD Cert.InPRefIdeal.τ).loc Cert.InPRefIdeal.main_arg6) = m ((c.tc : Thread Cert.InPRefIdeal.nD Cert.InPRefIdeal.τ).loc Cert.InPRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4))
      ∧ r.2.sem = fun _ => 0)

def quiescent_CmpIdeal_pre_finite_weights [hCmpIdeal : Cert.CmpIdeal.Facts] [hPre_finite_weights : Cert.Pre_finite_weights.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_finite_weights m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4))
      ∧ r.2.sem = fun _ => 0)

def quiescent_CmpRefIdeal_pre_finite_weights [hCmpRefIdeal : Cert.CmpRefIdeal.Facts] [hPre_finite_weights : Cert.Pre_finite_weights.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_finite_weights m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4))
      ∧ r.2.sem = fun _ => 0)

def preserves_Win_WinIdeal : Prop :=
  IdealRules.named_const.Statement Cert.WinIdeal.κ "slope3" .f32 0x3E38AA3B#32 (((1 / 8) * (Real.log 2)⁻¹ : ℝ) : EReal)
  ∧ IdealRules.named_const.Statement Cert.WinIdeal.κ "slope5" .f32 0x3D38AA3B#32 (((1 / 32) * (Real.log 2)⁻¹ : ℝ) : EReal)
  ∧ IdealRules.named_const.Statement Cert.WinIdeal.κ "slope1" .f32 0x3F38AA3B#32 (((1 / 2) * (Real.log 2)⁻¹ : ℝ) : EReal)
  ∧ IdealRules.named_const.Statement Cert.WinIdeal.κ "neg" .f32 0xF149F2CA#32 ⊥
  ∧ IdealRules.named_const.Statement Cert.WinIdeal.κ "slope6" .f32 0x3CB8AA3B#32 (((1 / 64) * (Real.log 2)⁻¹ : ℝ) : EReal)
  ∧ IdealRules.named_const.Statement Cert.WinIdeal.κ "slope2" .f32 0x3EB8AA3B#32 (((1 / 4) * (Real.log 2)⁻¹ : ℝ) : EReal)
  ∧ IdealRules.named_const.Statement Cert.WinIdeal.κ "slope7" .f32 0x3C38AA3B#32 (((1 / 128) * (Real.log 2)⁻¹ : ℝ) : EReal)
  ∧ IdealRules.named_const.Statement Cert.WinIdeal.κ "slope8" .f32 0x3BB8AA3B#32 (((1 / 256) * (Real.log 2)⁻¹ : ℝ) : EReal)
  ∧ IdealRules.named_const.Statement Cert.WinIdeal.κ "slope4" .f32 0x3DB8AA3B#32 (((1 / 16) * (Real.log 2)⁻¹ : ℝ) : EReal)

def algebraic_WinIdeal_WinRefIdeal_pre_finite [hWinIdeal : Cert.WinIdeal.Facts] [hWinRefIdeal : Cert.WinRefIdeal.Facts] [hPre_finite : Cert.Pre_finite.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_finite m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)
      ∧ m' ((c.tc : Thread Cert.WinRefIdeal.nD Cert.WinRefIdeal.τ).loc Cert.WinRefIdeal.main_arg4) = m ((c.tc : Thread Cert.WinIdeal.nD Cert.WinIdeal.τ).loc Cert.WinIdeal.main_arg4)
      ∧ m' ((c.tc : Thread Cert.WinRefIdeal.nD Cert.WinRefIdeal.τ).loc Cert.WinRefIdeal.main_arg5) = m ((c.tc : Thread Cert.WinIdeal.nD Cert.WinIdeal.τ).loc Cert.WinIdeal.main_arg5)
      ∧ m' ((c.tc : Thread Cert.WinRefIdeal.nD Cert.WinRefIdeal.τ).loc Cert.WinRefIdeal.main_arg6) = m ((c.tc : Thread Cert.WinIdeal.nD Cert.WinIdeal.τ).loc Cert.WinIdeal.main_arg6)) →
    ∃ (v0 : (c : Dev Cert.WinIdeal.nD) → Buf (Elt Ideal) ((c.tc : Thread Cert.WinIdeal.nD Cert.WinIdeal.τ).loc Cert.WinIdeal.main_v14)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v14) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
          ∧ r.2.mem ((c.tc : Thread Cert.WinIdeal.nD Cert.WinIdeal.τ).loc Cert.WinIdeal.main_arg5) = m ((c.tc : Thread Cert.WinIdeal.nD Cert.WinIdeal.τ).loc Cert.WinIdeal.main_arg5)
          ∧ r.2.mem ((c.tc : Thread Cert.WinIdeal.nD Cert.WinIdeal.τ).loc Cert.WinIdeal.main_arg6) = m ((c.tc : Thread Cert.WinIdeal.nD Cert.WinIdeal.τ).loc Cert.WinIdeal.main_arg6))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v53) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4)
          ∧ r.2.mem ((c.tc : Thread Cert.WinRefIdeal.nD Cert.WinRefIdeal.τ).loc Cert.WinRefIdeal.main_arg5) = m' ((c.tc : Thread Cert.WinRefIdeal.nD Cert.WinRefIdeal.τ).loc Cert.WinRefIdeal.main_arg5)
          ∧ r.2.mem ((c.tc : Thread Cert.WinRefIdeal.nD Cert.WinRefIdeal.τ).loc Cert.WinRefIdeal.main_arg6) = m' ((c.tc : Thread Cert.WinRefIdeal.nD Cert.WinRefIdeal.τ).loc Cert.WinRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v9)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v9) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v55) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_InP_InPIdeal : Prop :=
  True

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)
      ∧ m' ((c.tc : Thread Cert.InPRefIdeal.nD Cert.InPRefIdeal.τ).loc Cert.InPRefIdeal.main_arg2) = m ((c.tc : Thread Cert.InPIdeal.nD Cert.InPIdeal.τ).loc Cert.InPIdeal.main_arg2)
      ∧ m' ((c.tc : Thread Cert.InPRefIdeal.nD Cert.InPRefIdeal.τ).loc Cert.InPRefIdeal.main_arg3) = m ((c.tc : Thread Cert.InPIdeal.nD Cert.InPIdeal.τ).loc Cert.InPIdeal.main_arg3)
      ∧ m' ((c.tc : Thread Cert.InPRefIdeal.nD Cert.InPRefIdeal.τ).loc Cert.InPRefIdeal.main_arg4) = m ((c.tc : Thread Cert.InPIdeal.nD Cert.InPIdeal.τ).loc Cert.InPIdeal.main_arg4)
      ∧ m' ((c.tc : Thread Cert.InPRefIdeal.nD Cert.InPRefIdeal.τ).loc Cert.InPRefIdeal.main_arg5) = m ((c.tc : Thread Cert.InPIdeal.nD Cert.InPIdeal.τ).loc Cert.InPIdeal.main_arg5)
      ∧ m' ((c.tc : Thread Cert.InPRefIdeal.nD Cert.InPRefIdeal.τ).loc Cert.InPRefIdeal.main_arg6) = m ((c.tc : Thread Cert.InPIdeal.nD Cert.InPIdeal.τ).loc Cert.InPIdeal.main_arg6)) →
    ∃ (v0 : (c : Dev Cert.InPIdeal.nD) → Buf (Elt Ideal) ((c.tc : Thread Cert.InPIdeal.nD Cert.InPIdeal.τ).loc Cert.InPIdeal.main_v31_0)) (v1 : (c : Dev Cert.InPIdeal.nD) → Buf (Elt Ideal) ((c.tc : Thread Cert.InPIdeal.nD Cert.InPIdeal.τ).loc Cert.InPIdeal.main_v31_1)) (v2 : (c : Dev Cert.InPIdeal.nD) → Buf (Elt Ideal) ((c.tc : Thread Cert.InPIdeal.nD Cert.InPIdeal.τ).loc Cert.InPIdeal.main_v31_2)) (v3 : (c : Dev Cert.InPIdeal.nD) → Buf (Elt Ideal) ((c.tc : Thread Cert.InPIdeal.nD Cert.InPIdeal.τ).loc Cert.InPIdeal.main_v31_3)) (v4 : (c : Dev Cert.InPIdeal.nD) → Buf (Elt Ideal) ((c.tc : Thread Cert.InPIdeal.nD Cert.InPIdeal.τ).loc Cert.InPIdeal.main_v31_4)) (v5 : (c : Dev Cert.InPIdeal.nD) → Buf (Elt Ideal) ((c.tc : Thread Cert.InPIdeal.nD Cert.InPIdeal.τ).loc Cert.InPIdeal.main_v31_5)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v31_0) = v0 c
          ∧ r.2.mem ((c.tc : Thread Cert.InPIdeal.nD Cert.InPIdeal.τ).loc Cert.InPIdeal.main_v31_1) = v1 c
          ∧ r.2.mem ((c.tc : Thread Cert.InPIdeal.nD Cert.InPIdeal.τ).loc Cert.InPIdeal.main_v31_2) = v2 c
          ∧ r.2.mem ((c.tc : Thread Cert.InPIdeal.nD Cert.InPIdeal.τ).loc Cert.InPIdeal.main_v31_3) = v3 c
          ∧ r.2.mem ((c.tc : Thread Cert.InPIdeal.nD Cert.InPIdeal.τ).loc Cert.InPIdeal.main_v31_4) = v4 c
          ∧ r.2.mem ((c.tc : Thread Cert.InPIdeal.nD Cert.InPIdeal.τ).loc Cert.InPIdeal.main_v31_5) = v5 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
          ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
          ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
          ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
          ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
          ∧ r.2.mem ((c.tc : Thread Cert.InPIdeal.nD Cert.InPIdeal.τ).loc Cert.InPIdeal.main_arg6) = m ((c.tc : Thread Cert.InPIdeal.nD Cert.InPIdeal.τ).loc Cert.InPIdeal.main_arg6))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v101) = v0 c
          ∧ r.2.mem ((c.tc : Thread Cert.InPRefIdeal.nD Cert.InPRefIdeal.τ).loc Cert.InPRefIdeal.main_v105) = v1 c
          ∧ r.2.mem ((c.tc : Thread Cert.InPRefIdeal.nD Cert.InPRefIdeal.τ).loc Cert.InPRefIdeal.main_v107) = v2 c
          ∧ r.2.mem ((c.tc : Thread Cert.InPRefIdeal.nD Cert.InPRefIdeal.τ).loc Cert.InPRefIdeal.main_v108) = v3 c
          ∧ r.2.mem ((c.tc : Thread Cert.InPRefIdeal.nD Cert.InPRefIdeal.τ).loc Cert.InPRefIdeal.main_v98) = v4 c
          ∧ r.2.mem ((c.tc : Thread Cert.InPRefIdeal.nD Cert.InPRefIdeal.τ).loc Cert.InPRefIdeal.main_v110) = v5 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1)
          ∧ r.2.mem ((c.tc : Thread Cert.InPRefIdeal.nD Cert.InPRefIdeal.τ).loc Cert.InPRefIdeal.main_arg2) = m' ((c.tc : Thread Cert.InPRefIdeal.nD Cert.InPRefIdeal.τ).loc Cert.InPRefIdeal.main_arg2)
          ∧ r.2.mem ((c.tc : Thread Cert.InPRefIdeal.nD Cert.InPRefIdeal.τ).loc Cert.InPRefIdeal.main_arg3) = m' ((c.tc : Thread Cert.InPRefIdeal.nD Cert.InPRefIdeal.τ).loc Cert.InPRefIdeal.main_arg3)
          ∧ r.2.mem ((c.tc : Thread Cert.InPRefIdeal.nD Cert.InPRefIdeal.τ).loc Cert.InPRefIdeal.main_arg4) = m' ((c.tc : Thread Cert.InPRefIdeal.nD Cert.InPRefIdeal.τ).loc Cert.InPRefIdeal.main_arg4)
          ∧ r.2.mem ((c.tc : Thread Cert.InPRefIdeal.nD Cert.InPRefIdeal.τ).loc Cert.InPRefIdeal.main_arg5) = m' ((c.tc : Thread Cert.InPRefIdeal.nD Cert.InPRefIdeal.τ).loc Cert.InPRefIdeal.main_arg5)
          ∧ r.2.mem ((c.tc : Thread Cert.InPRefIdeal.nD Cert.InPRefIdeal.τ).loc Cert.InPRefIdeal.main_arg6) = m' ((c.tc : Thread Cert.InPRefIdeal.nD Cert.InPRefIdeal.τ).loc Cert.InPRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v19) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Cmp_CmpIdeal : Prop :=
  True

def algebraic_CmpIdeal_CmpRefIdeal_pre_finite_weights [hCmpIdeal : Cert.CmpIdeal.Facts] [hCmpRefIdeal : Cert.CmpRefIdeal.Facts] [hPre_finite_weights : Cert.Pre_finite_weights.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_finite_weights m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)) →
    ∃ (v0 : (c : Dev Cert.CmpIdeal.nD) → Buf (Elt Ideal) ((c.tc : Thread Cert.CmpIdeal.nD Cert.CmpIdeal.τ).loc Cert.CmpIdeal.main_v25_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v25_1) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v66) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4))

def Claim : Prop :=
  ∃ (hWin : Cert.Win.Facts) (hWinIdeal : Cert.WinIdeal.Facts) (hWinRefIdeal : Cert.WinRefIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hInP : Cert.InP.Facts) (hInPIdeal : Cert.InPIdeal.Facts) (hInPRefIdeal : Cert.InPRefIdeal.Facts) (hAda : Cert.Ada.Facts) (hAdaIdeal : Cert.AdaIdeal.Facts) (hAdaRefIdeal : Cert.AdaRefIdeal.Facts) (hCmp : Cert.Cmp.Facts) (hCmpIdeal : Cert.CmpIdeal.Facts) (hCmpRefIdeal : Cert.CmpRefIdeal.Facts) (hPre_finite : Cert.Pre_finite.Facts) (hPre_finite_weights : Cert.Pre_finite_weights.Facts),
    quiescent_Win (hWin := hWin)
    ∧ quiescent_WinIdeal (hWinIdeal := hWinIdeal)
    ∧ quiescent_WinIdeal_pre_finite (hWinIdeal := hWinIdeal) (hPre_finite := hPre_finite)
    ∧ quiescent_WinRefIdeal (hWinRefIdeal := hWinRefIdeal)
    ∧ quiescent_WinRefIdeal_pre_finite (hWinRefIdeal := hWinRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ quiescent_InP (hInP := hInP)
    ∧ quiescent_InPIdeal (hInPIdeal := hInPIdeal)
    ∧ quiescent_InPRefIdeal (hInPRefIdeal := hInPRefIdeal)
    ∧ quiescent_Ada (hAda := hAda)
    ∧ quiescent_AdaIdeal (hAdaIdeal := hAdaIdeal)
    ∧ quiescent_AdaRefIdeal (hAdaRefIdeal := hAdaRefIdeal)
    ∧ quiescent_Cmp (hCmp := hCmp)
    ∧ quiescent_CmpIdeal (hCmpIdeal := hCmpIdeal)
    ∧ quiescent_CmpIdeal_pre_finite_weights (hCmpIdeal := hCmpIdeal) (hPre_finite_weights := hPre_finite_weights)
    ∧ quiescent_CmpRefIdeal (hCmpRefIdeal := hCmpRefIdeal)
    ∧ quiescent_CmpRefIdeal_pre_finite_weights (hCmpRefIdeal := hCmpRefIdeal) (hPre_finite_weights := hPre_finite_weights)
    ∧ preserves_Win_WinIdeal
    ∧ algebraic_WinIdeal_WinRefIdeal_pre_finite (hWinIdeal := hWinIdeal) (hWinRefIdeal := hWinRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
    ∧ preserves_InP_InPIdeal
    ∧ algebraic_InPIdeal_InPRefIdeal (hInPIdeal := hInPIdeal) (hInPRefIdeal := hInPRefIdeal)
    ∧ preserves_Ada_AdaIdeal
    ∧ algebraic_AdaIdeal_AdaRefIdeal (hAdaIdeal := hAdaIdeal) (hAdaRefIdeal := hAdaRefIdeal)
    ∧ preserves_Cmp_CmpIdeal
    ∧ algebraic_CmpIdeal_CmpRefIdeal_pre_finite_weights (hCmpIdeal := hCmpIdeal) (hCmpRefIdeal := hCmpRefIdeal) (hPre_finite_weights := hPre_finite_weights)
-- ==== Pre_finite.lean ====
abbrev S8x8192x512 : Shape := ⟨3, ![8, 8192, 512]⟩
abbrev S8x8192x128 : Shape := ⟨3, ![8, 8192, 128]⟩
abbrev S8x8192x24 : Shape := ⟨3, ![8, 8192, 24]⟩
abbrev S_ : Shape := ⟨0, ![]⟩
abbrev S8x8192x640 : Shape := ⟨3, ![8, 8192, 640]⟩

class Facts : Prop where
  bcast_S_S8x8192x512 : S_.BroadcastsInDim S8x8192x512 (![] : Fin 0 → Fin S8x8192x512.rank)
  bcast_S_S8x8192x128 : S_.BroadcastsInDim S8x8192x128 (![] : Fin 0 → Fin S8x8192x128.rank)
  concatenates_S8x8192x512_S8x8192x128_S8x8192x640_d2 : Shape.Concatenates [S8x8192x512, S8x8192x128] S8x8192x640 2

variable [Facts]

def fn {F : FTy → Type} [FloatOps F] (main_arg0 : FVec F S8x8192x512 .f32) (main_arg1 : FVec F S8x8192x128 .f32) (main_arg2 : FVec F S8x8192x128 .f32) (main_arg3 : FVec F S8x8192x128 .f32) (main_arg4 : FVec F S8x8192x128 .f32) (main_arg5 : FVec F S8x8192x24 .f32) (main_arg6 : FVec F S8x8192x512 .f32) : IVec S8x8192x640 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_v3 : FVec F S8x8192x128 .f32 := Host.absf main_arg2
  let main_cst_0 : FVec F S_ .f32 := constant S_ .f32 0x7F800000#32
  let main_v4 : FVec F S8x8192x128 .f32 := broadcastInDim S8x8192x128 ![] bcast_S_S8x8192x128 main_cst_0
  let main_v5 : IVec S8x8192x128 1 := cmpf .olt main_v3 main_v4
  let main_v6 : IVec S8x8192x640 1 := (fun a b => concatenate S8x8192x640 2 [⟨S8x8192x512, a⟩, ⟨S8x8192x128, b⟩] concatenates_S8x8192x512_S8x8192x128_S8x8192x640_d2) main_v2 main_v5
  main_v6
-- ==== Pre_finite_weights.lean ====
abbrev S8x8192x128 : Shape := ⟨3, ![8, 8192, 128]⟩
abbrev S2x32x64 : Shape := ⟨3, ![2, 32, 64]⟩
abbrev S2x2048x256 : Shape := ⟨3, ![2, 2048, 256]⟩
abbrev S2x256x64 : Shape := ⟨3, ![2, 256, 64]⟩
abbrev S2x2048x1 : Shape := ⟨3, ![2, 2048, 1]⟩
abbrev S_ : Shape := ⟨0, ![]⟩
abbrev S2x2048x257 : Shape := ⟨3, ![2, 2048, 257]⟩

class Facts : Prop where
  shapeCasts_S2x32x64_S2x2048x1 : S2x32x64.ShapeCasts S2x2048x1
  bcast_S_S2x2048x1 : S_.BroadcastsInDim S2x2048x1 (![] : Fin 0 → Fin S2x2048x1.rank)
  bcast_S_S2x2048x256 : S_.BroadcastsInDim S2x2048x256 (![] : Fin 0 → Fin S2x2048x256.rank)
  concatenates_S2x2048x1_S2x2048x256_S2x2048x257_d2 : Shape.Concatenates [S2x2048x1, S2x2048x256] S2x2048x257 2

variable [Facts]

def fn {F : FTy → Type} [FloatOps F] (main_arg0 : FVec F S8x8192x128 .f32) (main_arg1 : FVec F S8x8192x128 .f32) (main_arg2 : FVec F S2x32x64 .f32) (main_arg3 : FVec F S2x2048x256 .f32) (main_arg4 : FVec F S2x256x64 .f32) : IVec S2x2048x257 1 :=
  let main_v0 : FVec F S2x2048x1 .f32 := shapeCast S2x2048x1 main_arg2 shapeCasts_S2x32x64_S2x2048x1
  let main_v1 : FVec F S2x2048x1 .f32 := Host.absf main_v0
  let main_cst : FVec F S_ .f32 := constant S_ .f32 0x7F800000#32
  let main_v2 : FVec F S2x2048x1 .f32 := broadcastInDim S2x2048x1 ![] bcast_S_S2x2048x1 main_cst
  let main_v3 : IVec S2x2048x1 1 := cmpf .olt main_v1 main_v2
  let main_v4 : FVec F S2x2048x256 .f32 := Host.absf main_arg3
  let main_cst_0 : FVec F S_ .f32 := constant S_ .f32 0x7F800000#32
  let main_v5 : FVec F S2x2048x256 .f32 := broadcastInDim S2x2048x256 ![] bcast_S_S2x2048x256 main_cst_0
  let main_v6 : IVec S2x2048x256 1 := cmpf .olt main_v4 main_v5
  let main_v7 : IVec S2x2048x257 1 := (fun a b => concatenate S2x2048x257 2 [⟨S2x2048x1, a⟩, ⟨S2x2048x256, b⟩] concatenates_S2x2048x1_S2x2048x256_S2x2048x257_d2) main_v3 main_v6
  main_v7
-- ==== Win.lean ====
abbrev S8x8192x512 : Shape := ⟨3, ![8, 8192, 512]⟩
abbrev S8x8192x128 : Shape := ⟨3, ![8, 8192, 128]⟩
abbrev S8x8192x24 : Shape := ⟨3, ![8, 8192, 24]⟩
abbrev S8x512x8192 : Shape := ⟨3, ![8, 512, 8192]⟩
abbrev S_ : Shape := ⟨0, ![]⟩
abbrev S8x8192x64 : Shape := ⟨3, ![8, 8192, 64]⟩
abbrev S8x8192x384 : Shape := ⟨3, ![8, 8192, 384]⟩
abbrev S8x8192x256 : Shape := ⟨3, ![8, 8192, 256]⟩
abbrev S8x256x8192 : Shape := ⟨3, ![8, 256, 8192]⟩
abbrev S8x8192x2x4x3 : Shape := ⟨5, ![8, 8192, 2, 4, 3]⟩
abbrev S8x2x3x4x8192 : Shape := ⟨5, ![8, 2, 3, 4, 8192]⟩
abbrev S8x2x12x8192 : Shape := ⟨4, ![8, 2, 12, 8192]⟩
abbrev S8x2x16x8192 : Shape := ⟨4, ![8, 2, 16, 8192]⟩
abbrev S1x256x512 : Shape := ⟨3, ![1, 256, 512]⟩
abbrev S1x512x128 : Shape := ⟨3, ![1, 512, 128]⟩
abbrev S1x128x512 : Shape := ⟨3, ![1, 128, 512]⟩
abbrev S1x1x16x512 : Shape := ⟨4, ![1, 1, 16, 512]⟩
abbrev S256x256 : Shape := ⟨2, ![256, 256]⟩
abbrev S16x256 : Shape := ⟨2, ![16, 256]⟩
abbrev S256x128 : Shape := ⟨2, ![256, 128]⟩
abbrev S1x256x128 : Shape := ⟨3, ![1, 256, 128]⟩
abbrev S1x128x256 : Shape := ⟨3, ![1, 128, 256]⟩
abbrev S128x256 : Shape := ⟨2, ![128, 256]⟩
abbrev S144x256 : Shape := ⟨2, ![144, 256]⟩
abbrev S1x64x256 : Shape := ⟨3, ![1, 64, 256]⟩
abbrev S64x256 : Shape := ⟨2, ![64, 256]⟩
abbrev S64x1024 : Shape := ⟨2, ![64, 1024]⟩
abbrev S8x256 : Shape := ⟨2, ![8, 256]⟩
abbrev S120x256 : Shape := ⟨2, ![120, 256]⟩
abbrev S128x1024 : Shape := ⟨2, ![128, 1024]⟩
abbrev S256x1024 : Shape := ⟨2, ![256, 1024]⟩
abbrev S256 : Shape := ⟨1, ![256]⟩
abbrev S1x256 : Shape := ⟨2, ![1, 256]⟩
abbrev S1x1x1x256 : Shape := ⟨4, ![1, 1, 1, 256]⟩

abbrev nBuf : Space → Nat
  | .hbm => 25
  | .vmem => 16
  | .smem => 0
  | _ => 0

abbrev bufTy : (tb : Table) → Fin (tcTables nBuf tb) → BufTy
  | .hbm, ⟨0, _⟩ => ⟨S8x8192x512, .f32⟩
  | .hbm, ⟨1, _⟩ => ⟨S8x8192x128, .f32⟩
  | .hbm, ⟨2, _⟩ => ⟨S8x8192x128, .f32⟩
  | .hbm, ⟨3, _⟩ => ⟨S8x8192x128, .f32⟩
  | .hbm, ⟨4, _⟩ => ⟨S8x8192x128, .f32⟩
  | .hbm, ⟨5, _⟩ => ⟨S8x8192x24, .f32⟩
  | .hbm, ⟨6, _⟩ => ⟨S8x8192x512, .f32⟩
  | .hbm, ⟨7, _⟩ => ⟨S8x512x8192, .f32⟩
  | .hbm, ⟨8, _⟩ => ⟨S_, .f32⟩
  | .hbm, ⟨9, _⟩ => ⟨S8x8192x64, .f32⟩
  | .hbm, ⟨10, _⟩ => ⟨S8x8192x64, .f32⟩
  | .hbm, ⟨11, _⟩ => ⟨S8x8192x64, .f32⟩
  | .hbm, ⟨12, _⟩ => ⟨S8x8192x384, .f32⟩
  | .hbm, ⟨13, _⟩ => ⟨S8x8192x384, .bf16⟩
  | .hbm, ⟨14, _⟩ => ⟨S8x8192x256, .f32⟩
  | .hbm, ⟨15, _⟩ => ⟨S8x256x8192, .f32⟩
  | .hbm, ⟨16, _⟩ => ⟨S8x256x8192, .bf16⟩
  | .hbm, ⟨17, _⟩ => ⟨S8x8192x2x4x3, .f32⟩
  | .hbm, ⟨18, _⟩ => ⟨S8x2x3x4x8192, .f32⟩
  | .hbm, ⟨19, _⟩ => ⟨S8x2x12x8192, .f32⟩
  | .hbm, ⟨20, _⟩ => ⟨S_, .i32⟩
  | .hbm, ⟨21, _⟩ => ⟨S_, .f32⟩
  | .hbm, ⟨22, _⟩ => ⟨S8x2x16x8192, .f32⟩
  | .hbm, ⟨23, _⟩ => ⟨S8x512x8192, .f32⟩
  | .hbm, ⟨24, _⟩ => ⟨S8x512x8192, .f32⟩
  | .local _ .vmem, ⟨0, _⟩ => ⟨S1x256x512, .f32⟩
  | .local _ .vmem, ⟨1, _⟩ => ⟨S1x256x512, .f32⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x1x16x512, .f32⟩
  | .local _ .vmem, ⟨11, _⟩ => ⟨S1x1x16x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c2_i32 : BitVec 32 := 2#32
  let c0_i32_1 : BitVec 32 := 0#32
  ![arg0.toNat, v1.toNat, c2_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c1_i32_0 : BitVec 32 := 1#32
  let c0_i32_1 : BitVec 32 := 0#32
  ![arg0.toNat, c1_i32_0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c1_i32 : BitVec 32 := 1#32
  let c0_i32_1 : BitVec 32 := 0#32
  ![arg0.toNat, c1_i32.toNat, v1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== WinIdeal.lean ====
variable {F : FTy → Type} [FloatOps F] [Named F]
def κ : String → Option EReal := fun
  | "neg" => some ⊥
  | "slope1" => some (((1 / 2) * (Real.log 2)⁻¹ : ℝ) : EReal)
  | "slope2" => some (((1 / 4) * (Real.log 2)⁻¹ : ℝ) : EReal)
  | "slope3" => some (((1 / 8) * (Real.log 2)⁻¹ : ℝ) : EReal)
  | "slope4" => some (((1 / 16) * (Real.log 2)⁻¹ : ℝ) : EReal)
  | "slope5" => some (((1 / 32) * (Real.log 2)⁻¹ : ℝ) : EReal)
  | "slope6" => some (((1 / 64) * (Real.log 2)⁻¹ : ℝ) : EReal)
  | "slope7" => some (((1 / 128) * (Real.log 2)⁻¹ : ℝ) : EReal)
  | "slope8" => some (((1 / 256) * (Real.log 2)⁻¹ : ℝ) : EReal)
  | _ => none
-- ==== WinRefIdeal.lean ====
abbrev S8x8192x512 : Shape := ⟨3, ![8, 8192, 512]⟩
abbrev S8x8192x128 : Shape := ⟨3, ![8, 8192, 128]⟩
abbrev S8x8192x24 : Shape := ⟨3, ![8, 8192, 24]⟩
abbrev S2x4 : Shape := ⟨2, ![2, 4]⟩
abbrev S_ : Shape := ⟨0, ![]⟩
abbrev S8x8192x2x4x64 : Shape := ⟨5, ![8, 8192, 2, 4, 64]⟩
abbrev S8x8192x2x64 : Shape := ⟨4, ![8, 8192, 2, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x2x8192x8192x4 : Shape := ⟨5, ![8, 2, 8192, 8192, 4]⟩
abbrev S8x2x4x8192x8192 : Shape := ⟨5, ![8, 2, 4, 8192, 8192]⟩
abbrev S2x4x1x1 : Shape := ⟨4, ![2, 4, 1, 1]⟩
abbrev S1x1x8192x8192 : Shape := ⟨4, ![1, 1, 8192, 8192]⟩
abbrev S2x4x8192x8192 : Shape := ⟨4, ![2, 4, 8192, 8192]⟩
abbrev S1x2x4x8192x8192 : Shape := ⟨5, ![1, 2, 4, 8192, 8192]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩
abbrev S8x8192x2x4x3 : Shape := ⟨5, ![8, 8192, 2, 4, 3]⟩
abbrev S8x8192x2x4x1 : Shape := ⟨5, ![8, 8192, 2, 4, 1]⟩
abbrev S8x512x8192 : Shape := ⟨3, ![8, 512, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x128, .f32⟩
  | .hbm, ⟨2, _⟩ => ⟨S8x8192x128, .f32⟩
  | .hbm, ⟨3, _⟩ => ⟨S8x8192x128, .f32⟩
  | .hbm, ⟨4, _⟩ => ⟨S8x8192x128, .f32⟩
  | .hbm, ⟨5, _⟩ => ⟨S8x8192x24, .f32⟩
  | .hbm, ⟨6, _⟩ => ⟨S8x8192x512, .f32⟩
  | .hbm, ⟨7, _⟩ => ⟨S2x4, .f32⟩
  | .hbm, ⟨8, _⟩ => ⟨S_, .f32⟩
  | .hbm, ⟨9, _⟩ => ⟨S8x8192x512, .f32⟩
  | .hbm, ⟨10, _⟩ => ⟨S8x8192x512, .f32⟩
  | .hbm, ⟨11, _⟩ => ⟨S8x8192x2x4x64, .f32⟩
  | .hbm, ⟨12, _⟩ => ⟨S8x8192x2x64, .f32⟩
  | .hbm, ⟨13, _⟩ => ⟨S8x8192x2x64, .f32⟩
  | .hbm, ⟨14, _⟩ => ⟨S8192, .i32⟩
  | .hbm, ⟨15, _⟩ => ⟨S8192x1, .i32⟩
  | .hbm, ⟨16, _⟩ => ⟨S1x8192, .i32⟩
  | .hbm, ⟨17, _⟩ => ⟨S8192x8192, .i32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i1⟩
  | .hbm, ⟨23, _⟩ => ⟨S_, .i32⟩
  | .hbm, ⟨24, _⟩ => ⟨S8192x8192, .i32⟩
  | .hbm, ⟨25, _⟩ => ⟨S8192x8192, .i1⟩
  | .hbm, ⟨26, _⟩ => ⟨S8192x8192, .i1⟩
  | .hbm, ⟨27, _⟩ => ⟨S8x2x8192x8192x4, .f32⟩
  | .hbm, ⟨28, _⟩ => ⟨S8x2x4x8192x8192, .f32⟩
  | .hbm, ⟨29, _⟩ => ⟨S2x4x1x1, .f32⟩
  | .hbm, ⟨30, _⟩ => ⟨S8192x8192, .f32⟩
  | .hbm, ⟨31, _⟩ => ⟨S1x1x8192x8192, .f32⟩
  | .hbm, ⟨32, _⟩ => ⟨S2x4x8192x8192, .f32⟩
  | .hbm, ⟨33, _⟩ => ⟨S2x4x8192x8192, .f32⟩
  | .hbm, ⟨34, _⟩ => ⟨S2x4x8192x8192, .f32⟩
  | .hbm, ⟨35, _⟩ => ⟨S1x2x4x8192x8192, .f32⟩
  | .hbm, ⟨36, _⟩ => ⟨S8x2x4x8192x8192, .f32⟩
  | .hbm, ⟨37, _⟩ => ⟨S8x2x4x8192x8192, .f32⟩
  | .hbm, ⟨38, _⟩ => ⟨S_, .f32⟩
  | .hbm, ⟨39, _⟩ => ⟨S_, .f32⟩
  | .hbm, ⟨40, _⟩ => ⟨S8x2x4x8192x8192, .i1⟩
  | .hbm, ⟨41, _⟩ => ⟨S8x2x4x8192x8192, .f32⟩
  | .hbm, ⟨42, _⟩ => ⟨S8x2x4x8192x8192, .f32⟩
  | .hbm, ⟨43, _⟩ => ⟨S_, .f32⟩
  | .hbm, ⟨44, _⟩ => ⟨S8x2x4x8192, .f32⟩
  | .hbm, ⟨45, _⟩ => ⟨S_, .f32⟩
  | .hbm, ⟨46, _⟩ => ⟨S8x2x4x8192, .f32⟩
  | .hbm, ⟨47, _⟩ => ⟨S8x2x4x8192, .f32⟩
  | .hbm, ⟨48, _⟩ => ⟨S8x2x4x8192x1, .f32⟩
  | .hbm, ⟨49, _⟩ => ⟨S8x2x4x8192x8192, .f32⟩
  | .hbm, ⟨50, _⟩ => ⟨S8x2x4x8192x8192, .f32⟩
  | .hbm, ⟨51, _⟩ => ⟨S8x2x4x8192x8192, .f32⟩
  | .hbm, ⟨52, _⟩ => ⟨S_, .f32⟩
  | .hbm, ⟨53, _⟩ => ⟨S8x2x4x8192, .f32⟩
  | .hbm, ⟨54, _⟩ => ⟨S8x2x4x8192x1, .f32⟩
  | .hbm, ⟨55, _⟩ => ⟨S8x2x4x8192x8192, .f32⟩
  | .hbm, ⟨56, _⟩ => ⟨S8x2x4x8192x8192, .f32⟩
  | .hbm, ⟨57, _⟩ => ⟨S8x2x64x4x8192, .f32⟩
  | .hbm, ⟨58, _⟩ => ⟨S8x8192x2x4x64, .f32⟩
  | .hbm, ⟨59, _⟩ => ⟨S8x8192x2x4x3, .f32⟩
  | .hbm, ⟨60, _⟩ => ⟨S8x8192x2x4x3, .f32⟩
  | .hbm, ⟨61, _⟩ => ⟨S8x8192x2x4x3, .f32⟩
  | .hbm, ⟨62, _⟩ => ⟨S_, .f32⟩
  | .hbm, ⟨63, _⟩ => ⟨S8x8192x2x4x3, .f32⟩
  | .hbm, ⟨64, _⟩ => ⟨S8x8192x2x4x3, .f32⟩
  | .hbm, ⟨65, _⟩ => ⟨S_, .f32⟩
  | .hbm, ⟨66, _⟩ => ⟨S8x8192x2x4x3, .f32⟩
  | .hbm, ⟨67, _⟩ => ⟨S8x8192x2x4x3, .f32⟩
  | .hbm, ⟨68, _⟩ => ⟨S8x8192x2x4x1, .f32⟩
  | .hbm, ⟨69, _⟩ => ⟨S8x8192x2x4x64, .f32⟩
  | .hbm, ⟨70, _⟩ => ⟨S8x8192x2x4x64, .f32⟩
  | .hbm, ⟨71, _⟩ => ⟨S8x8192x512, .f32⟩
  | .hbm, ⟨72, _⟩ => ⟨S8x8192x512, .f32⟩
  | .hbm, ⟨73, _⟩ => ⟨S8x512x8192, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Ffn.lean ====
abbrev S8x8192x1024 : Shape := ⟨3, ![8, 8192, 1024]⟩
abbrev S8x6144 : Shape := ⟨2, ![8, 6144]⟩
abbrev S1024x2816 : Shape := ⟨2, ![1024, 2816]⟩
abbrev S2816x1024 : Shape := ⟨2, ![2816, 1024]⟩
abbrev S1024 : Shape := ⟨1, ![1024]⟩
abbrev S8x1024 : Shape := ⟨2, ![8, 1024]⟩
abbrev S8x1x1024 : Shape := ⟨3, ![8, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S8x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x1024, .f32⟩
  | .hbm, ⟨12, _⟩ => ⟨S8x1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S1x1024, .f32⟩
  | .hbm, ⟨18, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S8x8192x1024 : Shape := ⟨3, ![8, 8192, 1024]⟩
abbrev S8x6144 : Shape := ⟨2, ![8, 6144]⟩
abbrev S1024x2816 : Shape := ⟨2, ![1024, 2816]⟩
abbrev S2816x1024 : Shape := ⟨2, ![2816, 1024]⟩
abbrev S1024 : Shape := ⟨1, ![1024]⟩
abbrev S8x1x6144 : Shape := ⟨3, ![8, 1, 6144]⟩
abbrev S8x1x1024 : Shape := ⟨3, ![8, 1, 1024]⟩
abbrev S_ : Shape := ⟨0, ![]⟩
abbrev S8x8192x2816 : Shape := ⟨3, ![8, 8192, 2816]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S_, .f32⟩
  | .hbm, ⟨15, _⟩ => ⟨S8x1x1024, .f32⟩
  | .hbm, ⟨16, _⟩ => ⟨S8x1x1024, .f32⟩
  | .hbm, ⟨17, _⟩ => ⟨S8x8192x1024, .f32⟩
  | .hbm, ⟨18, _⟩ => ⟨S8x8192x1024, .f32⟩
  | .hbm, ⟨19, _⟩ => ⟨S8x8192x1024, .f32⟩
  | .hbm, ⟨20, _⟩ => ⟨S8x8192x1024, .f32⟩
  | .hbm, ⟨21, _⟩ => ⟨S8x8192x2816, .f32⟩
  | .hbm, ⟨22, _⟩ => ⟨S8x8192x2816, .f32⟩
  | .hbm, ⟨23, _⟩ => ⟨S8x8192x2816, .f32⟩
  | .hbm, ⟨24, _⟩ => ⟨S_, .f32⟩
  | .hbm, ⟨25, _⟩ => ⟨S8x8192x2816, .f32⟩
  | .hbm, ⟨26, _⟩ => ⟨S8x8192x2816, .f32⟩
  | .hbm, ⟨27, _⟩ => ⟨S_, .f32⟩
  | .hbm, ⟨28, _⟩ => ⟨S8x8192x2816, .f32⟩
  | .hbm, ⟨29, _⟩ => ⟨S8x8192x2816, .f32⟩
  | .hbm, ⟨30, _⟩ => ⟨S8x8192x2816, .f32⟩
  | .hbm, ⟨31, _⟩ => ⟨S8x8192x2816, .f32⟩
  | .hbm, ⟨32, _⟩ => ⟨S8x8192x2816, .f32⟩
  | .hbm, ⟨33, _⟩ => ⟨S8x8192x1024, .f32⟩
  | .hbm, ⟨34, _⟩ => ⟨S_, .f32⟩
  | .hbm, ⟨35, _⟩ => ⟨S8x8192x1024, .f32⟩
  | .hbm, ⟨36, _⟩ => ⟨S8x8192x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x8192x1024, .f32⟩
  | .hbm, ⟨41, _⟩ => ⟨S8x8192x1024, .f32⟩
  | .hbm, ⟨42, _⟩ => ⟨S8x8192x1024, .f32⟩
  | .hbm, ⟨43, _⟩ => ⟨S_, .f32⟩
  | .hbm, ⟨44, _⟩ => ⟨S8x8192, .f32⟩
  | .hbm, ⟨45, _⟩ => ⟨S8x8192x1, .f32⟩
  | .hbm, ⟨46, _⟩ => ⟨S_, .f32⟩
  | .hbm, ⟨47, _⟩ => ⟨S8x8192x1, .f32⟩
  | .hbm, ⟨48, _⟩ => ⟨S8x8192x1, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S_, .f32⟩
  | .hbm, ⟨56, _⟩ => ⟨S8x8192x1, .f32⟩
  | .hbm, ⟨57, _⟩ => ⟨S8x8192x1, .f32⟩
  | .hbm, ⟨58, _⟩ => ⟨S8x8192x1024, .f32⟩
  | .hbm, ⟨59, _⟩ => ⟨S8x8192x1024, .f32⟩
  | .hbm, ⟨60, _⟩ => ⟨S_, .f32⟩
  | .hbm, ⟨61, _⟩ => ⟨S8x8192x1, .f32⟩
  | .hbm, ⟨62, _⟩ => ⟨S8x8192x1, .f32⟩
  | .hbm, ⟨63, _⟩ => ⟨S8x8192x1, .f32⟩
  | .hbm, ⟨64, _⟩ => ⟨S8x8192x1024, .f32⟩
  | .hbm, ⟨65, _⟩ => ⟨S8x8192x1024, .f32⟩
  | .hbm, ⟨66, _⟩ => ⟨S1x1x1024, .f32⟩
  | .hbm, ⟨67, _⟩ => ⟨S8x8192x1024, .f32⟩
  | .hbm, ⟨68, _⟩ => ⟨S8x8192x1024, .f32⟩
  | .hbm, ⟨69, _⟩ => ⟨S1x1x1024, .f32⟩
  | .hbm, ⟨70, _⟩ => ⟨S8x8192x1024, .f32⟩
  | .hbm, ⟨71, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]
-- ==== Out.lean ====
abbrev S8x8192x512 : Shape := ⟨3, ![8, 8192, 512]⟩
abbrev S8x8192x1024 : Shape := ⟨3, ![8, 8192, 1024]⟩
abbrev S8x6144 : Shape := ⟨2, ![8, 6144]⟩
abbrev S1024 : Shape := ⟨1, ![1024]⟩
abbrev S1024x1024 : Shape := ⟨2, ![1024, 1024]⟩
abbrev S8x1024 : Shape := ⟨2, ![8, 1024]⟩
abbrev S8x1x1024 : Shape := ⟨3, ![8, 1, 1024]⟩
abbrev S8x512x8192 : Shape := ⟨3, ![8, 512, 8192]⟩
abbrev S16x64x1 : Shape := ⟨3, ![16, 64, 1]⟩
abbrev S1x1024 : Shape := ⟨2, ![1, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S512x1024 : Shape := ⟨2, ![512, 1024]⟩
abbrev S8x64x1 : Shape := ⟨3, ![8, 64, 1]⟩
abbrev S8x64x1024 : Shape := ⟨3, ![8, 64, 1024]⟩
abbrev S1024x1 : Shape := ⟨2, ![1024, 1]⟩

abbrev nBuf : Space → Nat
  | .hbm => 18
  | .vmem => 14
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x1024, .f32⟩
  | .hbm, ⟨3, _⟩ => ⟨S8x6144, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S8x1024, .f32⟩
  | .hbm, ⟨9, _⟩ => ⟨S8x1x1024, .f32⟩
  | .hbm, ⟨10, _⟩ => ⟨S8x512x8192, .f32⟩
  | .hbm, ⟨11, _⟩ => ⟨S8x512x8192, .f32⟩
  | .hbm, ⟨12, _⟩ => ⟨S8x512x8192, .bf16⟩
  | .hbm, ⟨13, _⟩ => ⟨S16x64x1, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S16x64x1, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S16x64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutRefIdeal.lean ====
abbrev S8x8192x512 : Shape := ⟨3, ![8, 8192, 512]⟩
abbrev S8x8192x1024 : Shape := ⟨3, ![8, 8192, 1024]⟩
abbrev S8x6144 : Shape := ⟨2, ![8, 6144]⟩
abbrev S1024 : Shape := ⟨1, ![1024]⟩
abbrev S1024x1024 : Shape := ⟨2, ![1024, 1024]⟩
abbrev S8x1x6144 : Shape := ⟨3, ![8, 1, 6144]⟩
abbrev S8x1x1024 : Shape := ⟨3, ![8, 1, 1024]⟩
abbrev S8x8192x16x64 : Shape := ⟨4, ![8, 8192, 16, 64]⟩
abbrev S16x64 : Shape := ⟨2, ![16, 64]⟩
abbrev S_ : Shape := ⟨0, ![]⟩
abbrev S8x8192x16 : Shape := ⟨3, ![8, 8192, 16]⟩
abbrev S8x8192x16x1 : Shape := ⟨4, ![8, 8192, 16, 1]⟩
abbrev S1x1x16x64 : Shape := ⟨4, ![1, 1, 16, 64]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x1024, .f32⟩
  | .hbm, ⟨3, _⟩ => ⟨S8x6144, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S8x1x6144, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x8192x1024, .f32⟩
  | .hbm, ⟨16, _⟩ => ⟨S8x8192x16x64, .f32⟩
  | .hbm, ⟨17, _⟩ => ⟨S16x64, .f32⟩
  | .hbm, ⟨18, _⟩ => ⟨S8x8192x16x64, .f32⟩
  | .hbm, ⟨19, _⟩ => ⟨S_, .f32⟩
  | .hbm, ⟨20, _⟩ => ⟨S8x8192x16, .f32⟩
  | .hbm, ⟨21, _⟩ => ⟨S8x8192x16x1, .f32⟩
  | .hbm, ⟨22, _⟩ => ⟨S_, .f32⟩
  | .hbm, ⟨23, _⟩ => ⟨S8x8192x16x1, .f32⟩
  | .hbm, ⟨24, _⟩ => ⟨S8x8192x16x1, .f32⟩
  | .hbm, ⟨25, _⟩ => ⟨S_, .f32⟩
  | .hbm, ⟨26, _⟩ => ⟨S8x8192x16x1, .f32⟩
  | .hbm, ⟨27, _⟩ => ⟨S8x8192x16x1, .f32⟩
  | .hbm, ⟨28, _⟩ => ⟨S8x8192x16x1, .f32⟩
  | .hbm, ⟨29, _⟩ => ⟨S8x8192x16x64, .f32⟩
  | .hbm, ⟨30, _⟩ => ⟨S8x8192x16x64, .f32⟩
  | .hbm, ⟨31, _⟩ => ⟨S1x1x16x64, .f32⟩
  | .hbm, ⟨32, _⟩ => ⟨S8x8192x16x64, .f32⟩
  | .hbm, ⟨33, _⟩ => ⟨S8x8192x16x64, .f32⟩
  | .hbm, ⟨34, _⟩ => ⟨S8x8192x1024, .f32⟩
  | .hbm, ⟨35, _⟩ => ⟨S8x8192x1024, .f32⟩
  | .hbm, ⟨36, _⟩ => ⟨S_, .f32⟩
  | .hbm, ⟨37, _⟩ => ⟨S8x8192x1024, .f32⟩
  | .hbm, ⟨38, _⟩ => ⟨S8x8192x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S_, .f32⟩
  | .hbm, ⟨49, _⟩ => ⟨S8x8192x1, .f32⟩
  | .hbm, ⟨50, _⟩ => ⟨S8x8192x1, .f32⟩
  | .hbm, ⟨51, _⟩ => ⟨S8x8192x1024, .f32⟩
  | .hbm, ⟨52, _⟩ => ⟨S8x8192x1024, .f32⟩
  | .hbm, ⟨53, _⟩ => ⟨S8x8192x1024, .f32⟩
  | .hbm, ⟨54, _⟩ => ⟨S_, .f32⟩
  | .hbm, ⟨55, _⟩ => ⟨S8x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x8192x1024, .f32⟩
  | .hbm, ⟨61, _⟩ => ⟨S8x8192x1024, .f32⟩
  | .hbm, ⟨62, _⟩ => ⟨S_, .f32⟩
  | .hbm, ⟨63, _⟩ => ⟨S8x8192x1, .f32⟩
  | .hbm, ⟨64, _⟩ => ⟨S8x8192x1, .f32⟩
  | .hbm, ⟨65, _⟩ => ⟨S8x8192x1, .f32⟩
  | .hbm, ⟨66, _⟩ => ⟨S8x8192x1024, .f32⟩
  | .hbm, ⟨67, _⟩ => ⟨S8x8192x1024, .f32⟩
  | .hbm, ⟨68, _⟩ => ⟨S1x1x1024, .f32⟩
  | .hbm, ⟨69, _⟩ => ⟨S8x8192x1024, .f32⟩
  | .hbm, ⟨70, _⟩ => ⟨S8x8192x1024, .f32⟩
  | .hbm, ⟨71, _⟩ => ⟨S1x1x1024, .f32⟩
  | .hbm, ⟨72, _⟩ => ⟨S8x8192x1024, .f32⟩
  | .hbm, ⟨73, _⟩ => ⟨S8x8192x1024, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== InP.lean ====
abbrev S8x8192x1024 : Shape := ⟨3, ![8, 8192, 1024]⟩
abbrev S8x6144 : Shape := ⟨2, ![8, 6144]⟩
abbrev S1024x2328 : Shape := ⟨2, ![1024, 2328]⟩
abbrev S512 : Shape := ⟨1, ![512]⟩
abbrev S8x128x128 : Shape := ⟨3, ![8, 128, 128]⟩
abbrev S8x128 : Shape := ⟨2, ![8, 128]⟩
abbrev S8x1024 : Shape := ⟨2, ![8, 1024]⟩
abbrev S8x1x1024 : Shape := ⟨3, ![8, 1, 1024]⟩
abbrev S1024x512 : Shape := ⟨2, ![1024, 512]⟩
abbrev S1024x128 : Shape := ⟨2, ![1024, 128]⟩
abbrev S1024x24 : Shape := ⟨2, ![1024, 24]⟩
abbrev S1024x2x4x3 : Shape := ⟨4, ![1024, 2, 4, 3]⟩
abbrev S2x3x4x1024 : Shape := ⟨4, ![2, 3, 4, 1024]⟩
abbrev S2x12x1024 : Shape := ⟨3, ![2, 12, 1024]⟩
abbrev S_ : Shape := ⟨0, ![]⟩
abbrev S2x16x1024 : Shape := ⟨3, ![2, 16, 1024]⟩
abbrev S32x1024 : Shape := ⟨2, ![32, 1024]⟩
abbrev S512x1024 : Shape := ⟨2, ![512, 1024]⟩
abbrev S128x1024 : Shape := ⟨2, ![128, 1024]⟩
abbrev S1824x1024 : Shape := ⟨2, ![1824, 1024]⟩
abbrev S8x64x1 : Shape := ⟨3, ![8, 64, 1]⟩
abbrev S8x8192x384 : Shape := ⟨3, ![8, 8192, 384]⟩
abbrev S2x8x8192x128 : Shape := ⟨4, ![2, 8, 8192, 128]⟩
abbrev S8x512x8192 : Shape := ⟨3, ![8, 512, 8192]⟩
abbrev S8x256x8192 : Shape := ⟨3, ![8, 256, 8192]⟩
abbrev S8x2x16x8192 : Shape := ⟨4, ![8, 2, 16, 8192]⟩
abbrev S1x1024x1024 : Shape := ⟨3, ![1, 1024, 1024]⟩
abbrev S1x1x1024 : Shape := ⟨3, ![1, 1, 1024]⟩
abbrev S1x1024x384 : Shape := ⟨3, ![1, 1024, 384]⟩
abbrev S2x1x1024x128 : Shape := ⟨4, ![2, 1, 1024, 128]⟩
abbrev S1x512x1024 : Shape := ⟨3, ![1, 512, 1024]⟩
abbrev S1x256x1024 : Shape := ⟨3, ![1, 256, 1024]⟩
abbrev S1x2x16x1024 : Shape := ⟨4, ![1, 2, 16, 1024]⟩
abbrev S1024x1024 : Shape := ⟨2, ![1024, 1024]⟩
abbrev S1x1024 : Shape := ⟨2, ![1, 1024]⟩
abbrev S800x1024 : Shape := ⟨2, ![800, 1024]⟩
abbrev S256x1024 : Shape := ⟨2, ![256, 1024]⟩
abbrev S1024x64 : Shape := ⟨2, ![1024, 64]⟩
abbrev S1x1024x64 : Shape := ⟨3, ![1, 1024, 64]⟩
abbrev S1x1024x128 : Shape := ⟨3, ![1, 1024, 128]⟩
abbrev S1x1x1024x128 : Shape := ⟨4, ![1, 1, 1024, 128]⟩
abbrev S8x64x1024 : Shape := ⟨3, ![8, 64, 1024]⟩
abbrev S128x128 : Shape := ⟨2, ![128, 128]⟩
abbrev S1x64x1024 : Shape := ⟨3, ![1, 64, 1024]⟩
abbrev S64x1024 : Shape := ⟨2, ![64, 1024]⟩
abbrev S64x128 : Shape := ⟨2, ![64, 128]⟩
abbrev S512x128 : Shape := ⟨2, ![512, 128]⟩
abbrev S1x128x128 : Shape := ⟨3, ![1, 128, 128]⟩
abbrev S1x128 : Shape := ⟨2, ![1, 128]⟩
abbrev S1x64x128 : Shape := ⟨3, ![1, 64, 128]⟩

abbrev nBuf : Space → Nat
  | .hbm => 46
  | .vmem => 24
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S1024x2328, .f32⟩
  | .hbm, ⟨3, _⟩ => ⟨S512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S8x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S1024x512, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x24, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x512, .bf16⟩
  | .hbm, ⟨23, _⟩ => ⟨S1024x2x4x3, .f32⟩
  | .hbm, ⟨24, _⟩ => ⟨S2x3x4x1024, .f32⟩
  | .hbm, ⟨25, _⟩ => ⟨S2x12x1024, .f32⟩
  | .hbm, ⟨26, _⟩ => ⟨S_, .i32⟩
  | .hbm, ⟨27, _⟩ => ⟨S_, .f32⟩
  | .hbm, ⟨28, _⟩ => ⟨S2x16x1024, .f32⟩
  | .hbm, ⟨29, _⟩ => ⟨S32x1024, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S128x1024, .f32⟩
  | .hbm, ⟨34, _⟩ => ⟨S128x1024, .f32⟩
  | .hbm, ⟨35, _⟩ => ⟨S1824x1024, .f32⟩
  | .hbm, ⟨36, _⟩ => ⟨S1824x1024, .bf16⟩
  | .hbm, ⟨37, _⟩ => ⟨S8x64x1, .f32⟩
  | .hbm, ⟨38, _⟩ => ⟨S8x64x1, .f32⟩
  | .hbm, ⟨39, _⟩ => ⟨S8x128x128, .f32⟩
  | .hbm, ⟨40, _⟩ => ⟨S8x8192x384, .bf16⟩
  | .hbm, ⟨41, _⟩ => ⟨S2x8x8192x128, .bf16⟩
  | .hbm, ⟨42, _⟩ => ⟨S8x512x8192, .bf16⟩
  | .hbm, ⟨43, _⟩ => ⟨S8x256x8192, .bf16⟩
  | .hbm, ⟨44, _⟩ => ⟨S8x2x16x8192, .f32⟩
  | .hbm, ⟨45, _⟩ => ⟨S8x512x8192, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x512, .bf16⟩
  | .local _ .vmem, ⟨7, _⟩ => ⟨S1824x1024, .bf16⟩
  | .local _ .vmem, ⟨8, _⟩ => ⟨S8x64x1, .f32⟩
  | .local _ .vmem, ⟨9, _⟩ => ⟨S8x64x1, .f32⟩
  | .local _ .vmem, ⟨10, _⟩ => ⟨S8x128x128, .f32⟩
  | .local _ .vmem, ⟨11, _⟩ => ⟨S8x128, .f32⟩
  | .local _ .vmem, ⟨12, _⟩ => ⟨S1x1024x384, .bf16⟩
  | .local _ .vmem, ⟨13, _⟩ => ⟨S1x1024x384, .bf16⟩
  | .local _ .vmem, ⟨14, _⟩ => ⟨S2x1x1024x128, .bf16⟩
  | .local _ .vmem, ⟨15, _⟩ => ⟨S2x1x1024x128, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x2x16x1024, .f32⟩
  | .local _ .vmem, ⟨21, _⟩ => ⟨S1x2x16x1024, .f32⟩
  | .local _ .vmem, ⟨22, _⟩ => ⟨S1x512x1024, .bf16⟩
  | .local _ .vmem, ⟨23, _⟩ => ⟨S1x512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev main_v31_3 : Ref sig .tc := ⟨.hbm, 43, rfl⟩
abbrev main_v31_4 : Ref sig .tc := ⟨.hbm, 44, rfl⟩
abbrev main_v31_5 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1824x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InPRefIdeal.lean ====
abbrev S8x8192x1024 : Shape := ⟨3, ![8, 8192, 1024]⟩
abbrev S8x6144 : Shape := ⟨2, ![8, 6144]⟩
abbrev S1024x2328 : Shape := ⟨2, ![1024, 2328]⟩
abbrev S512 : Shape := ⟨1, ![512]⟩
abbrev S8x128x128 : Shape := ⟨3, ![8, 128, 128]⟩
abbrev S8x128 : Shape := ⟨2, ![8, 128]⟩
abbrev S8x1x6144 : Shape := ⟨3, ![8, 1, 6144]⟩
abbrev S8x1x1024 : Shape := ⟨3, ![8, 1, 1024]⟩
abbrev S_ : Shape := ⟨0, ![]⟩
abbrev S8x8192x2328 : Shape := ⟨3, ![8, 8192, 2328]⟩
abbrev S8x8192x512 : Shape := ⟨3, ![8, 8192, 512]⟩
abbrev S8x8192x128 : Shape := ⟨3, ![8, 8192, 128]⟩
abbrev S8x8192x24 : Shape := ⟨3, ![8, 8192, 24]⟩
abbrev S8x8192x8x64 : Shape := ⟨4, ![8, 8192, 8, 64]⟩
abbrev S8x64 : Shape := ⟨2, ![8, 64]⟩
abbrev S8x8192x8 : Shape := ⟨3, ![8, 8192, 8]⟩
abbrev S8x8192x8x1 : Shape := ⟨4, ![8, 8192, 8, 1]⟩
abbrev S1x1x8x64 : Shape := ⟨4, ![1, 1, 8, 64]⟩
abbrev S8x64x128x8x64 : Shape := ⟨5, ![8, 64, 128, 8, 64]⟩
abbrev S128x128 : Shape := ⟨2, ![128, 128]⟩
abbrev S1x128x128 : Shape := ⟨3, ![1, 128, 128]⟩
abbrev S8x8x64x64x128 : Shape := ⟨5, ![8, 8, 64, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S8x8192x2x64 : Shape := ⟨4, ![8, 8192, 2, 64]⟩
abbrev S8x8192x2x128 : Shape := ⟨4, ![8, 8192, 2, 128]⟩
abbrev S8x8192x256 : Shape := ⟨3, ![8, 8192, 256]⟩
abbrev S8x8192x384 : Shape := ⟨3, ![8, 8192, 384]⟩
abbrev S8x8192x2x4x3 : Shape := ⟨5, ![8, 8192, 2, 4, 3]⟩
abbrev S8x2x3x4x8192 : Shape := ⟨5, ![8, 2, 3, 4, 8192]⟩
abbrev S8x2x12x8192 : Shape := ⟨4, ![8, 2, 12, 8192]⟩
abbrev S8x2x16x8192 : Shape := ⟨4, ![8, 2, 16, 8192]⟩
abbrev S8x256x8192 : Shape := ⟨3, ![8, 256, 8192]⟩
abbrev S1x8x8192x128 : Shape := ⟨4, ![1, 8, 8192, 128]⟩
abbrev S2x8x8192x128 : Shape := ⟨4, ![2, 8, 8192, 128]⟩
abbrev S8x512x8192 : Shape := ⟨3, ![8, 512, 8192]⟩

abbrev nBuf : Space → Nat
  | .hbm => 149
  | .vmem => 0
  | .smem => 0
  | _ => 0

abbrev hbmTy0_0 (i : Nat) : BufTy := match i % 128 with
  | 0 => ⟨S8x8192x1024, .f32⟩
  | 1 => ⟨S8x6144, .f32⟩
  | 2 => ⟨S1024x2328, .f32⟩
  | 3 => ⟨S512, .f32⟩
  | 4 => ⟨S512, .f32⟩
  | 5 => ⟨S8x128x128, .f32⟩
  | 6 => ⟨S8x128, .f32⟩
  | 7 => ⟨S8x1x6144, .f32⟩
  | 8 => ⟨S8x1x1024, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S_, .f32⟩
  | 15 => ⟨S8x1x1024, .f32⟩
  | 16 => ⟨S8x1x1024, .f32⟩
  | 17 => ⟨S8x8192x1024, .f32⟩
  | 18 => ⟨S8x8192x1024, .f32⟩
  | 19 => ⟨S8x8192x1024, .f32⟩
  | 20 => ⟨S8x8192x1024, .f32⟩
  | 21 => ⟨S8x8192x2328, .f32⟩
  | 22 => ⟨S8x8192x512, .f32⟩
  | 23 => ⟨S8x8192x128, .f32⟩
  | 24 => ⟨S8x8192x128, .f32⟩
  | 25 => ⟨S8x8192x128, .f32⟩
  | 26 => ⟨S8x8192x128, .f32⟩
  | 27 => ⟨S8x8192x128, .f32⟩
  | 28 => ⟨S8x8192x128, .f32⟩
  | 29 => ⟨S8x8192x24, .f32⟩
  | 30 => ⟨S8x8192x512, .f32⟩
  | 31 => ⟨S8x8192x512, .f32⟩
  | 32 => ⟨S8x8192x512, .f32⟩
  | 33 => ⟨S8x8192x512, .f32⟩
  | 34 => ⟨S_, .f32⟩
  | 35 => ⟨S8x8192x512, .f32⟩
  | 36 => ⟨S8x8192x512, .f32⟩
  | 37 => ⟨S8x8192x512, .f32⟩
  | 38 => ⟨S_, .f32⟩
  | 39 => ⟨S8x8192x512, .f32⟩
  | 40 => ⟨S8x8192x512, .f32⟩
  | 41 => ⟨S8x8192x512, .f32⟩
  | 42 => ⟨S_, .f32⟩
  | 43 => ⟨S8x8192x512, .f32⟩
  | 44 => ⟨S8x8192x512, .f32⟩
  | 45 => ⟨S_, .f32⟩
  | 46 => ⟨S8x8192x512, .f32⟩
  | 47 => ⟨S8x8192x512, .f32⟩
  | 48 => ⟨S8x8192x512, .f32⟩
  | 49 => ⟨S8x8192x512, .f32⟩
  | 50 => ⟨S8x8192x512, .f32⟩
  | 51 => ⟨S_, .f32⟩
  | 52 => ⟨S8x8192x512, .f32⟩
  | 53 => ⟨S8x8192x512, .f32⟩
  | 54 => ⟨S8x8192x512, .f32⟩
  | 55 => ⟨S_, .f32⟩
  | 56 => ⟨S8x8192x512, .f32⟩
  | 57 => ⟨S8x8192x512, .f32⟩
  | 58 => ⟨S8x8192x512, .f32⟩
  | 59 => ⟨S_, .f32⟩
  | 60 => ⟨S8x8192x512, .f32⟩
  | 61 => ⟨S8x8192x512, .f32⟩
  | 62 => ⟨S_, .f32⟩
  | 63 => ⟨S8x8192x512, .f32⟩
  | 64 => ⟨S8x8192x512, .f32⟩
  | 65 => ⟨S8x8192x512, .f32⟩
  | 66 => ⟨S8x8192x8x64, .f32⟩
  | 67 => ⟨S8x64, .f32⟩
  | 68 => ⟨S8x64, .f32⟩
  | 69 => ⟨S_, .f32⟩
  | 70 => ⟨S8x8192x8, .f32⟩
  | 71 => ⟨S8x8192x8x1, .f32⟩
  | 72 => ⟨S_, .f32⟩
  | 73 => ⟨S8x8192x8x1, .f32⟩
  | 74 => ⟨S8x8192x8x1, .f32⟩
  | 75 => ⟨S8x8192x8x64, .f32⟩
  | 76 => ⟨S8x8192x8x64, .f32⟩
  | 77 => ⟨S8x8192x8x64, .f32⟩
  | 78 => ⟨S_, .f32⟩
  | 79 => ⟨S8x8192x8, .f32⟩
  | 80 => ⟨S8x8192x8x1, .f32⟩
  | 81 => ⟨S_, .f32⟩
  | 82 => ⟨S8x8192x8x1, .f32⟩
  | 83 => ⟨S8x8192x8x1, .f32⟩
  | 84 => ⟨S8x8192x8x64, .f32⟩
  | 85 => ⟨S8x8192x8x64, .f32⟩
  | 86 => ⟨S_, .f32⟩
  | 87 => ⟨S8x8192x8x1, .f32⟩
  | 88 => ⟨S8x8192x8x1, .f32⟩
  | 89 => ⟨S8x8192x8x1, .f32⟩
  | 90 => ⟨S8x8192x8x64, .f32⟩
  | 91 => ⟨S8x8192x8x64, .f32⟩
  | 92 => ⟨S1x1x8x64, .f32⟩
  | 93 => ⟨S8x8192x8x64, .f32⟩
  | 94 => ⟨S8x8192x8x64, .f32⟩
  | 95 => ⟨S1x1x8x64, .f32⟩
  | 96 => ⟨S8x8192x8x64, .f32⟩
  | 97 => ⟨S8x8192x8x64, .f32⟩
  | 98 => ⟨S8x64x128x8x64, .f32⟩
  | 99 => ⟨S_, .i1⟩
  | 100 => ⟨S128x128, .i1⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .i1⟩
  | 108 => ⟨S128x128, .i1⟩
  | 109 => ⟨S128x128, .i1⟩
  | 110 => ⟨S1x128x128, .i1⟩
  | 111 => ⟨S_, .i32⟩
  | 112 => ⟨S_, .f32⟩
  | 113 => ⟨S8x128x128, .i1⟩
  | 114 => ⟨S8x128x128, .f32⟩
  | 115 => ⟨S8x128x128, .f32⟩
  | 116 => ⟨S8x8x64x64x128, .f32⟩
  | 117 => ⟨S8x64x128x8x64, .f32⟩
  | 118 => ⟨S128x8, .f32⟩
  | 119 => ⟨S128x8x1, .f32⟩
  | 120 => ⟨S1x1x128x8x1, .f32⟩
  | 121 => ⟨S8x64x128x8x64, .f32⟩
  | 122 => ⟨S8x64x128x8x64, .f32⟩
  | 123 => ⟨S8x8192x512, .f32⟩
  | 124 => ⟨S8x8192x512, .f32⟩
  | 125 => ⟨S8x8192x2x64, .f32⟩
  | 126 => ⟨S_, .i32⟩
  | 127 => ⟨S_, .f32⟩
  | _ => ⟨S8x8192x1024, .f32⟩

abbrev hbmTy0_1 (i : Nat) : BufTy := match i % 128 with
  | 0 => ⟨S8x8192x2x128, .f32⟩
  | 1 => ⟨S8x8192x256, .f32⟩
  | 2 => ⟨S8x8192x384, .f32⟩
  | 3 => ⟨S8x8192x2x4x3, .f32⟩
  | 4 => ⟨S8x2x3x4x8192, .f32⟩
  | 5 => ⟨S8x2x12x8192, .f32⟩
  | 6 => ⟨S_, .i32⟩
  | 7 => ⟨S_, .f32⟩
  | 8 => ⟨S8x2x16x8192, .f32⟩
  | 9 => ⟨S8x8192x256, .f32⟩
  | 10 => ⟨S8x256x8192, .f32⟩
  | 11 => ⟨S8x8192x384, .bf16⟩
  | 12 => ⟨S1x8x8192x128, .f32⟩
  | 13 => ⟨S1x8x8192x128, .f32⟩
  | 14 => ⟨S2x8x8192x128, .f32⟩
  | 15 => ⟨S2x8x8192x128, .bf16⟩
  | 16 => ⟨S8x512x8192, .f32⟩
  | 17 => ⟨S8x512x8192, .bf16⟩
  | 18 => ⟨S8x256x8192, .bf16⟩
  | 19 => ⟨S8x512x8192, .f32⟩
  | 20 => ⟨S8x512x8192, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c : Ref sig .tc := ⟨.hbm, 99, rfl⟩
abbrev main_v78 : Ref sig .tc := ⟨.hbm, 100, rfl⟩
abbrev main_call0_v0 : Ref sig .tc := ⟨.hbm, 101, rfl⟩
abbrev main_call0_c : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_c_0 : Ref sig .tc := ⟨.hbm, 107, rfl⟩
abbrev main_call0_v5 : Ref sig .tc := ⟨.hbm, 108, rfl⟩
abbrev main_v79 : Ref sig .tc := ⟨.hbm, 109, rfl⟩
abbrev main_v80 : Ref sig .tc := ⟨.hbm, 110, rfl⟩
abbrev main_c_13 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_14 : Ref sig .tc := ⟨.hbm, 126, rfl⟩
abbrev main_call2_v0 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_15 : Ref sig .tc := ⟨.hbm, 134, rfl⟩
abbrev main_call3_v0 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩

abbrev nD : Nat := 1
abbrev τ : Topo := Topo.v7x

variable {F : FTy → Type} [FloatOps F]
-- ==== Ada.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Cmp.lean ====
abbrev S8x8192x128 : Shape := ⟨3, ![8, 8192, 128]⟩
abbrev S2x32x64 : Shape := ⟨3, ![2, 32, 64]⟩
abbrev S2x2048x256 : Shape := ⟨3, ![2, 2048, 256]⟩
abbrev S2x256x64 : Shape := ⟨3, ![2, 256, 64]⟩
abbrev S1x8x8192x128 : Shape := ⟨4, ![1, 8, 8192, 128]⟩
abbrev S2x8x8192x128 : Shape := ⟨4, ![2, 8, 8192, 128]⟩
abbrev S2x8x512x2048 : Shape := ⟨4, ![2, 8, 512, 2048]⟩
abbrev S2x1x2048 : Shape := ⟨3, ![2, 1, 2048]⟩
abbrev S2x8x2048 : Shape := ⟨3, ![2, 8, 2048]⟩
abbrev S2x2x16x64x256 : Shape := ⟨5, ![2, 2, 16, 64, 256]⟩
abbrev S2x2 : Shape := ⟨2, ![2, 2]⟩
abbrev S_ : Shape := ⟨0, ![]⟩
abbrev S2x16x64x2x256 : Shape := ⟨5, ![2, 16, 64, 2, 256]⟩
abbrev S2x16x1x64x1x2x256 : Shape := ⟨7, ![2, 16, 1, 64, 1, 2, 256]⟩
abbrev S2x1x2x1x1 : Shape := ⟨5, ![2, 1, 2, 1, 1]⟩
abbrev S1x1x2x1x2x1x1 : Shape := ⟨7, ![1, 1, 2, 1, 2, 1, 1]⟩
abbrev S2x16x2x64x2x2x256 : Shape := ⟨7, ![2, 16, 2, 64, 2, 2, 256]⟩
abbrev S2x2048x1024 : Shape := ⟨3, ![2, 2048, 1024]⟩
abbrev S2x8x2x512x128 : Shape := ⟨5, ![2, 8, 2, 512, 128]⟩
abbrev S2x8x2x64x512 : Shape := ⟨5, ![2, 8, 2, 64, 512]⟩
abbrev S1x1x512x2048 : Shape := ⟨4, ![1, 1, 512, 2048]⟩
abbrev S1x2048x1024 : Shape := ⟨3, ![1, 2048, 1024]⟩
abbrev S1x2048x256 : Shape := ⟨3, ![1, 2048, 256]⟩
abbrev S1x8x2048 : Shape := ⟨3, ![1, 8, 2048]⟩
abbrev S1x256x64 : Shape := ⟨3, ![1, 256, 64]⟩
abbrev S1x1x2x512x128 : Shape := ⟨5, ![1, 1, 2, 512, 128]⟩
abbrev S1x1x2x64x512 : Shape := ⟨5, ![1, 1, 2, 64, 512]⟩
abbrev S512x2048 : Shape := ⟨2, ![512, 2048]⟩
abbrev S2048x1024 : Shape := ⟨2, ![2048, 1024]⟩
abbrev S512x1024 : Shape := ⟨2, ![512, 1024]⟩
abbrev S8x2048 : Shape := ⟨2, ![8, 2048]⟩
abbrev S2048x256 : Shape := ⟨2, ![2048, 256]⟩
abbrev S8x256 : Shape := ⟨2, ![8, 256]⟩
abbrev S1x256 : Shape := ⟨2, ![1, 256]⟩
abbrev S512x256 : Shape := ⟨2, ![512, 256]⟩
abbrev S256x64 : Shape := ⟨2, ![256, 64]⟩
abbrev S512x64 : Shape := ⟨2, ![512, 64]⟩
abbrev S1x1x1x512x64 : Shape := ⟨5, ![1, 1, 1, 512, 64]⟩
abbrev S64x512 : Shape := ⟨2, ![64, 512]⟩
abbrev S1x1x1x64x512 : Shape := ⟨5, ![1, 1, 1, 64, 512]⟩

abbrev nBuf : Space → Nat
  | .hbm => 33
  | .vmem => 14
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S2x32x64, .f32⟩
  | .hbm, ⟨3, _⟩ => ⟨S2x2048x256, .f32⟩
  | .hbm, ⟨4, _⟩ => ⟨S2x256x64, .f32⟩
  | .hbm, ⟨5, _⟩ => ⟨S1x8x8192x128, .f32⟩
  | .hbm, ⟨6, _⟩ => ⟨S1x8x8192x128, .f32⟩
  | .hbm, ⟨7, _⟩ => ⟨S2x8x8192x128, .f32⟩
  | .hbm, ⟨8, _⟩ => ⟨S2x8x8192x128, .bf16⟩
  | .hbm, ⟨9, _⟩ => ⟨S2x8x512x2048, .bf16⟩
  | .hbm, ⟨10, _⟩ => ⟨S2x1x2048, .f32⟩
  | .hbm, ⟨11, _⟩ => ⟨S2x8x2048, .f32⟩
  | .hbm, ⟨12, _⟩ => ⟨S2x2x16x64x256, .f32⟩
  | .hbm, ⟨13, _⟩ => ⟨S2x2, .i32⟩
  | .hbm, ⟨14, _⟩ => ⟨S2x2, .i32⟩
  | .hbm, ⟨15, _⟩ => ⟨S_, .i32⟩
  | .hbm, ⟨16, _⟩ => ⟨S2x2, .i32⟩
  | .hbm, ⟨17, _⟩ => ⟨S2x2, .i32⟩
  | .hbm, ⟨18, _⟩ => ⟨S2x2, .i1⟩
  | .hbm, ⟨19, _⟩ => ⟨S2x2, .f32⟩
  | .hbm, ⟨20, _⟩ => ⟨S2x16x64x2x256, .f32⟩
  | .hbm, ⟨21, _⟩ => ⟨S2x16x1x64x1x2x256, .f32⟩
  | .hbm, ⟨22, _⟩ => ⟨S2x1x2x1x1, .f32⟩
  | .hbm, ⟨23, _⟩ => ⟨S1x1x2x1x2x1x1, .f32⟩
  | .hbm, ⟨24, _⟩ => ⟨S2x16x2x64x2x2x256, .f32⟩
  | .hbm, ⟨25, _⟩ => ⟨S2x16x2x64x2x2x256, .f32⟩
  | .hbm, ⟨26, _⟩ => ⟨S2x16x2x64x2x2x256, .f32⟩
  | .hbm, ⟨27, _⟩ => ⟨S2x2048x1024, .f32⟩
  | .hbm, ⟨28, _⟩ => ⟨S2x2048x1024, .bf16⟩
  | .hbm, ⟨29, _⟩ => ⟨S2x2048x256, .bf16⟩
  | .hbm, ⟨30, _⟩ => ⟨S2x256x64, .bf16⟩
  | .hbm, ⟨31, _⟩ => ⟨S2x8x2x512x128, .bf16⟩
  | .hbm, ⟨32, _⟩ => ⟨S2x8x2x64x512, .bf16⟩
  | .local _ .vmem, ⟨0, _⟩ => ⟨S1x1x512x2048, .bf16⟩
  | .local _ .vmem, ⟨1, _⟩ => ⟨S1x1x512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x8x2048, .f32⟩
  | .local _ .vmem, ⟨7, _⟩ => ⟨S1x8x2048, .f32⟩
  | .local _ .vmem, ⟨8, _⟩ => ⟨S1x256x64, .bf16⟩
  | .local _ .vmem, ⟨9, _⟩ => ⟨S1x256x64, .bf16⟩
  | .local _ .vmem, ⟨10, _⟩ => ⟨S1x1x2x512x128, .bf16⟩
  | .local _ .vmem, ⟨11, _⟩ => ⟨S1x1x2x512x128, .bf16⟩
  | .local _ .vmem, ⟨12, _⟩ => ⟨S1x1x2x64x512, .bf16⟩
  | .local _ .vmem, ⟨13, _⟩ => ⟨S1x1x2x64x512, .bf16⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CmpRefIdeal.lean ====
abbrev S8x8192x128 : Shape := ⟨3, ![8, 8192, 128]⟩
abbrev S2x32x64 : Shape := ⟨3, ![2, 32, 64]⟩
abbrev S2x2048x256 : Shape := ⟨3, ![2, 2048, 256]⟩
abbrev S2x256x64 : Shape := ⟨3, ![2, 256, 64]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256x64 : Shape := ⟨3, ![1, 256, 64]⟩
abbrev S256x64 : Shape := ⟨2, ![256, 64]⟩
abbrev S8x512x16x2x64 : Shape := ⟨5, ![8, 512, 16, 2, 64]⟩
abbrev S8x511x16x2x64 : Shape := ⟨5, ![8, 511, 16, 2, 64]⟩
abbrev S8x1x16x2x64 : Shape := ⟨5, ![8, 1, 16, 2, 64]⟩
abbrev S8x512x32x2x64 : Shape := ⟨5, ![8, 512, 32, 2, 64]⟩
abbrev S1x1x32x1x64 : Shape := ⟨5, ![1, 1, 32, 1, 64]⟩
abbrev S8x512x2x32x64 : Shape := ⟨5, ![8, 512, 2, 32, 64]⟩
abbrev S8x512x2x2048 : Shape := ⟨4, ![8, 512, 2, 2048]⟩
abbrev S8x512x2x256 : Shape := ⟨4, ![8, 512, 2, 256]⟩
abbrev S_ : Shape := ⟨0, ![]⟩
abbrev S8x512x2x64 : Shape := ⟨4, ![8, 512, 2, 64]⟩
abbrev S1x8x512x2x64 : Shape := ⟨5, ![1, 8, 512, 2, 64]⟩
abbrev S2x8x512x2x64 : Shape := ⟨5, ![2, 8, 512, 2, 64]⟩
abbrev S2x8x2x64x512 : Shape := ⟨5, ![2, 8, 2, 64, 512]⟩

abbrev nBuf : Space → Nat
  | .hbm => 80
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S2x32x64, .f32⟩
  | .hbm, ⟨3, _⟩ => ⟨S2x2048x256, .f32⟩
  | .hbm, ⟨4, _⟩ => ⟨S2x256x64, .f32⟩
  | .hbm, ⟨5, _⟩ => ⟨S1x32x64, .f32⟩
  | .hbm, ⟨6, _⟩ => ⟨S32x64, .f32⟩
  | .hbm, ⟨7, _⟩ => ⟨S1x2048x256, .f32⟩
  | .hbm, ⟨8, _⟩ => ⟨S2048x256, .f32⟩
  | .hbm, ⟨9, _⟩ => ⟨S1x256x64, .f32⟩
  | .hbm, ⟨10, _⟩ => ⟨S256x64, .f32⟩
  | .hbm, ⟨11, _⟩ => ⟨S8x512x16x2x64, .f32⟩
  | .hbm, ⟨12, _⟩ => ⟨S8x511x16x2x64, .f32⟩
  | .hbm, ⟨13, _⟩ => ⟨S8x1x16x2x64, .f32⟩
  | .hbm, ⟨14, _⟩ => ⟨S8x512x16x2x64, .f32⟩
  | .hbm, ⟨15, _⟩ => ⟨S8x512x32x2x64, .f32⟩
  | .hbm, ⟨16, _⟩ => ⟨S1x1x32x1x64, .f32⟩
  | .hbm, ⟨17, _⟩ => ⟨S8x512x32x2x64, .f32⟩
  | .hbm, ⟨18, _⟩ => ⟨S8x512x32x2x64, .f32⟩
  | .hbm, ⟨19, _⟩ => ⟨S8x512x2x32x64, .f32⟩
  | .hbm, ⟨20, _⟩ => ⟨S8x512x2x2048, .f32⟩
  | .hbm, ⟨21, _⟩ => ⟨S8x512x2x256, .f32⟩
  | .hbm, ⟨22, _⟩ => ⟨S8x512x2x256, .f32⟩
  | .hbm, ⟨23, _⟩ => ⟨S8x512x2x256, .f32⟩
  | .hbm, ⟨24, _⟩ => ⟨S_, .f32⟩
  | .hbm, ⟨25, _⟩ => ⟨S8x512x2x256, .f32⟩
  | .hbm, ⟨26, _⟩ => ⟨S8x512x2x256, .f32⟩
  | .hbm, ⟨27, _⟩ => ⟨S8x512x2x256, .f32⟩
  | .hbm, ⟨28, _⟩ => ⟨S_, .f32⟩
  | .hbm, ⟨29, _⟩ => ⟨S8x512x2x256, .f32⟩
  | .hbm, ⟨30, _⟩ => ⟨S8x512x2x256, .f32⟩
  | .hbm, ⟨31, _⟩ => ⟨S8x512x2x256, .f32⟩
  | .hbm, ⟨32, _⟩ => ⟨S_, .f32⟩
  | .hbm, ⟨33, _⟩ => ⟨S8x512x2x256, .f32⟩
  | .hbm, ⟨34, _⟩ => ⟨S8x512x2x256, .f32⟩
  | .hbm, ⟨35, _⟩ => ⟨S_, .f32⟩
  | .hbm, ⟨36, _⟩ => ⟨S8x512x2x256, .f32⟩
  | .hbm, ⟨37, _⟩ => ⟨S8x512x2x256, .f32⟩
  | .hbm, ⟨38, _⟩ => ⟨S8x512x2x256, .f32⟩
  | .hbm, ⟨39, _⟩ => ⟨S8x512x2x64, .f32⟩
  | .hbm, ⟨40, _⟩ => ⟨S1x32x64, .f32⟩
  | .hbm, ⟨41, _⟩ => ⟨S32x64, .f32⟩
  | .hbm, ⟨42, _⟩ => ⟨S1x2048x256, .f32⟩
  | .hbm, ⟨43, _⟩ => ⟨S2048x256, .f32⟩
  | .hbm, ⟨44, _⟩ => ⟨S1x256x64, .f32⟩
  | .hbm, ⟨45, _⟩ => ⟨S256x64, .f32⟩
  | .hbm, ⟨46, _⟩ => ⟨S8x512x16x2x64, .f32⟩
  | .hbm, ⟨47, _⟩ => ⟨S8x511x16x2x64, .f32⟩
  | .hbm, ⟨48, _⟩ => ⟨S8x1x16x2x64, .f32⟩
  | .hbm, ⟨49, _⟩ => ⟨S8x512x16x2x64, .f32⟩
  | .hbm, ⟨50, _⟩ => ⟨S8x512x32x2x64, .f32⟩
  | .hbm, ⟨51, _⟩ => ⟨S1x1x32x1x64, .f32⟩
  | .hbm, ⟨52, _⟩ => ⟨S8x512x32x2x64, .f32⟩
  | .hbm, ⟨53, _⟩ => ⟨S8x512x32x2x64, .f32⟩
  | .hbm, ⟨54, _⟩ => ⟨S8x512x2x32x64, .f32⟩
  | .hbm, ⟨55, _⟩ => ⟨S8x512x2x2048, .f32⟩
  | .hbm, ⟨56, _⟩ => ⟨S8x512x2x256, .f32⟩
  | .hbm, ⟨57, _⟩ => ⟨S8x512x2x256, .f32⟩
  | .hbm, ⟨58, _⟩ => ⟨S8x512x2x256, .f32⟩
  | .hbm, ⟨59, _⟩ => ⟨S_, .f32⟩
  | .hbm, ⟨60, _⟩ => ⟨S8x512x2x256, .f32⟩
  | .hbm, ⟨61, _⟩ => ⟨S8x512x2x256, .f32⟩
  | .hbm, ⟨62, _⟩ => ⟨S8x512x2x256, .f32⟩
  | .hbm, ⟨63, _⟩ => ⟨S_, .f32⟩
  | .hbm, ⟨64, _⟩ => ⟨S8x512x2x256, .f32⟩
  | .hbm, ⟨65, _⟩ => ⟨S8x512x2x256, .f32⟩
  | .hbm, ⟨66, _⟩ => ⟨S8x512x2x256, .f32⟩
  | .hbm, ⟨67, _⟩ => ⟨S_, .f32⟩
  | .hbm, ⟨68, _⟩ => ⟨S8x512x2x256, .f32⟩
  | .hbm, ⟨69, _⟩ => ⟨S8x512x2x256, .f32⟩
  | .hbm, ⟨70, _⟩ => ⟨S_, .f32⟩
  | .hbm, ⟨71, _⟩ => ⟨S8x512x2x256, .f32⟩
  | .hbm, ⟨72, _⟩ => ⟨S8x512x2x256, .f32⟩
  | .hbm, ⟨73, _⟩ => ⟨S8x512x2x256, .f32⟩
  | .hbm, ⟨74, _⟩ => ⟨S8x512x2x64, .f32⟩
  | .hbm, ⟨75, _⟩ => ⟨S1x8x512x2x64, .f32⟩
  | .hbm, ⟨76, _⟩ => ⟨S1x8x512x2x64, .f32⟩
  | .hbm, ⟨77, _⟩ => ⟨S2x8x512x2x64, .f32⟩
  | .hbm, ⟨78, _⟩ => ⟨S2x8x2x64x512, .f32⟩
  | .hbm, ⟨79, _⟩ => ⟨S2x8x2x64x512, .bf16⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_4 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩

abbrev nD : Nat := 1
abbrev τ : Topo := Topo.v7x

variable {F : FTy → Type} [FloatOps F]
-- ==== Proof.FfnRow.lean ====
/-
  The feed-forward sub-layer of one token, on the extended reals, and the plain reference's result read as it.

  One token's row `x` (1024 numbers) is modulated, sent through the two gates of the hidden layer (2816 units),
  brought back, added to the scaled row and normalised. Every definition here is of ONE token.
-/
module

public import proofs.«01_k».proof.Proof.Gen.FfnRefIdeal.Run
public import Idealize.ShloMosaic.Lib.Pipeline.ValueKit
public import Idealize.ShloMosaic.Lib.Pointwise
public import Idealize.ShloMosaic.Lib.IdealHost
public import Idealize.ShloMosaic.Lib.Tactic.CleanTypes

@[expose] public section

set_option maxRecDepth 16384

noncomputable section

open Idealize.ShloMosaic Idealize.ShloMosaic.TcCoe

namespace Cert.FfnRow

/-- The row after the adaptive shift and scale. -/
def hid (x sc sh : Fin 1024 → EReal) (k : Fin 1024) : EReal := x k * (1 + sc k) + sh k

/-- One hidden unit before its gate: the modulated row against a column of weights. -/
def up (x sc sh : Fin 1024 → EReal) (w : Fin 1024 → Fin 2816 → EReal) (n : Fin 2816) : EReal :=
  ∑ k : Fin 1024, hid x sc sh k * w k n

/-- `a` times the logistic function of `a`, times `b`. -/
def gate (a b : EReal) : EReal := a * Ideal.div 1 (1 + Ideal.exp (-a)) * b

/-- The row before normalisation: the scaled input plus the modulated output of the hidden layer. -/
def pre (x sc sh g : Fin 1024 → EReal) (w1 w3 : Fin 1024 → Fin 2816 → EReal) (w2 : Fin 2816 → Fin 1024 → EReal)
    (j : Fin 1024) : EReal :=
  Ideal.ofBits .f32 0x3FB504F3#32 * x j + (1 + g j) * ∑ n : Fin 2816, gate (up x sc sh w1 n) (up x sc sh w3 n) * w2 n j

/-- A row less its mean. -/
def centred (z : Fin 1024 → EReal) (j : Fin 1024) : EReal :=
  z j - Ideal.div (∑ k : Fin 1024, z k) (Ideal.ofBits .f32 0x44800000#32)

/-- A row normalised to mean zero and variance one, then scaled by `lg` and shifted by `lb`. -/
def normed (z lg lb : Fin 1024 → EReal) (j : Fin 1024) : EReal :=
  centred z j * Ideal.rsqrt (Ideal.div (∑ k : Fin 1024, centred z k * centred z k) (Ideal.ofBits .f32 0x44800000#32)
      + Ideal.ofBits .f32 0x3727C5AC#32) * lg j + lb j

end Cert.FfnRow

namespace Cert.FfnRefIdeal.Row

open Cert.FfnRefIdeal Cert.FfnRefIdeal.Gen Cert.FfnRow

/-- A stretch of the modulation table, from column `o`, as the reference slices it. -/
abbrev modS (mo : FVec Ideal S8x6144 .f32) (o : Nat) (h : S8x1x6144.Slices ![0, 0, o] S8x1x1024) : FVec Ideal S8x1x1024 .f32 :=
  extractStridedSlice S8x1x1024 ![0, 0, o] (broadcastInDim S8x1x6144 ![0, 2] bcast_S8x6144_S8x1x6144_0_2 mo) h

/-- One plus a stretch of the modulation table, repeated over the tokens. -/
abbrev onePlus (mo : FVec Ideal S8x6144 .f32) (o : Nat) (h : S8x1x6144.Slices ![0, 0, o] S8x1x1024) : FVec Ideal S8x8192x1024 .f32 :=
  broadcastInDim S8x8192x1024 ![0, 1, 2] bcast_S8x1x1024_S8x8192x1024_0_1_2
    (addf (broadcastInDim S8x1x1024 ![] bcast_S_S8x1x1024 (constant S_ .f32 0x3F800000#32)) (modS mo o h))

/-- The modulated rows. -/
def rHid (x : FVec Ideal S8x8192x1024 .f32) (mo : FVec Ideal S8x6144 .f32) : FVec Ideal S8x8192x1024 .f32 :=
  addf (mulf x (onePlus mo 4096 slices_S8x1x6144_S8x1x1024_0_0_4096))
    (broadcastInDim S8x8192x1024 ![0, 1, 2] bcast_S8x1x1024_S8x8192x1024_0_1_2 (modS mo 3072 slices_S8x1x6144_S8x1x1024_0_0_3072))

/-- The hidden layer before its gates. -/
def rUp (h : FVec Ideal S8x8192x1024 .f32) (w : FVec Ideal S1024x2816 .f32) : FVec Ideal S8x8192x2816 .f32 :=
  Host.dotGeneral (φ₁ := .f32) (φ₂ := .f32) dot_S8x8192x1024_S1024x2816_S8x8192x2816_2_0_01_1_n_n none h w

/-- The gated hidden layer. -/
def rAct (a b : FVec Ideal S8x8192x2816 .f32) : FVec Ideal S8x8192x2816 .f32 :=
  mulf (mulf a (Host.divf (broadcastInDim S8x8192x2816 ![] bcast_S_S8x8192x2816 (constant S_ .f32 0x3F800000#32))
    (addf (broadcastInDim S8x8192x2816 ![] bcast_S_S8x8192x2816 (constant S_ .f32 0x3F800000#32)) (Host.exp (Host.negf a))))) b

/-- The rows before normalisation. -/
def rPre (x : FVec Ideal S8x8192x1024 .f32) (mo : FVec Ideal S8x6144 .f32) (a : FVec Ideal S8x8192x2816 .f32)
    (w2 : FVec Ideal S2816x1024 .f32) : FVec Ideal S8x8192x1024 .f32 :=
  addf (mulf (broadcastInDim S8x8192x1024 ![] bcast_S_S8x8192x1024 (constant S_ .f32 0x3FB504F3#32)) x)
    (mulf (onePlus mo 5120 slices_S8x1x6144_S8x1x1024_0_0_5120)
      (Host.dotGeneral (φ₁ := .f32) (φ₂ := .f32) dot_S8x8192x2816_S2816x1024_S8x8192x1024_2_0_01_1_n_n none a w2))

/-- The mean of every row, repeated over the row. -/
def rMean (z : FVec Ideal S8x8192x1024 .f32) : FVec Ideal S8x8192x1 .f32 :=
  Host.divf (broadcastInDim S8x8192x1 ![0, 1] bcast_S8x8192_S8x8192x1_0_1 (Host.reduceAdd z (constant S_ .f32 0x00000000#32) reducesTo_S8x8192x1024_S8x8192_d2 h_S_))
    (broadcastInDim S8x8192x1 ![] bcast_S_S8x8192x1 (constant S_ .f32 0x44800000#32))

/-- The rows less their means. -/
def rCen (z : FVec Ideal S8x8192x1024 .f32) : FVec Ideal S8x8192x1024 .f32 :=
  subf z (broadcastInDim S8x8192x1024 ![0, 1, 2] bcast_S8x8192x1_S8x8192x1024_0_1_2 (rMean z))

/-- The normalised rows. -/
def rNorm (z : FVec Ideal S8x8192x1024 .f32) (lg lb : FVec Ideal S1024 .f32) : FVec Ideal S8x8192x1024 .f32 :=
  addf (mulf (mulf (rCen z) (broadcastInDim S8x8192x1024 ![0, 1, 2] bcast_S8x8192x1_S8x8192x1024_0_1_2
      (Host.rsqrt (addf (rMean (mulf (rCen z) (rCen z))) (broadcastInDim S8x8192x1 ![] bcast_S_S8x8192x1 (constant S_ .f32 0x3727C5AC#32))))))
      (broadcastInDim S8x8192x1024 ![0, 1, 2] bcast_S1x1x1024_S8x8192x1024_0_1_2 (broadcastInDim S1x1x1024 ![2] bcast_S1024_S1x1x1024_2 lg)))
    (broadcastInDim S8x8192x1024 ![0, 1, 2] bcast_S1x1x1024_S8x8192x1024_0_1_2 (broadcastInDim S1x1x1024 ![2] bcast_S1024_S1x1x1024_2 lb))

/-- The whole reference, stage by stage. -/
def rOut (x : FVec Ideal S8x8192x1024 .f32) (mo : FVec Ideal S8x6144 .f32) (w1 w3 : FVec Ideal S1024x2816 .f32)
    (w2 : FVec Ideal S2816x1024 .f32) (lg lb : FVec Ideal S1024 .f32) : FVec Ideal S8x8192x1024 .f32 :=
  rNorm (rPre x mo (rAct (rUp (rHid x mo) w1) (rUp (rHid x mo) w3)) w2) lg lb

/-- The reference's result is its stages composed. -/
theorem res_eq (m : (ℓ : Loc nD τ sig) → Buf (Elt Ideal) ℓ) (c : Dev nD) :
    Value.res_main_v48 m c = rOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

/-- Column `o + k` of the modulation table of batch `b`. -/
abbrev modAt (mo : FVec Ideal S8x6144 .f32) (b : Fin 8) (o : Nat) (ho : o + 1024 ≤ 6144) (k : Fin 1024) : EReal :=
  mo (ix2 b ⟨o + k.val, by omega⟩)

theorem rHid_at (x : FVec Ideal S8x8192x1024 .f32) (mo : FVec Ideal S8x6144 .f32) (b : Fin 8) (t : Fin 8192) (k : Fin 1024) :
    rHid x mo (ix3 b t k) = hid (fun k => x (ix3 b t k)) (modAt mo b 4096 (by omega)) (modAt mo b 3072 (by omega)) k := by
  pointwise [rHid, hid, modS, onePlus, modAt]

theorem rUp_at (h : FVec Ideal S8x8192x1024 .f32) (w : FVec Ideal S1024x2816 .f32) (b : Fin 8) (t : Fin 8192) (n : Fin 2816) :
    rUp h w (ix3 b t n) = ∑ k : Fin 1024, h (ix3 b t k) * w (ix2 k n) := by
  pointwise [rUp]

theorem rAct_at (a d : FVec Ideal S8x8192x2816 .f32) (b : Fin 8) (t : Fin 8192) (n : Fin 2816) :
    rAct a d (ix3 b t n) = gate (a (ix3 b t n)) (d (ix3 b t n)) := by
  pointwise [rAct, gate]

theorem rPre_at (x : FVec Ideal S8x8192x1024 .f32) (mo : FVec Ideal S8x6144 .f32) (a : FVec Ideal S8x8192x2816 .f32)
    (w2 : FVec Ideal S2816x1024 .f32) (b : Fin 8) (t : Fin 8192) (j : Fin 1024) :
    rPre x mo a w2 (ix3 b t j) = Ideal.ofBits .f32 0x3FB504F3#32 * x (ix3 b t j)
      + (1 + modAt mo b 5120 (by omega) j) * ∑ n : Fin 2816, a (ix3 b t n) * w2 (ix2 n j) := by
  pointwise [rPre, modS, onePlus, modAt]

theorem rCen_at (z : FVec Ideal S8x8192x1024 .f32) (b : Fin 8) (t : Fin 8192) (j : Fin 1024) :
    rCen z (ix3 b t j) = centred (fun k => z (ix3 b t k)) j := by
  pointwise [rCen, rMean, centred]

theorem rNorm_at (z : FVec Ideal S8x8192x1024 .f32) (lg lb : FVec Ideal S1024 .f32) (b : Fin 8) (t : Fin 8192) (j : Fin 1024) :
    rNorm z lg lb (ix3 b t j) = normed (fun k => z (ix3 b t k)) (fun k => lg (ix1 k)) (fun k => lb (ix1 k)) j := by
  pointwise [rNorm, rMean, normed, rCen_at]

/-- The reference's result at one token, as the row function. -/
theorem rOut_at (x : FVec Ideal S8x8192x1024 .f32) (mo : FVec Ideal S8x6144 .f32) (w1 w3 : FVec Ideal S1024x2816 .f32)
    (w2 : FVec Ideal S2816x1024 .f32) (lg lb : FVec Ideal S1024 .f32) (b : Fin 8) (t : Fin 8192) (j : Fin 1024) :
    rOut x mo w1 w3 w2 lg lb (ix3 b t j) =
      normed (pre (fun k => x (ix3 b t k)) (modAt mo b 4096 (by omega)) (modAt mo b 3072 (by omega)) (modAt mo b 5120 (by omega))
        (fun k n => w1 (ix2 k n)) (fun k n => w3 (ix2 k n)) (fun n j => w2 (ix2 n j))) (fun k => lg (ix1 k)) (fun k => lb (ix1 k)) j := by
  simp only [rOut, rNorm_at, rPre_at, rAct_at, rUp_at, rHid_at]
  rfl

end Cert.FfnRefIdeal.Row
-- ==== Proof.FfnBlock.lean ====
/-
  The feed-forward kernel's result block, read as the row function of `FfnRow.lean`.

  The kernel takes the hidden layer in two stretches, 1536 and 1280 units; their products with the second weight
  matrix are added, which is the sum over all 2816 units cut in two.
-/
module

public import proofs.«01_k».proof.Proof.Gen.FfnIdeal.Value
public import proofs.«01_k».proof.Proof.FfnRow

@[expose] public section

set_option maxRecDepth 16384

noncomputable section

open Idealize.ShloMosaic Idealize.ShloMosaic.TcCoe

namespace Cert.FfnIdeal.Block

open Cert.FfnIdeal Cert.FfnIdeal.Gen Cert.FfnRow

/-- The modulated rows of a block. -/
theorem pay3_at (x : FVec Ideal S1x512x1024 .f32) (sc sh : FVec Ideal S1x1x1024 .f32) (r : Fin 512) (k : Fin 1024) :
    k0_pay3 (F := Ideal) x sc sh (ix2 r k) = hid (fun k => x (ix3 0 r k)) (fun k => sc (ix3 0 0 k)) (fun k => sh (ix3 0 0 k)) k := by
  pointwise [k0_pay3, k0_pay2, hid]

/-- The first stretch of the hidden layer. -/
theorem pay4_at (x : FVec Ideal S1x512x1024 .f32) (sc sh : FVec Ideal S1x1x1024 .f32) (a b : FVec Ideal S1024x1536 .bf16)
    (d : FVec Ideal S1536x1024 .bf16) (r : Fin 512) (j : Fin 1024) :
    k0_pay4 (F := Ideal) x sc sh a b d (ix2 r j) = ∑ n : Fin 1536, gate (∑ k : Fin 1024, k0_pay3 (F := Ideal) x sc sh (ix2 r k) * a (ix2 k n))
      (∑ k : Fin 1024, k0_pay3 (F := Ideal) x sc sh (ix2 r k) * b (ix2 k n)) * d (ix2 n j) := by
  pointwise [k0_pay4, gate]
  simp only [zero_sub]

/-- The row before normalisation, from the first stretch's product and the second stretch. -/
def z2 (v1 : FVec Ideal S512x1024 .f32) (h : FVec Ideal S512x1024 .bf16) (v31 : FVec Ideal S512x1024 .f32)
    (a b : FVec Ideal S1024x1280 .bf16) (d : FVec Ideal S1280x1024 .bf16) (g : FVec Ideal S1x1x1024 .f32) (r : Fin 512) (j : Fin 1024) : EReal :=
  Ideal.ofBits .f32 0x3FB504F3#32 * v1 (ix2 r j) + (1 + g (ix3 0 0 j)) * (v31 (ix2 r j)
    + ∑ n : Fin 1280, gate (∑ k : Fin 1024, h (ix2 r k) * a (ix2 k n)) (∑ k : Fin 1024, h (ix2 r k) * b (ix2 k n)) * d (ix2 n j))

/-- The centred rows of a block. -/
theorem pay8_at (v1 : FVec Ideal S512x1024 .f32) (h : FVec Ideal S512x1024 .bf16) (v31 : FVec Ideal S512x1024 .f32)
    (a b : FVec Ideal S1024x1280 .bf16) (d : FVec Ideal S1280x1024 .bf16) (g : FVec Ideal S1x1x1024 .f32) (r : Fin 512) (j : Fin 1024) :
    k0_pay8 (F := Ideal) v1 h v31 a b d g (ix2 r j) = centred (z2 v1 h v31 a b d g r) j := by
  pointwise [k0_pay8, centred, z2, gate]
  simp only [zero_sub]

/-- The normalised rows of a block. -/
theorem pay1_at (lg lb : FVec Ideal S1x1024 .f32) (z q : FVec Ideal S512x1024 .f32) (r : Fin 512) (j : Fin 1024) :
    k0_pay1 (F := Ideal) lg lb z q (ix3 0 r j) = z (ix2 r j) * Ideal.rsqrt (Ideal.div (∑ k : Fin 1024, q (ix2 r k)) (Ideal.ofBits .f32 0x44800000#32)
      + Ideal.ofBits .f32 0x3727C5AC#32) * lg (ix2 0 j) + lb (ix2 0 j) := by
  pointwise [k0_pay1]

/-- The zero offset of a block of rank three. -/
theorem hz3 : (![0, 0, 0] : Fin 3 → Nat) = fun _ => 0 := funext fun a => by fin_cases a <;> rfl

/-- The two stretches of the hidden layer are the whole of it. -/
theorem z2_eq (x : Vec Ideal S1x512x1024 .f32) (sc sh g : Vec Ideal S1x1x1024 .f32) (w1 w3 : Vec Ideal S1024x2816 .bf16)
    (w2 : Vec Ideal S2816x1024 .bf16) (r : Fin 512) :
    z2 (k0_pay2 (F := Ideal) x) (k0_pay3 (F := Ideal) x sc sh)
      (k0_pay4 (F := Ideal) x sc sh (View.ld w1 r0_2) (View.ld w3 r0_2) (View.ld w2 r0_3))
      (k0_pay5 (F := Ideal) (View.ld w1 r0_4)) (View.ld w3 r0_4) (View.ld w2 r0_5) g r
    = pre (fun k => x (ix3 0 r k)) (fun k => sc (ix3 0 0 k)) (fun k => sh (ix3 0 0 k)) (fun k => g (ix3 0 0 k))
        (fun k n => w1 (ix2 k n)) (fun k n => w3 (ix2 k n)) (fun n j => w2 (ix2 n j)) := by
  funext j
  have hs : ∀ f : Fin 2816 → EReal, (∑ n : Fin 1536, f ⟨n.val, by omega⟩) + (∑ n : Fin 1280, f ⟨1536 + n.val, by omega⟩) = ∑ n, f n :=
    fun f => (Fin.sum_univ_two_halves 1536 1280 rfl f).symm
  unfold z2 pre up
  rw [pay4_at, ← hs]
  simp only [pay3_at]
  pointwise [k0_pay2, k0_pay5]

/-- The kernel's result block at one token is the row function of the token's row. -/
theorem out_at (x : Vec Ideal S1x512x1024 .f32) (sc sh g : Vec Ideal S1x1x1024 .f32) (w1 w3 : Vec Ideal S1024x2816 .bf16)
    (w2 : Vec Ideal S2816x1024 .bf16) (lg lb : Vec Ideal S1x1024 .f32) (r : Fin 512) (j : Fin 1024) :
    out0_9 (F := Ideal) x sc sh g w1 w3 w2 lg lb (ix3 0 r j) =
      normed (pre (fun k => x (ix3 0 r k)) (fun k => sc (ix3 0 0 k)) (fun k => sh (ix3 0 0 k)) (fun k => g (ix3 0 0 k))
        (fun k n => w1 (ix2 k n)) (fun k n => w3 (ix2 k n)) (fun n j => w2 (ix2 n j)))
        (fun k => lg (ix2 0 k)) (fun k => lb (ix2 0 k)) j := by
  frame_out
  unfold k0_pay13 k0_pay12 k0_pay11 k0_pay10
  rw [View.ld_unit_zero (X := x) hz3, View.ld_unit_zero (X := sc) hz3, View.ld_unit_zero (X := sh) hz3, pay1_at]
  have h8 : ∀ k, k0_pay8 (F := Ideal) (k0_pay2 (F := Ideal) x) (k0_pay3 (F := Ideal) x sc sh)
      (k0_pay4 (F := Ideal) x sc sh (View.ld w1 r0_2) (View.ld w3 r0_2) (View.ld w2 r0_3))
      (k0_pay5 (F := Ideal) (View.ld w1 r0_4)) (View.ld w3 r0_4) (View.ld w2 r0_5) g (ix2 r k) = _ :=
    fun k => (pay8_at _ _ _ _ _ _ _ r k).trans (congrArg (fun z => centred z k) (z2_eq x sc sh g w1 w3 w2 r))
  have h9 : ∀ k, k0_pay9 (F := Ideal) (k0_pay2 (F := Ideal) x) (k0_pay3 (F := Ideal) x sc sh)
      (k0_pay4 (F := Ideal) x sc sh (View.ld w1 r0_2) (View.ld w3 r0_2) (View.ld w2 r0_3))
      (k0_pay5 (F := Ideal) (View.ld w1 r0_4)) (View.ld w3 r0_4) (View.ld w2 r0_5) g (ix2 r k) = _ :=
    fun k => congrArg₂ (fun a b : EReal => a * b) (h8 k) (h8 k)
  rw [h8, Finset.sum_congr rfl fun k _ => h9 k]
  pointwise [k0_pay6, k0_pay7, normed]

end Cert.FfnIdeal.Block
-- ==== Proof.FfnValue.lean ====
/-
  The feed-forward kernel's whole result array is the plain reference's: each grid point writes the rows of 512 tokens
  of one sequence, and together the 128 points write every row.
-/
module

public import proofs.«01_k».proof.Proof.FfnBlock

@[expose] public section

set_option maxRecDepth 16384

noncomputable section

open Idealize.ShloMosaic Idealize.ShloMosaic.TcCoe Idealize.SL.Sem

namespace Cert.FfnIdeal.Whole

open Cert.FfnIdeal Cert.FfnIdeal.Gen Cert.FfnRow Cert.FfnRefIdeal.Row

variable (m : (ℓ : Loc nD τ sig) → Buf (Elt Ideal) ℓ)

/-- The reference's function of the kernel's arguments. -/
def goal (c : Dev nD) : FVec Ideal S8x8192x1024 .f32 :=
  rOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))

/-- Where each window's block stands at a grid point. -/
theorem index_maps : ∀ t : Fin grid0.N,
    win0_0.index t = ![(grid0.coords t 0).val, (grid0.coords t 1).val, 0]
    ∧ win0_1.index t = ![(grid0.coords t 0).val, 0, 0] ∧ win0_2.index t = ![(grid0.coords t 0).val, 0, 0]
    ∧ win0_3.index t = ![(grid0.coords t 0).val, 0, 0] ∧ win0_4.index t = ![0, 0] ∧ win0_5.index t = ![0, 0]
    ∧ win0_6.index t = ![0, 0] ∧ win0_7.index t = ![0, 0] ∧ win0_8.index t = ![0, 0]
    ∧ win0_9.index t = ![(grid0.coords t 0).val, (grid0.coords t 1).val, 0] := by
  decide +kernel

/-- The sequence a grid point works on. -/
def seqOf (t : Fin grid0.N) : Fin 8 := ⟨(grid0.coords t 0).val, (grid0.coords t 0).isLt⟩

/-- Row `r` of a grid point's block, as a token of its sequence. -/
def tokOf (t : Fin grid0.N) (r : Fin 512) : Fin 8192 :=
  ⟨(grid0.coords t 1).val * 512 + r.val, by have : (grid0.coords t 1).val < 16 := (grid0.coords t 1).isLt; omega⟩

/-- Where row `r`, column `j` of the result's block lies in the result. -/
theorem emb9 (t : Fin grid0.N) (r : Fin 512) (j : Fin 1024) :
    ((View.whole main_v11).slice (win0_9.rect t)).emb (ix3 0 r j) = ix3 (seqOf t) (tokOf t r) j := by
  blk_ext [index_maps t, seqOf, tokOf]

/-- The block of input rows, read off the input. -/
theorem blk0 (c : Dev nD) (t : Fin grid0.N) (r : Fin 512) (j : Fin 1024) :
    iblk m c 0 t (ix3 0 r j) = m ((c.tc : Thread nD τ).loc main_arg0) (ix3 (seqOf t) (tokOf t r) j) := by
  blk_ext [iblk, V, index_maps t, seqOf, tokOf]

/-- The block of scales, read off the modulation table. -/
theorem blk1 (c : Dev nD) (t : Fin grid0.N) (k : Fin 1024) :
    iblk m c 1 t (ix3 0 0 k) = modAt (m ((c.tc : Thread nD τ).loc main_arg1)) (seqOf t) 4096 (by omega) k := by
  blk_simp [iblk]; entry_read; pointwise [modAt]
  blk_ext [index_maps t, seqOf, tokOf]

/-- The block of shifts, read off the modulation table. -/
theorem blk2 (c : Dev nD) (t : Fin grid0.N) (k : Fin 1024) :
    iblk m c 2 t (ix3 0 0 k) = modAt (m ((c.tc : Thread nD τ).loc main_arg1)) (seqOf t) 3072 (by omega) k := by
  blk_simp [iblk]; entry_read; pointwise [modAt]
  blk_ext [index_maps t, seqOf, tokOf]

/-- The block of output gates, read off the modulation table. -/
theorem blk3 (c : Dev nD) (t : Fin grid0.N) (k : Fin 1024) :
    iblk m c 3 t (ix3 0 0 k) = modAt (m ((c.tc : Thread nD τ).loc main_arg1)) (seqOf t) 5120 (by omega) k := by
  blk_simp [iblk]; entry_read; pointwise [modAt]
  blk_ext [index_maps t, seqOf, tokOf]

/-- The first weight matrix. -/
theorem blk4 (c : Dev nD) (t : Fin grid0.N) (k : Fin 1024) (n : Fin 2816) :
    iblk m c 4 t (ix2 k n) = m ((c.tc : Thread nD τ).loc main_arg2) (ix2 k n) := by
  blk_simp [iblk]; entry_read; pointwise
  blk_ext [index_maps t, seqOf, tokOf]

/-- The gating weight matrix. -/
theorem blk5 (c : Dev nD) (t : Fin grid0.N) (k : Fin 1024) (n : Fin 2816) :
    iblk m c 5 t (ix2 k n) = m ((c.tc : Thread nD τ).loc main_arg3) (ix2 k n) := by
  blk_simp [iblk]; entry_read; pointwise
  blk_ext [index_maps t, seqOf, tokOf]

/-- The second weight matrix. -/
theorem blk6 (c : Dev nD) (t : Fin grid0.N) (n : Fin 2816) (k : Fin 1024) :
    iblk m c 6 t (ix2 n k) = m ((c.tc : Thread nD τ).loc main_arg4) (ix2 n k) := by
  blk_simp [iblk]; entry_read; pointwise
  blk_ext [index_maps t, seqOf, tokOf]

/-- The normalisation's scale. -/
theorem blk7 (c : Dev nD) (t : Fin grid0.N) (k : Fin 1024) :
    iblk m c 7 t (ix2 0 k) = m ((c.tc : Thread nD τ).loc main_arg5) (ix1 k) := by
  blk_simp [iblk]; entry_read; pointwise
  blk_ext [index_maps t, seqOf, tokOf]

/-- The normalisation's shift. -/
theorem blk8 (c : Dev nD) (t : Fin grid0.N) (k : Fin 1024) :
    iblk m c 8 t (ix2 0 k) = m ((c.tc : Thread nD τ).loc main_arg6) (ix1 k) := by
  blk_simp [iblk]; entry_read; pointwise
  blk_ext [index_maps t, seqOf, tokOf]

/-- The result array after the run. -/
theorem final (c : Dev nD) : (dats m 0 c).arrAt 9 cfg0.N = goal m c := by
  refine (dats m 0 c).arrAt_eq_of_covers 9 _ (by decide +kernel) fun t hf y => ?_
  blk_simp
  rw [after0_9]
  idx_vars y
  obtain rfl : y0 = 0 := Subsingleton.elim _ _
  rw [emb9 t y1 y2]
  refine (Block.out_at (iblk m c 0 t) (iblk m c 1 t) (iblk m c 2 t) (iblk m c 3 t) (iblk m c 4 t) (iblk m c 5 t) (iblk m c 6 t)
      (iblk m c 7 t) (iblk m c 8 t) y1 y2).trans ?_
  simp only [blk0, blk1, blk2, blk3, blk4, blk5, blk6, blk7, blk8]
  exact (rOut_at _ _ _ _ _ _ _ (seqOf t) (tokOf t y1) y2).symm

end Cert.FfnIdeal.Whole
-- ==== Proof.FfnClaims.lean ====
/-
  The feed-forward program's claims: its frames and its equality with the plain reference.
-/
module

public import proofs.«01_k».proof.Defs
public import proofs.«01_k».proof.Proof.Gen.Ffn.Frame
public import proofs.«01_k».proof.Proof.FfnValue
public import Idealize.ShloMosaic.Lib.Quiescent

@[expose] public section

noncomputable section

open Idealize.ShloMosaic Idealize.ShloMosaic.TcCoe Idealize.SL.Sem

namespace Cert.Proof.FfnClaims

/-- Every run of the kernel ends with its arguments unchanged. -/
theorem frame_p : Cert.quiescent_Ffn := fun m ρ _ => Cert.Ffn.Gen.frame m ρ
/-- The same, on the extended reals. -/
theorem frame_pi : Cert.quiescent_FfnIdeal := fun m ρ _ => Cert.FfnIdeal.Gen.frame m ρ
/-- Every run of the reference ends with its arguments unchanged. -/
theorem frame_ri : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- Kernel and reference compute the same array on the extended reals. -/
theorem algebraic : Cert.algebraic_FfnIdeal_FfnRefIdeal := by
  intro m ρ m' ρ' _ hag
  refine ⟨fun c => Cert.FfnIdeal.Whole.goal m c, ?_, ?_⟩
  · exact (θ_run Cert.FfnIdeal.defs _ _).mono (fun _ h c => ⟨(h c).1.trans (Cert.FfnIdeal.Whole.final m c), (h c).2⟩)
      (Cert.FfnIdeal.Value.run_blocks (F := Ideal) m ρ)
  · refine (θ_run Cert.FfnRefIdeal.defs _ _).mono (fun _ h c => ⟨(h c).1.trans ?_, (h c).2⟩)
      (Cert.FfnRefIdeal.Value.run (F := Ideal) m' ρ')
    rw [Cert.FfnRefIdeal.Row.res_eq m' c]
    unfold Cert.FfnIdeal.Whole.goal
    obtain ⟨h0, h1, h2, h3, h4, h5, h6⟩ := hag c
    rw [h0, h1, h2, h3, h4, h5, h6]

end Cert.Proof.FfnClaims
-- ==== Proof.OutRow.lean ====
/-
  The output projection of one token, on the extended reals, and the plain reference's result read as it.

  The mixers' two halves of a token's row (512 numbers each) stand side by side, every group of 64 channels is divided by
  its root mean square, the row is multiplied with the output weights, added to the scaled input row and normalised.
-/
module

public import proofs.«01_k».proof.Proof.Gen.OutRefIdeal.Run
public import proofs.«01_k».proof.Proof.FfnRow

@[expose] public section

set_option maxRecDepth 16384

noncomputable section

open Idealize.ShloMosaic Idealize.ShloMosaic.TcCoe

namespace Cert.OutRow

/-- Two halves of a row, side by side. -/
def cat (a p : Fin 512 → EReal) (k : Fin 1024) : EReal :=
  if h : k.val < 512 then a ⟨k.val, h⟩ else p ⟨k.val - 512, by omega⟩

/-- Channel `k` over the root mean square of its group of 64, scaled by its gain. -/
def rms (y gn : Fin 1024 → EReal) (k : Fin 1024) : EReal :=
  y k * Ideal.rsqrt (Ideal.div (∑ d : Fin 64, y ⟨k.val / 64 * 64 + d.val, by omega⟩ * y ⟨k.val / 64 * 64 + d.val, by omega⟩)
    (Ideal.ofBits .f32 0x42800000#32) + Ideal.ofBits .f32 0x3727C5AC#32) * gn k

/-- The row before the last normalisation: the scaled input plus the gated projection. -/
def pre (y gn x g : Fin 1024 → EReal) (w : Fin 1024 → Fin 1024 → EReal) (j : Fin 1024) : EReal :=
  Ideal.ofBits .f32 0x3FB504F3#32 * x j + (1 + g j) * ∑ k : Fin 1024, rms y gn k * w k j

end Cert.OutRow

namespace Cert.OutRefIdeal.Row

open Cert.OutRefIdeal Cert.OutRefIdeal.Gen Cert.OutRow Cert.FfnRow

/-- The two halves side by side, cut in groups of 64. -/
def rGrp (a p : FVec Ideal S8x8192x512 .f32) : FVec Ideal S8x8192x16x64 .f32 :=
  shapeCast S8x8192x16x64 (concatenate S8x8192x1024 2 [⟨S8x8192x512, a⟩, ⟨S8x8192x512, p⟩]
    concatenates_S8x8192x512_S8x8192x512_S8x8192x1024_d2) shapeCasts_S8x8192x1024_S8x8192x16x64

/-- The groups over their root mean squares, scaled. -/
def rRms (y : FVec Ideal S8x8192x16x64 .f32) (gn : FVec Ideal S1024 .f32) : FVec Ideal S8x8192x16x64 .f32 :=
  mulf (mulf y (broadcastInDim S8x8192x16x64 ![0, 1, 2, 3] bcast_S8x8192x16x1_S8x8192x16x64_0_1_2_3
      (Host.rsqrt (addf (Host.divf (broadcastInDim S8x8192x16x1 ![0, 1, 2] bcast_S8x8192x16_S8x8192x16x1_0_1_2
        (Host.reduceAdd (mulf y y) (constant S_ .f32 0x00000000#32) reducesTo_S8x8192x16x64_S8x8192x16_d3 h_S_))
        (broadcastInDim S8x8192x16x1 ![] bcast_S_S8x8192x16x1 (constant S_ .f32 0x42800000#32)))
        (broadcastInDim S8x8192x16x1 ![] bcast_S_S8x8192x16x1 (constant S_ .f32 0x3727C5AC#32))))))
    (broadcastInDim S8x8192x16x64 ![0, 1, 2, 3] bcast_S1x1x16x64_S8x8192x16x64_0_1_2_3
      (broadcastInDim S1x1x16x64 ![2, 3] bcast_S16x64_S1x1x16x64_2_3 (shapeCast S16x64 gn shapeCasts_S1024_S16x64)))

/-- The rows before the last normalisation. -/
def rPre (x : FVec Ideal S8x8192x1024 .f32) (mo : FVec Ideal S8x6144 .f32) (y : FVec Ideal S8x8192x16x64 .f32)
    (w : FVec Ideal S1024x1024 .f32) : FVec Ideal S8x8192x1024 .f32 :=
  addf (mulf (broadcastInDim S8x8192x1024 ![] bcast_S_S8x8192x1024 (constant S_ .f32 0x3FB504F3#32)) x)
    (mulf (broadcastInDim S8x8192x1024 ![0, 1, 2] bcast_S8x1x1024_S8x8192x1024_0_1_2
        (addf (broadcastInDim S8x1x1024 ![] bcast_S_S8x1x1024 (constant S_ .f32 0x3F800000#32))
          (extractStridedSlice S8x1x1024 ![0, 0, 2048] (broadcastInDim S8x1x6144 ![0, 2] bcast_S8x6144_S8x1x6144_0_2 mo)
            slices_S8x1x6144_S8x1x1024_0_0_2048)))
      (Host.dotGeneral (φ₁ := .f32) (φ₂ := .f32) dot_S8x8192x1024_S1024x1024_S8x8192x1024_2_0_01_1_n_n none
        (shapeCast S8x8192x1024 y shapeCasts_S8x8192x16x64_S8x8192x1024) w))

/-- The mean of every row. -/
def rMean (z : FVec Ideal S8x8192x1024 .f32) : FVec Ideal S8x8192x1 .f32 :=
  Host.divf (broadcastInDim S8x8192x1 ![0, 1] bcast_S8x8192_S8x8192x1_0_1 (Host.reduceAdd z (constant S_ .f32 0x00000000#32) reducesTo_S8x8192x1024_S8x8192_d2 h_S_))
    (broadcastInDim S8x8192x1 ![] bcast_S_S8x8192x1 (constant S_ .f32 0x44800000#32))

/-- The rows less their means. -/
def rCen (z : FVec Ideal S8x8192x1024 .f32) : FVec Ideal S8x8192x1024 .f32 :=
  subf z (broadcastInDim S8x8192x1024 ![0, 1, 2] bcast_S8x8192x1_S8x8192x1024_0_1_2 (rMean z))

/-- The normalised rows. -/
def rNorm (z : FVec Ideal S8x8192x1024 .f32) (lg lb : FVec Ideal S1024 .f32) : FVec Ideal S8x8192x1024 .f32 :=
  addf (mulf (mulf (rCen z) (broadcastInDim S8x8192x1024 ![0, 1, 2] bcast_S8x8192x1_S8x8192x1024_0_1_2
      (Host.rsqrt (addf (rMean (mulf (rCen z) (rCen z))) (broadcastInDim S8x8192x1 ![] bcast_S_S8x8192x1 (constant S_ .f32 0x3727C5AC#32))))))
      (broadcastInDim S8x8192x1024 ![0, 1, 2] bcast_S1x1x1024_S8x8192x1024_0_1_2 (broadcastInDim S1x1x1024 ![2] bcast_S1024_S1x1x1024_2 lg)))
    (broadcastInDim S8x8192x1024 ![0, 1, 2] bcast_S1x1x1024_S8x8192x1024_0_1_2 (broadcastInDim S1x1x1024 ![2] bcast_S1024_S1x1x1024_2 lb))

/-- The whole reference, stage by stage. -/
def rOut (a p : FVec Ideal S8x8192x512 .f32) (x : FVec Ideal S8x8192x1024 .f32) (mo : FVec Ideal S8x6144 .f32)
    (gn : FVec Ideal S1024 .f32) (w : FVec Ideal S1024x1024 .f32) (lg lb : FVec Ideal S1024 .f32) : FVec Ideal S8x8192x1024 .f32 :=
  rNorm (rPre x mo (rRms (rGrp a p) gn) w) lg lb

/-- The reference's result is its stages composed. -/
theorem res_eq (m : (ℓ : Loc nD τ sig) → Buf (Elt Ideal) ℓ) (c : Dev nD) :
    Value.res_main_v55 m c = rOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-- Column `o + k` of the modulation table of batch `b`. -/
abbrev modAt (mo : FVec Ideal S8x6144 .f32) (b : Fin 8) (o : Nat) (ho : o + 1024 ≤ 6144) (k : Fin 1024) : EReal :=
  mo (ix2 b ⟨o + k.val, by omega⟩)

/-- A grouped row, read off the two halves. -/
theorem rGrp_at (a p : FVec Ideal S8x8192x512 .f32) (b : Fin 8) (t : Fin 8192) (g : Fin 16) (d : Fin 64) :
    rGrp a p (ix4 b t g d) = cat (fun k => a (ix3 b t k)) (fun k => p (ix3 b t k)) ⟨g.val * 64 + d.val, by omega⟩ := by
  pointwise [rGrp, cat]

theorem rRms_at (y : FVec Ideal S8x8192x16x64 .f32) (gn : FVec Ideal S1024 .f32) (b : Fin 8) (t : Fin 8192) (g : Fin 16) (d : Fin 64) :
    rRms y gn (ix4 b t g d) = y (ix4 b t g d) * Ideal.rsqrt (Ideal.div (∑ e : Fin 64, y (ix4 b t g e) * y (ix4 b t g e))
      (Ideal.ofBits .f32 0x42800000#32) + Ideal.ofBits .f32 0x3727C5AC#32) * gn (ix1 ⟨g.val * 64 + d.val, by omega⟩) := by
  pointwise [rRms]

theorem rPre_at (x : FVec Ideal S8x8192x1024 .f32) (mo : FVec Ideal S8x6144 .f32) (y : FVec Ideal S8x8192x16x64 .f32)
    (w : FVec Ideal S1024x1024 .f32) (b : Fin 8) (t : Fin 8192) (j : Fin 1024) :
    rPre x mo y w (ix3 b t j) = Ideal.ofBits .f32 0x3FB504F3#32 * x (ix3 b t j) + (1 + modAt mo b 2048 (by omega) j)
      * ∑ k : Fin 1024, y (ix4 b t ⟨k.val / 64, by omega⟩ ⟨k.val % 64, by omega⟩) * w (ix2 k j) := by
  pointwise [rPre, modAt]

theorem rCen_at (z : FVec Ideal S8x8192x1024 .f32) (b : Fin 8) (t : Fin 8192) (j : Fin 1024) :
    rCen z (ix3 b t j) = centred (fun k => z (ix3 b t k)) j := by
  pointwise [rCen, rMean, centred]

theorem rNorm_at (z : FVec Ideal S8x8192x1024 .f32) (lg lb : FVec Ideal S1024 .f32) (b : Fin 8) (t : Fin 8192) (j : Fin 1024) :
    rNorm z lg lb (ix3 b t j) = normed (fun k => z (ix3 b t k)) (fun k => lg (ix1 k)) (fun k => lb (ix1 k)) j := by
  pointwise [rNorm, rMean, normed, rCen_at]

/-- A channel of a token's row over the root mean square of its group. -/
theorem rRow_at (a p : FVec Ideal S8x8192x512 .f32) (gn : FVec Ideal S1024 .f32) (b : Fin 8) (t : Fin 8192) (k : Fin 1024) :
    rRms (rGrp a p) gn (ix4 b t ⟨k.val / 64, by omega⟩ ⟨k.val % 64, by omega⟩)
      = rms (cat (fun k => a (ix3 b t k)) (fun k => p (ix3 b t k))) (fun k => gn (ix1 k)) k := by
  have hk : (⟨k.val / 64 * 64 + k.val % 64, by omega⟩ : Fin 1024) = k := Fin.ext (by simp only []; omega)
  rw [rRms_at]
  simp only [rGrp_at, hk, rms]

/-- The reference's result at one token, as the row function. -/
theorem rOut_at (a p : FVec Ideal S8x8192x512 .f32) (x : FVec Ideal S8x8192x1024 .f32) (mo : FVec Ideal S8x6144 .f32)
    (gn : FVec Ideal S1024 .f32) (w : FVec Ideal S1024x1024 .f32) (lg lb : FVec Ideal S1024 .f32) (b : Fin 8) (t : Fin 8192) (j : Fin 1024) :
    rOut a p x mo gn w lg lb (ix3 b t j) =
      normed (pre (cat (fun k => a (ix3 b t k)) (fun k => p (ix3 b t k))) (fun k => gn (ix1 k)) (fun k => x (ix3 b t k))
        (modAt mo b 2048 (by omega)) (fun k n => w (ix2 k n))) (fun k => lg (ix1 k)) (fun k => lb (ix1 k)) j := by
  simp only [rOut, rNorm_at, rPre_at, rRow_at]
  rfl

end Cert.OutRefIdeal.Row
-- ==== Proof.OutBlock.lean ====
/-
  The output projection kernel's result block, read as the row function of `OutRow.lean`.
-/
module

public import proofs.«01_k».proof.Proof.Gen.OutIdeal.Value
public import proofs.«01_k».proof.Proof.OutRow

@[expose] public section

set_option maxRecDepth 16384

noncomputable section

open Idealize.ShloMosaic Idealize.ShloMosaic.TcCoe

namespace Cert.OutIdeal.Block

open Cert.OutIdeal Cert.OutIdeal.Gen Cert.OutRow Cert.FfnRow

/-- One half of a block, channels before tokens, every group of 64 channels over its root mean square. -/
def half (a : FVec Ideal S512x1024 .f32) (g : FVec Ideal S8x64x1 .f32) : FVec Ideal S512x1024 .f32 :=
  shapeCast S512x1024 (mulf (mulf (shapeCast S8x64x1024 a shapeCasts_S512x1024_S8x64x1024)
    (broadcastTo S8x64x1024 (rsqrt (addf (divf (shapeCast S8x1x1024 (multiReduction .add [1] S8x1024
        (mulf (shapeCast S8x64x1024 a shapeCasts_S512x1024_S8x64x1024) (shapeCast S8x64x1024 a shapeCasts_S512x1024_S8x64x1024))
        0x00000000#32 reduces_S8x64x1024_S8x1024 (.inl rfl) rfl) shapeCasts_S8x1024_S8x1x1024)
        (broadcast S8x1x1024 (Scalar.ofBits (F := Ideal) .f32 0x42800000#32)))
        (broadcast S8x1x1024 (Scalar.ofBits (F := Ideal) .f32 0x3727C5AC#32)))) broadcasts_S8x1x1024_S8x64x1024))
    (broadcastTo S8x64x1024 g broadcasts_S8x64x1_S8x64x1024)) shapeCasts_S8x64x1024_S512x1024

theorem half_at (a : FVec Ideal S512x1024 .f32) (g : FVec Ideal S8x64x1 .f32) (c : Fin 512) (r : Fin 1024) :
    half a g (ix2 c r) = a (ix2 c r) * Ideal.rsqrt (Ideal.div (∑ d : Fin 64, a (ix2 ⟨c.val / 64 * 64 + d.val, by omega⟩ r)
      * a (ix2 ⟨c.val / 64 * 64 + d.val, by omega⟩ r)) (Ideal.ofBits .f32 0x42800000#32) + Ideal.ofBits .f32 0x3727C5AC#32)
      * g (ix3 ⟨c.val / 64, by omega⟩ ⟨c.val % 64, by omega⟩ 0) := by
  pointwise [half]

/-- The two halves of a block, stacked. -/
theorem pay2_eq (a : Vec Ideal S1x512x1024 .f32) (g : Vec Ideal S8x64x1 .f32) (p : Vec Ideal S1x512x1024 .bf16) (q : Vec Ideal S8x64x1 .f32) :
    k0_pay2 (F := Ideal) a g p q = truncf .bf16 (concatenate S1024x1024 0
      [⟨S512x1024, half (shapeCast S512x1024 a shapeCasts_S1x512x1024_S512x1024) (shapeCast S8x64x1 g shapeCasts_S8x64x1_S8x64x1)⟩,
       ⟨S512x1024, half (extf .f32 (shapeCast S512x1024 p shapeCasts_S1x512x1024_S512x1024) bitsLt_bf16_f32) (shapeCast S8x64x1 q shapeCasts_S8x64x1_S8x64x1)⟩]
      concatenates_S512x1024_S512x1024_S1024x1024_d0) bitsLt_bf16_f32 := rfl

/-- Channel `k` of row `r` of the stacked halves. -/
theorem pay2_at (a : Vec Ideal S1x512x1024 .f32) (p : Vec Ideal S1x512x1024 .bf16) (g : Vec Ideal S16x64x1 .f32) (k r : Fin 1024) :
    k0_pay2 (F := Ideal) a (View.ld g r0_1) p (View.ld g r0_2) (ix2 k r)
      = rms (cat (fun k => a (ix3 0 k r)) (fun k => p (ix3 0 k r))) (fun k => g (ix3 ⟨k.val / 64, by omega⟩ ⟨k.val % 64, by omega⟩ 0)) k := by
  rw [pay2_eq]
  unfold rms cat
  by_cases h : k.val < 512
  · pointwise [half_at]
    have hd : ∀ d : Fin 64, k.val / 64 * 64 + d.val < 512 := fun d => by omega
    simp only [h, hd, dif_pos]
  · pointwise [half_at]
    have hd : ∀ d : Fin 64, ¬ k.val / 64 * 64 + d.val < 512 := fun d => by omega
    have e1 : ∀ d : Fin 64, (⟨k.val / 64 * 64 + d.val - 512, by omega⟩ : Fin 512) = ⟨(k.val - 512) / 64 * 64 + d.val, by omega⟩ :=
      fun d => Fin.ext (by simp only []; omega)
    have e2 : (⟨8 + (k.val - 512) / 64, by omega⟩ : Fin 16) = ⟨k.val / 64, by omega⟩ := Fin.ext (by simp only []; omega)
    have e3 : (⟨(k.val - 512) % 64, by omega⟩ : Fin 64) = ⟨k.val % 64, by omega⟩ := Fin.ext (by simp only []; omega)
    simp only [h, hd, dif_neg, not_false_eq_true, e1, e2, e3]

/-- The normalised rows, from the stacked halves. -/
theorem pay3_at (y : FVec Ideal S1024x1024 .bf16) (w : Vec Ideal S1024x1024 .bf16) (x : Vec Ideal S1x1024x1024 .f32)
    (g : Vec Ideal S1x1x1024 .f32) (lg lb : Vec Ideal S1x1024 .f32) (r j : Fin 1024) :
    k0_pay3 (F := Ideal) y w x g lg lb (ix2 r j) = normed (fun j => Ideal.ofBits .f32 0x3FB504F3#32 * x (ix3 0 r j)
      + (1 + g (ix3 0 0 j)) * ∑ k : Fin 1024, y (ix2 k r) * w (ix2 k j)) (fun k => lg (ix2 0 k)) (fun k => lb (ix2 0 k)) j := by
  pointwise [k0_pay3, normed, centred]

/-- The kernel's result block at one token is the row function of the token's row. -/
theorem out_at (a : Vec Ideal S1x512x1024 .f32) (p : Vec Ideal S1x512x1024 .bf16) (x : Vec Ideal S1x1024x1024 .f32)
    (g : Vec Ideal S1x1x1024 .f32) (gn : Vec Ideal S16x64x1 .f32) (w : Vec Ideal S1024x1024 .bf16) (lg lb : Vec Ideal S1x1024 .f32)
    (r : Fin 1024) (j : Fin 1024) :
    out0_8 (F := Ideal) a p x g gn w lg lb (ix3 0 r j) =
      normed (pre (cat (fun k => a (ix3 0 k r)) (fun k => p (ix3 0 k r))) (fun k => gn (ix3 ⟨k.val / 64, by omega⟩ ⟨k.val % 64, by omega⟩ 0))
        (fun k => x (ix3 0 r k)) (fun k => g (ix3 0 0 k)) (fun k n => w (ix2 k n))) (fun k => lg (ix2 0 k)) (fun k => lb (ix2 0 k)) j := by
  frame_out
  refine Eq.trans (b := k0_pay3 (F := Ideal) (k0_pay2 (F := Ideal) a (View.ld gn r0_1) p (View.ld gn r0_2)) w x g lg lb (ix2 r j))
    (by pointwise [k0_pay1]) ?_
  rw [pay3_at]
  simp only [pay2_at]
  rfl

end Cert.OutIdeal.Block
-- ==== Proof.OutValue.lean ====
/-
  The output projection kernel's whole result array is the plain reference's: each grid point writes the rows of 1024
  tokens of one sequence, and together the 64 points write every row.
-/
module

public import proofs.«01_k».proof.Proof.OutBlock

@[expose] public section

set_option maxRecDepth 16384

noncomputable section

open Idealize.ShloMosaic Idealize.ShloMosaic.TcCoe Idealize.SL.Sem

namespace Cert.OutIdeal.Whole

open Cert.OutIdeal Cert.OutIdeal.Gen Cert.OutRow Cert.FfnRow Cert.OutRefIdeal.Row

variable (m : (ℓ : Loc nD τ sig) → Buf (Elt Ideal) ℓ)

/-- The reference's function of the kernel's arguments. -/
def goal (c : Dev nD) : FVec Ideal S8x8192x1024 .f32 :=
  rOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))

/-- Where each window's block stands at a grid point. -/
theorem index_maps : ∀ t : Fin grid0.N,
    win0_0.index t = ![(grid0.coords t 0).val, 0, (grid0.coords t 1).val]
    ∧ win0_1.index t = ![(grid0.coords t 0).val, 0, (grid0.coords t 1).val]
    ∧ win0_2.index t = ![(grid0.coords t 0).val, (grid0.coords t 1).val, 0]
    ∧ win0_3.index t = ![(grid0.coords t 0).val, 0, 0] ∧ win0_4.index t = ![0, 0, 0] ∧ win0_5.index t = ![0, 0]
    ∧ win0_6.index t = ![0, 0] ∧ win0_7.index t = ![0, 0]
    ∧ win0_8.index t = ![(grid0.coords t 0).val, (grid0.coords t 1).val, 0] := by
  decide +kernel

/-- The sequence a grid point works on. -/
def seqOf (t : Fin grid0.N) : Fin 8 := ⟨(grid0.coords t 0).val, (grid0.coords t 0).isLt⟩

/-- Row `r` of a grid point's block, as a token of its sequence. -/
def tokOf (t : Fin grid0.N) (r : Fin 1024) : Fin 8192 :=
  ⟨(grid0.coords t 1).val * 1024 + r.val, by have : (grid0.coords t 1).val < 8 := (grid0.coords t 1).isLt; omega⟩

/-- Where row `r`, column `j` of the result's block lies in the result. -/
theorem emb8 (t : Fin grid0.N) (r j : Fin 1024) :
    ((View.whole main_v9).slice (win0_8.rect t)).emb (ix3 0 r j) = ix3 (seqOf t) (tokOf t r) j := by
  blk_ext [index_maps t, seqOf, tokOf]

/-- The block of the attention's rows, read off the attention's result. -/
theorem blk0 (c : Dev nD) (t : Fin grid0.N) (k : Fin 512) (r : Fin 1024) :
    iblk m c 0 t (ix3 0 k r) = m ((c.tc : Thread nD τ).loc main_arg0) (ix3 (seqOf t) (tokOf t r) k) := by
  blk_simp [iblk]; entry_read; pointwise
  blk_ext [index_maps t, seqOf, tokOf]

/-- The block of the gating unit's rows, read off the unit's result. -/
theorem blk1 (c : Dev nD) (t : Fin grid0.N) (k : Fin 512) (r : Fin 1024) :
    iblk m c 1 t (ix3 0 k r) = m ((c.tc : Thread nD τ).loc main_arg1) (ix3 (seqOf t) (tokOf t r) k) := by
  blk_simp [iblk]; entry_read; pointwise
  blk_ext [index_maps t, seqOf, tokOf]

/-- The block of input rows, read off the input. -/
theorem blk2 (c : Dev nD) (t : Fin grid0.N) (r j : Fin 1024) :
    iblk m c 2 t (ix3 0 r j) = m ((c.tc : Thread nD τ).loc main_arg2) (ix3 (seqOf t) (tokOf t r) j) := by
  blk_ext [iblk, V, index_maps t, seqOf, tokOf]

/-- The block of output gates, read off the modulation table. -/
theorem blk3 (c : Dev nD) (t : Fin grid0.N) (k : Fin 1024) :
    iblk m c 3 t (ix3 0 0 k) = modAt (m ((c.tc : Thread nD τ).loc main_arg3)) (seqOf t) 2048 (by omega) k := by
  blk_simp [iblk]; entry_read; pointwise [modAt]
  blk_ext [index_maps t, seqOf, tokOf]

/-- Where the gains' block lies. -/
theorem emb4 (t : Fin grid0.N) (g : Fin 16) (d : Fin 64) :
    ((View.whole main_v5).slice (win0_4.rect t)).emb (ix3 g d 0) = ix3 g d 0 := by
  blk_ext [index_maps t]

/-- The groups' gains. -/
theorem blk4 (c : Dev nD) (t : Fin grid0.N) (g : Fin 16) (d : Fin 64) :
    iblk m c 4 t (ix3 g d 0) = m ((c.tc : Thread nD τ).loc main_arg4) (ix1 ⟨g.val * 64 + d.val, by omega⟩) := by
  blk_simp [iblk]; rw [emb4]; entry_read; pointwise

/-- The output weights. -/
theorem blk5 (c : Dev nD) (t : Fin grid0.N) (k n : Fin 1024) :
    iblk m c 5 t (ix2 k n) = m ((c.tc : Thread nD τ).loc main_arg5) (ix2 k n) := by
  blk_simp [iblk]; entry_read; pointwise
  blk_ext [index_maps t, seqOf, tokOf]

/-- The normalisation's scale. -/
theorem blk6 (c : Dev nD) (t : Fin grid0.N) (k : Fin 1024) :
    iblk m c 6 t (ix2 0 k) = m ((c.tc : Thread nD τ).loc main_arg6) (ix1 k) := by
  blk_simp [iblk]; entry_read; pointwise
  blk_ext [index_maps t, seqOf, tokOf]

/-- The normalisation's shift. -/
theorem blk7 (c : Dev nD) (t : Fin grid0.N) (k : Fin 1024) :
    iblk m c 7 t (ix2 0 k) = m ((c.tc : Thread nD τ).loc main_arg7) (ix1 k) := by
  blk_simp [iblk]; entry_read; pointwise
  blk_ext [index_maps t, seqOf, tokOf]

/-- The result array after the run. -/
theorem final (c : Dev nD) : (dats m 0 c).arrAt 8 cfg0.N = goal m c := by
  refine (dats m 0 c).arrAt_eq_of_covers 8 _ (by decide +kernel) fun t hf y => ?_
  blk_simp
  rw [after0_8]
  idx_vars y
  obtain rfl : y0 = 0 := Subsingleton.elim _ _
  rw [emb8 t y1 y2]
  refine (Block.out_at (iblk m c 0 t) (iblk m c 1 t) (iblk m c 2 t) (iblk m c 3 t) (iblk m c 4 t) (iblk m c 5 t) (iblk m c 6 t)
      (iblk m c 7 t) y1 y2).trans ?_
  have hk : ∀ k : Fin 1024, (⟨k.val / 64 * 64 + k.val % 64, by omega⟩ : Fin 1024) = k := fun k => Fin.ext (by simp only []; omega)
  simp only [blk0, blk1, blk2, blk3, blk4, blk5, blk6, blk7, hk]
  exact (rOut_at _ _ _ _ _ _ _ _ (seqOf t) (tokOf t y1) y2).symm

end Cert.OutIdeal.Whole
-- ==== Proof.OutClaims.lean ====
/-
  The output projection program's claims: its frames and its equality with the plain reference.
-/
module

public import proofs.«01_k».proof.Defs
public import proofs.«01_k».proof.Proof.Gen.Out.Frame
public import proofs.«01_k».proof.Proof.OutValue
public import Idealize.ShloMosaic.Lib.Quiescent

@[expose] public section

noncomputable section

open Idealize.ShloMosaic Idealize.ShloMosaic.TcCoe Idealize.SL.Sem

namespace Cert.Proof.OutClaims

/-- Every run of the kernel ends with its arguments unchanged. -/
theorem frame_p : Cert.quiescent_Out := fun m ρ _ => Cert.Out.Gen.frame m ρ
/-- The same, on the extended reals. -/
theorem frame_pi : Cert.quiescent_OutIdeal := fun m ρ _ => Cert.OutIdeal.Gen.frame m ρ
/-- Every run of the reference ends with its arguments unchanged. -/
theorem frame_ri : Cert.quiescent_OutRefIdeal := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)

/-- Kernel and reference compute the same array on the extended reals. -/
theorem algebraic : Cert.algebraic_OutIdeal_OutRefIdeal := by
  intro m ρ m' ρ' _ hag
  refine ⟨fun c => Cert.OutIdeal.Whole.goal m c, ?_, ?_⟩
  · exact (θ_run Cert.OutIdeal.defs _ _).mono (fun _ h c => ⟨(h c).1.trans (Cert.OutIdeal.Whole.final m c), (h c).2⟩)
      (Cert.OutIdeal.Value.run_blocks (F := Ideal) m ρ)
  · refine (θ_run Cert.OutRefIdeal.defs _ _).mono (fun _ h c => ⟨(h c).1.trans ?_, (h c).2⟩)
      (Cert.OutRefIdeal.Value.run (F := Ideal) m' ρ')
    rw [Cert.OutRefIdeal.Row.res_eq m' c]
    unfold Cert.OutIdeal.Whole.goal
    obtain ⟨h0, h1, h2, h3, h4, h5, h6, h7⟩ := hag c
    rw [h0, h1, h2, h3, h4, h5, h6, h7]

end Cert.Proof.OutClaims
-- ==== Proof.InRow.lean ====
/-
  The input projection of one token and the gating unit on its first two parts, on the extended reals, and the plain
  reference's six results read as them.

  A token's modulated row is multiplied with the input weights; the keys, queries, values and gates are parts of the
  product. The gating unit applies gelu to two parts of 512 channels, normalises the second in groups of 64, mixes it
  over the earlier tokens of its chunk of 128 with a causal matrix, adds a bias and multiplies with the first.
-/
module

public import proofs.«01_k».proof.Proof.Gen.InPRefIdeal.Run
public import proofs.«01_k».proof.Proof.FfnRow

@[expose] public section

set_option maxRecDepth 16384

noncomputable section

open Idealize.ShloMosaic Idealize.ShloMosaic.TcCoe

namespace Cert.InRow

/-- The tanh form of gelu. -/
def gelu (a : EReal) : EReal :=
  a * (Ideal.ofBits .f32 0x3F000000#32 * (1 + Ideal.tanh
    (Ideal.ofBits .f32 0x3F4C422A#32 * (a + Ideal.ofBits .f32 0x3D372713#32 * (a * a * a)))))

/-- A group of 64 channels less its mean. -/
def centred (z : Fin 64 → EReal) (d : Fin 64) : EReal := z d - Ideal.div (∑ e : Fin 64, z e) (Ideal.ofBits .f32 0x42800000#32)

/-- A group of 64 channels, normalised. -/
def normed (z lg lb : Fin 64 → EReal) (d : Fin 64) : EReal :=
  centred z d * Ideal.rsqrt (Ideal.div (∑ e : Fin 64, centred z e * centred z e) (Ideal.ofBits .f32 0x42800000#32)
    + Ideal.ofBits .f32 0x3727C5AC#32) * lg d + lb d

/-- The gating unit at place `t` of a chunk: `z s` is the normalised channel at place `s`, `w s` the mixing weight. -/
def mixed (u : EReal) (z w : Fin 128 → EReal) (b : EReal) (t : Fin 128) : EReal :=
  u * ((∑ s : Fin 128, z s * (if s.val ≤ t.val then w s else 0)) + b)

/-- A token's modulated row against one column of weights. -/
def dotp (x sc sh w : Fin 1024 → EReal) : EReal := ∑ k : Fin 1024, Cert.FfnRow.hid x sc sh k * w k

/-- A token's row of keys from its 512 projected key and value channels: per head 64 channels and 64 zeros, then the window's 128. -/
def kkRow (a : Fin 512 → EReal) (j : Fin 384) : EReal :=
  if j.val < 256 then (if j.val % 128 < 64 then a ⟨j.val / 128 * 64 + j.val % 64, by omega⟩ else 0) else a ⟨j.val - 128, by omega⟩

/-- Column of the input weights that the kernel's `n`-th key or compressed channel uses. -/
def colA (n : Fin 512) : Fin 2328 :=
  if n.val < 128 then ⟨768 + n.val, by omega⟩ else if n.val < 256 then ⟨1024 + (n.val - 128), by omega⟩
  else ⟨512 + (n.val - 256), by omega⟩

/-- Column of the input weights of row `r` of head `k`'s gates. -/
def colG (k : Fin 2) (r : Fin 12) : Fin 2328 := ⟨1280 + (k.val * 4 + r.val % 4) * 3 + r.val / 4, by omega⟩

end Cert.InRow

namespace Cert.InPRefIdeal.Row

open Cert.InPRefIdeal Cert.InPRefIdeal.Gen Cert.InRow

/-- The modulated input rows times the input weights. -/
def rProj (x : FVec Ideal S8x8192x1024 .f32) (mo : FVec Ideal S8x6144 .f32) (w : FVec Ideal S1024x2328 .f32) :
    FVec Ideal S8x8192x2328 .f32 :=
  Host.dotGeneral (φ₁ := .f32) (φ₂ := .f32) dot_S8x8192x1024_S1024x2328_S8x8192x2328_2_0_01_1_n_n none
    (addf (mulf x (broadcastInDim S8x8192x1024 ![0, 1, 2] bcast_S8x1x1024_S8x8192x1024_0_1_2
        (addf (broadcastInDim S8x1x1024 ![] bcast_S_S8x1x1024 (constant S_ .f32 0x3F800000#32))
          (extractStridedSlice S8x1x1024 ![0, 0, 1024] (broadcastInDim S8x1x6144 ![0, 2] bcast_S8x6144_S8x1x6144_0_2 mo)
            slices_S8x1x6144_S8x1x1024_0_0_1024))))
      (broadcastInDim S8x8192x1024 ![0, 1, 2] bcast_S8x1x1024_S8x8192x1024_0_1_2
        (extractStridedSlice S8x1x1024 ![0, 0, 0] (broadcastInDim S8x1x6144 ![0, 2] bcast_S8x6144_S8x1x6144_0_2 mo)
          slices_S8x1x6144_S8x1x1024_0_0_0))) w

/-- The keys: two heads with 64 channels and 64 zeros each, then the window's keys. -/
def rKK (p : FVec Ideal S8x8192x2328 .f32) : FVec Ideal S8x8192x384 .bf16 :=
  truncf .bf16 (concatenate S8x8192x384 2
    [⟨S8x8192x256, (shapeCast S8x8192x256 (pad S8x8192x2x128 ![0, 0, 0, 0] ![0, 0, 0, 64] ![0, 0, 0, 0]
        (shapeCast S8x8192x2x64 (extractStridedSlice S8x8192x128 ![0, 0, 768] p slices_S8x8192x2328_S8x8192x128_0_0_768)
          shapeCasts_S8x8192x128_S8x8192x2x64) (sitofp .f32 (constantI S_ 32 0#32))
        pads_S8x8192x2x64_S8x8192x2x128_000_000_000_0640 h_S_) shapeCasts_S8x8192x2x128_S8x8192x256 : FVec Ideal S8x8192x256 .f32)⟩,
     ⟨S8x8192x128, extractStridedSlice S8x8192x128 ![0, 0, 1024] p slices_S8x8192x2328_S8x8192x128_0_0_1024⟩]
    concatenates_S8x8192x256_S8x8192x128_S8x8192x384_d2) bitsLt_bf16_f32

/-- The compressed branch's keys, then its values. -/
def rKvc (p : FVec Ideal S8x8192x2328 .f32) : FVec Ideal S2x8x8192x128 .bf16 :=
  truncf .bf16 (concatenate S2x8x8192x128 0
    [⟨S1x8x8192x128, broadcastInDim S1x8x8192x128 ![1, 2, 3] bcast_S8x8192x128_S1x8x8192x128_1_2_3
        (extractStridedSlice S8x8192x128 ![0, 0, 512] p slices_S8x8192x2328_S8x8192x128_0_0_512)⟩,
     ⟨S1x8x8192x128, broadcastInDim S1x8x8192x128 ![1, 2, 3] bcast_S8x8192x128_S1x8x8192x128_1_2_3
        (extractStridedSlice S8x8192x128 ![0, 0, 640] p slices_S8x8192x2328_S8x8192x128_0_0_640)⟩]
    concatenates_S1x8x8192x128_S1x8x8192x128_S2x8x8192x128_d0) bitsLt_bf16_f32

/-- The queries, channels before positions. -/
def rQ (p : FVec Ideal S8x8192x2328 .f32) : FVec Ideal S8x512x8192 .bf16 :=
  truncf .bf16 (transpose S8x512x8192 [0, 2, 1] (extractStridedSlice S8x8192x512 ![0, 0, 0] p slices_S8x8192x2328_S8x8192x512_0_0_0)
    transposes_S8x8192x512_S8x512x8192_0_2_1) bitsLt_bf16_f32

/-- The values of the selected and of the window branch, channels before positions. -/
def rV (p : FVec Ideal S8x8192x2328 .f32) : FVec Ideal S8x256x8192 .bf16 :=
  truncf .bf16 (transpose S8x256x8192 [0, 2, 1] (concatenate S8x8192x256 2
    [⟨S8x8192x128, extractStridedSlice S8x8192x128 ![0, 0, 896] p slices_S8x8192x2328_S8x8192x128_0_0_896⟩,
     ⟨S8x8192x128, extractStridedSlice S8x8192x128 ![0, 0, 1152] p slices_S8x8192x2328_S8x8192x128_0_0_1152⟩]
    concatenates_S8x8192x128_S8x8192x128_S8x8192x256_d2) transposes_S8x8192x256_S8x256x8192_0_2_1) bitsLt_bf16_f32

/-- The gates, by head, branch and query head, with four rows of zeros. -/
def rG (p : FVec Ideal S8x8192x2328 .f32) : FVec Ideal S8x2x16x8192 .f32 :=
  pad S8x2x16x8192 ![0, 0, 0, 0] ![0, 0, 4, 0] ![0, 0, 0, 0]
    (shapeCast S8x2x12x8192 (transpose S8x2x3x4x8192 [0, 2, 4, 3, 1]
      (shapeCast S8x8192x2x4x3 (extractStridedSlice S8x8192x24 ![0, 0, 1280] p slices_S8x8192x2328_S8x8192x24_0_0_1280)
        shapeCasts_S8x8192x24_S8x8192x2x4x3) transposes_S8x8192x2x4x3_S8x2x3x4x8192_0_2_4_3_1) shapeCasts_S8x2x3x4x8192_S8x2x12x8192)
    (sitofp .f32 (constantI S_ 32 0#32)) pads_S8x2x12x8192_S8x2x16x8192_000_000_040_000 h_S_

/-- gelu of 512 channels of every row. -/
def rGelu (a : FVec Ideal S8x8192x512 .f32) : FVec Ideal S8x8192x512 .f32 :=
  mulf a (mulf (broadcastInDim S8x8192x512 ![] bcast_S_S8x8192x512 (constant S_ .f32 0x3F000000#32))
    (addf (broadcastInDim S8x8192x512 ![] bcast_S_S8x8192x512 (constant S_ .f32 0x3F800000#32))
      (Host.tanh (mulf (broadcastInDim S8x8192x512 ![] bcast_S_S8x8192x512 (constant S_ .f32 0x3F4C422A#32))
        (addf a (mulf (broadcastInDim S8x8192x512 ![] bcast_S_S8x8192x512 (constant S_ .f32 0x3D372713#32)) (mulf (mulf a a) a)))))))

/-- The mean of every group. -/
def rMean (z : FVec Ideal S8x8192x8x64 .f32) : FVec Ideal S8x8192x8x1 .f32 :=
  Host.divf (broadcastInDim S8x8192x8x1 ![0, 1, 2] bcast_S8x8192x8_S8x8192x8x1_0_1_2
      (Host.reduceAdd z (constant S_ .f32 0x00000000#32) reducesTo_S8x8192x8x64_S8x8192x8_d3 h_S_))
    (broadcastInDim S8x8192x8x1 ![] bcast_S_S8x8192x8x1 (constant S_ .f32 0x42800000#32))

/-- The groups less their means. -/
def rCen (z : FVec Ideal S8x8192x8x64 .f32) : FVec Ideal S8x8192x8x64 .f32 :=
  subf z (broadcastInDim S8x8192x8x64 ![0, 1, 2, 3] bcast_S8x8192x8x1_S8x8192x8x64_0_1_2_3 (rMean z))

/-- The normalised groups. -/
def rNorm (z : FVec Ideal S8x8192x8x64 .f32) (lg lb : FVec Ideal S512 .f32) : FVec Ideal S8x8192x8x64 .f32 :=
  addf (mulf (mulf (rCen z) (broadcastInDim S8x8192x8x64 ![0, 1, 2, 3] bcast_S8x8192x8x1_S8x8192x8x64_0_1_2_3
      (Host.rsqrt (addf (rMean (mulf (rCen z) (rCen z))) (broadcastInDim S8x8192x8x1 ![] bcast_S_S8x8192x8x1 (constant S_ .f32 0x3727C5AC#32))))))
      (broadcastInDim S8x8192x8x64 ![0, 1, 2, 3] bcast_S1x1x8x64_S8x8192x8x64_0_1_2_3
        (broadcastInDim S1x1x8x64 ![2, 3] bcast_S8x64_S1x1x8x64_2_3 (shapeCast S8x64 lg shapeCasts_S512_S8x64))))
    (broadcastInDim S8x8192x8x64 ![0, 1, 2, 3] bcast_S1x1x8x64_S8x8192x8x64_0_1_2_3
      (broadcastInDim S1x1x8x64 ![2, 3] bcast_S8x64_S1x1x8x64_2_3 (shapeCast S8x64 lb shapeCasts_S512_S8x64)))

/-- The mixing weights, zero above the diagonal. -/
def rMask (ws : FVec Ideal S8x128x128 .f32) : FVec Ideal S8x128x128 .f32 :=
  select (broadcastInDim S8x128x128 ![0, 1, 2] bcast_S1x128x128_S8x128x128_0_1_2
      (broadcastInDim S1x128x128 ![1, 2] bcast_S128x128_S1x128x128_1_2
        (select (cmpi .sge (addi (iotaInDim S128x128 32 0) (broadcastInDim S128x128 ![] bcast_S_S128x128 (constantI S_ 32 0#32))) (iotaInDim S128x128 32 1))
          (broadcastInDim S128x128 ![] bcast_S_S128x128 (constantI S_ 1 1#1)) (broadcastInDim S128x128 ![] bcast_S_S128x128 (constantI S_ 1 0#1)))))
    ws (broadcastInDim S8x128x128 ![] bcast_S_S8x128x128 (sitofp .f32 (constantI S_ 32 0#32)))

/-- The chunks mixed over their places, with the bias. -/
def rMix (z : FVec Ideal S8x8192x8x64 .f32) (w : FVec Ideal S8x128x128 .f32) (bs : FVec Ideal S8x128 .f32) :
    FVec Ideal S8x64x128x8x64 .f32 :=
  addf (transpose S8x64x128x8x64 [1, 2, 4, 0, 3]
      (Host.dotGeneral (φ₁ := .f32) (φ₂ := .f32) dot_S8x64x128x8x64_S8x128x128_S8x8x64x64x128_2_2_014_1_3_0 none
        (shapeCast S8x64x128x8x64 z shapeCasts_S8x8192x8x64_S8x64x128x8x64) w) transposes_S8x8x64x64x128_S8x64x128x8x64_1_2_4_0_3)
    (broadcastInDim S8x64x128x8x64 ![0, 1, 2, 3, 4] bcast_S1x1x128x8x1_S8x64x128x8x64_0_1_2_3_4
      (broadcastInDim S1x1x128x8x1 ![2, 3, 4] bcast_S128x8x1_S1x1x128x8x1_2_3_4
        (broadcastInDim S128x8x1 ![0, 1] bcast_S128x8_S128x8x1_0_1 (transpose S128x8 [1, 0] bs transposes_S8x128_S128x8_1_0))))

/-- The second part of the gating unit, cut in groups of 64. -/
def rGrp (p : FVec Ideal S8x8192x2328 .f32) : FVec Ideal S8x8192x8x64 .f32 :=
  shapeCast S8x8192x8x64 (rGelu (extractStridedSlice S8x8192x512 ![0, 0, 1816] p slices_S8x8192x2328_S8x8192x512_0_0_1816))
    shapeCasts_S8x8192x512_S8x8192x8x64

/-- The gating unit's result, channels before positions. -/
def rMlp (p : FVec Ideal S8x8192x2328 .f32) (lg lb : FVec Ideal S512 .f32) (ws : FVec Ideal S8x128x128 .f32)
    (bs : FVec Ideal S8x128 .f32) : FVec Ideal S8x512x8192 .bf16 :=
  truncf .bf16 (transpose S8x512x8192 [0, 2, 1]
    (mulf (rGelu (extractStridedSlice S8x8192x512 ![0, 0, 1304] p slices_S8x8192x2328_S8x8192x512_0_0_1304))
      (shapeCast S8x8192x512 (rMix (rNorm (rGrp p) lg lb) (rMask ws) bs) shapeCasts_S8x64x128x8x64_S8x8192x512))
    transposes_S8x8192x512_S8x512x8192_0_2_1) bitsLt_bf16_f32

/-- Column `o + k` of the modulation table of batch `b`. -/
abbrev modAt (mo : FVec Ideal S8x6144 .f32) (b : Fin 8) (o : Nat) (ho : o + 1024 ≤ 6144) (k : Fin 1024) : EReal :=
  mo (ix2 b ⟨o + k.val, by omega⟩)

/-- A projected channel is its column of weights against the modulated row. -/
theorem rProj_at (x : FVec Ideal S8x8192x1024 .f32) (mo : FVec Ideal S8x6144 .f32) (w : FVec Ideal S1024x2328 .f32)
    (b : Fin 8) (t : Fin 8192) (n : Fin 2328) :
    rProj x mo w (ix3 b t n) = dotp (fun k => x (ix3 b t k)) (modAt mo b 1024 (by omega))
      (modAt mo b 0 (by omega)) (fun k => w (ix2 k n)) := by
  pointwise [rProj, dotp, Cert.FfnRow.hid, modAt]

/-- The padding value: the integer zero, converted. -/
theorem zero_word : (FloatOps.sitofp FTy.f32 (0#32 : BitVec 32) : Ideal .f32) = 0 := by
  show ((((0#32 : BitVec 32).toInt : ℤ) : ℝ) : EReal) = 0
  simp

/-- The selected branch's keys. -/
theorem colA_slc (n : Fin 512) (h : n.val < 128) : colA n = ⟨768 + n.val, by omega⟩ := if_pos h

/-- The window's keys. -/
theorem colA_win (n : Fin 512) (h : ¬ n.val < 128) (h' : n.val < 256) : colA n = ⟨1024 + (n.val - 128), by omega⟩ :=
  (if_neg h).trans (if_pos h')

/-- The compressed branch's keys and values. -/
theorem colA_cmp (n : Fin 512) (h : ¬ n.val < 256) : colA n = ⟨512 + (n.val - 256), by omega⟩ :=
  (if_neg (by omega)).trans (if_neg h)

set_option maxHeartbeats 1000000 in
/-- A row of the keys. -/
theorem rKK_at (p : FVec Ideal S8x8192x2328 .f32) (b : Fin 8) (t : Fin 8192) (j : Fin 384) :
    rKK p (ix3 b t j) = kkRow (fun n => p (ix3 b t (colA n))) j := by
  pointwise [rKK]
  unfold kkRow
  by_cases h : j.val < 256
  · by_cases h' : j.val % 128 < 64
    · rw [dif_pos h, dif_pos ⟨by omega, h'⟩, if_pos h, if_pos h']
      exact congrArg (fun n => p (ix3 b t n)) ((Fin.ext (by simp only []; omega)).trans (colA_slc _ (by simp only []; omega)).symm)
    · rw [dif_pos h, dif_neg (fun e => h' e.2), if_pos h, if_neg h']
      exact zero_word
  · rw [dif_neg h, if_neg h]
    exact congrArg (fun n => p (ix3 b t n)) ((Fin.ext (by simp only []; omega)).trans
      (colA_win _ (by simp only []; omega) (by simp only []; omega)).symm)

/-- The compressed branch's keys and values, channel by channel. -/
theorem rKvc_at (p : FVec Ideal S8x8192x2328 .f32) (b : Fin 8) (t : Fin 8192) (k : Fin 2) (d : Fin 128) :
    rKvc p (ix4 k b t d) = p (ix3 b t ⟨512 + k.val * 128 + d.val, by omega⟩) := by
  pointwise [rKvc]
  fin_cases k
  · rfl
  · rfl

/-- A query channel. -/
theorem rQ_at (p : FVec Ideal S8x8192x2328 .f32) (b : Fin 8) (t : Fin 8192) (d : Fin 512) :
    rQ p (ix3 b d t) = p (ix3 b t ⟨d.val, by omega⟩) := by
  pointwise [rQ]

/-- A value channel. -/
theorem rV_at (p : FVec Ideal S8x8192x2328 .f32) (b : Fin 8) (t : Fin 8192) (k : Fin 2) (d : Fin 128) :
    rV p (ix3 b ⟨k.val * 128 + d.val, by omega⟩ t) = p (ix3 b t ⟨896 + k.val * 256 + d.val, by omega⟩) := by
  pointwise [rV]
  fin_cases k
  · rw [dif_pos (by simp only []; omega)]
    exact congrArg (fun n => p (ix3 b t n)) (Fin.ext (by simp only []; omega))
  · rw [dif_neg (by simp only []; omega)]
    exact congrArg (fun n => p (ix3 b t n)) (Fin.ext (by simp only []; omega))

/-- A gate. -/
theorem rG_at (p : FVec Ideal S8x8192x2328 .f32) (b : Fin 8) (t : Fin 8192) (k : Fin 2) (r : Fin 12) :
    rG p (ix4 b k ⟨r.val, by omega⟩ t) = p (ix3 b t (colG k r)) := by
  pointwise [rG, colG]
  exact congrArg (fun n => p (ix3 b t n)) (Fin.ext (by simp only [colG]; omega))

/-- A padding row of the gates. -/
theorem rG_pad (p : FVec Ideal S8x8192x2328 .f32) (b : Fin 8) (t : Fin 8192) (k : Fin 2) (r : Fin 4) :
    rG p (ix4 b k ⟨12 + r.val, by omega⟩ t) = 0 := by
  pointwise [rG]
  exact zero_word

/-- gelu, element by element. -/
theorem rGelu_at (a : FVec Ideal S8x8192x512 .f32) (b : Fin 8) (t : Fin 8192) (j : Fin 512) :
    rGelu a (ix3 b t j) = gelu (a (ix3 b t j)) := by
  pointwise [rGelu, gelu]

/-- An element less its group's mean. -/
theorem rCen_at (z : FVec Ideal S8x8192x8x64 .f32) (b : Fin 8) (t : Fin 8192) (g : Fin 8) (d : Fin 64) :
    rCen z (ix4 b t g d) = centred (fun e => z (ix4 b t g e)) d := by
  pointwise [rCen, rMean, centred]

/-- A normalised element. -/
theorem rNorm_at (z : FVec Ideal S8x8192x8x64 .f32) (lg lb : FVec Ideal S512 .f32) (b : Fin 8) (t : Fin 8192) (g : Fin 8) (d : Fin 64) :
    rNorm z lg lb (ix4 b t g d) = normed (fun e => z (ix4 b t g e)) (fun e => lg (ix1 ⟨g.val * 64 + e.val, by omega⟩))
      (fun e => lb (ix1 ⟨g.val * 64 + e.val, by omega⟩)) d := by
  pointwise [rNorm, rMean, normed, rCen_at]

/-- The reference's causal mask as it is computed from place numbers. -/
theorem mask_word : ∀ t s : Fin 128,
    Scalar.select (IntOp.cmpi .sge (IntOp.addi (BitVec.ofNat 32 t.val) 0#32) (BitVec.ofNat 32 s.val)) (1#1 : BitVec 1) 0#1
      = if s.val ≤ t.val then 1#1 else 0#1 := by
  decide +kernel

/-- A mixing weight after the mask. -/
theorem rMask_at (ws : FVec Ideal S8x128x128 .f32) (g : Fin 8) (t s : Fin 128) :
    rMask ws (ix3 g t s) = if s.val ≤ t.val then ws (ix3 g t s) else 0 := by
  pointwise [rMask]
  rw [mask_word]
  split
  · rfl
  · exact zero_word

/-- A chunk's element after mixing. -/
theorem rMix_at (z : FVec Ideal S8x8192x8x64 .f32) (w : FVec Ideal S8x128x128 .f32) (bs : FVec Ideal S8x128 .f32)
    (b : Fin 8) (n : Fin 64) (t : Fin 128) (g : Fin 8) (d : Fin 64) :
    rMix z w bs (ix5 b n t g d) = (∑ s : Fin 128, z (ix4 b ⟨n.val * 128 + s.val, by omega⟩ g d) * w (ix3 g t s)) + bs (ix2 g t) := by
  pointwise [rMix]

/-- An element of the gating unit's second part. -/
theorem rGrp_at (p : FVec Ideal S8x8192x2328 .f32) (b : Fin 8) (t : Fin 8192) (g : Fin 8) (d : Fin 64) :
    rGrp p (ix4 b t g d) = gelu (p (ix3 b t ⟨1816 + g.val * 64 + d.val, by omega⟩)) := by
  pointwise [rGrp, rGelu_at]
  exact congrArg (fun n => gelu (p (ix3 b t n))) (Fin.ext (by simp only []; omega))

/-- The gating unit's result at place `t` of chunk `n`, channel `d` of group `g`. -/
theorem rMlp_at (p : FVec Ideal S8x8192x2328 .f32) (lg lb : FVec Ideal S512 .f32) (ws : FVec Ideal S8x128x128 .f32)
    (bs : FVec Ideal S8x128 .f32) (b : Fin 8) (n : Fin 64) (t : Fin 128) (g : Fin 8) (d : Fin 64) :
    rMlp p lg lb ws bs (ix3 b ⟨g.val * 64 + d.val, by omega⟩ ⟨n.val * 128 + t.val, by omega⟩) =
      mixed (gelu (p (ix3 b ⟨n.val * 128 + t.val, by omega⟩ ⟨1304 + g.val * 64 + d.val, by omega⟩)))
        (fun s => normed (fun e => gelu (p (ix3 b ⟨n.val * 128 + s.val, by omega⟩ ⟨1816 + g.val * 64 + e.val, by omega⟩)))
          (fun e => lg (ix1 ⟨g.val * 64 + e.val, by omega⟩)) (fun e => lb (ix1 ⟨g.val * 64 + e.val, by omega⟩)) d)
        (fun s => ws (ix3 g t s)) (bs (ix2 g t)) t := by
  pointwise [rMlp, mixed, rMix_at, rNorm_at, rGelu_at, rMask_at, rGrp_at]
  rw [show (⟨1304 + (g.val * 64 + d.val), by omega⟩ : Fin 2328) = ⟨1304 + g.val * 64 + d.val, by omega⟩ from
    Fin.ext (by simp only []; omega)]

/-! ### The reference's results are its stages composed -/

variable (m' : (ℓ : Loc nD τ sig) → Buf (Elt Ideal) ℓ)

/-- The reference's projected rows. -/
abbrev proj (c : Dev nD) : FVec Ideal S8x8192x2328 .f32 :=
  rProj (m' ((c.tc : Thread nD τ).loc main_arg0)) (m' ((c.tc : Thread nD τ).loc main_arg1)) (m' ((c.tc : Thread nD τ).loc main_arg2))

/-- Every run of the reference ends with its six results the stages' and its arguments unchanged. -/
theorem run (ρ : Dev nD → PrngReg) :
    θ_run (defs (F := Ideal)) (onTc (τ := τ) (main (F := Ideal))) ⟨m', fun _ => 0, ρ⟩ fun r => ∀ c : Dev nD,
      r.2.mem ((c.tc : Thread nD τ).loc main_v101) = rKK (proj m' c)
      ∧ r.2.mem ((c.tc : Thread nD τ).loc main_v105) = rKvc (proj m' c)
      ∧ r.2.mem ((c.tc : Thread nD τ).loc main_v107) = rQ (proj m' c)
      ∧ r.2.mem ((c.tc : Thread nD τ).loc main_v108) = rV (proj m' c)
      ∧ r.2.mem ((c.tc : Thread nD τ).loc main_v98) = rG (proj m' c)
      ∧ r.2.mem ((c.tc : Thread nD τ).loc main_v110) = rMlp (proj m' c) (m' ((c.tc : Thread nD τ).loc main_arg3))
          (m' ((c.tc : Thread nD τ).loc main_arg4)) (m' ((c.tc : Thread nD τ).loc main_arg5)) (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  Value.run m' ρ

end Cert.InPRefIdeal.Row
-- ==== Proof.InBlock.lean ====
/-
  One grid point of the input projection kernel, on the extended reals: the six blocks it writes, read at an index as the
  row functions of the blocks it reads.
-/
module

public import proofs.«01_k».proof.Proof.Gen.InPIdeal.Value
public import proofs.«01_k».proof.Proof.InRow

@[expose] public section

set_option maxRecDepth 16384

noncomputable section

open Idealize.ShloMosaic Idealize.ShloMosaic.TcCoe

namespace Cert.InPIdeal.Block

open Cert.InPIdeal Cert.InPIdeal.Gen Cert.InRow

/-! ### The matrix products -/

/-- The modulated rows. -/
theorem pay3_at (x : Vec Ideal S1x1024x1024 .f32) (sc sh : Vec Ideal S1x1x1024 .f32) (r k : Fin 1024) :
    k0_pay3 (F := Ideal) x sc sh (ix2 r k) = Cert.FfnRow.hid (fun k => x (ix3 0 r k)) (fun k => sc (ix3 0 0 k)) (fun k => sh (ix3 0 0 k)) k := by
  pointwise [k0_pay3, Cert.FfnRow.hid]

/-- The gating unit's two inputs, channels before positions. -/
theorem pay4_at (x : Vec Ideal S1x1024x1024 .f32) (sc sh : Vec Ideal S1x1x1024 .f32) (w : Vec Ideal S1024x1024 .bf16) (n r : Fin 1024) :
    k0_pay4 (F := Ideal) x sc sh w (ix2 n r)
      = dotp (fun k => x (ix3 0 r k)) (fun k => sc (ix3 0 0 k)) (fun k => sh (ix3 0 0 k)) (fun k => w (ix2 n k)) := by
  pointwise [k0_pay4, dotp, pay3_at]
  exact Finset.sum_congr rfl fun k _ => mul_comm _ _

/-- The queries, values and gates, channels before positions. -/
theorem pay5_at (x : Vec Ideal S1x1024x1024 .f32) (sc sh : Vec Ideal S1x1x1024 .f32) (w : Vec Ideal S800x1024 .bf16) (n : Fin 800) (r : Fin 1024) :
    k0_pay5 (F := Ideal) x sc sh w (ix2 n r)
      = dotp (fun k => x (ix3 0 r k)) (fun k => sc (ix3 0 0 k)) (fun k => sh (ix3 0 0 k)) (fun k => w (ix2 n k)) := by
  pointwise [k0_pay5, dotp, pay3_at]
  exact Finset.sum_congr rfl fun k _ => mul_comm _ _

/-- The keys and the compressed branch's channels. -/
theorem pay10_at (x : Vec Ideal S1x1024x1024 .f32) (sc sh : Vec Ideal S1x1x1024 .f32) (w : Vec Ideal S1024x512 .bf16) (r : Fin 1024) (n : Fin 512) :
    k0_pay10 (F := Ideal) (k0_pay3 x sc sh) w (ix2 r n)
      = dotp (fun k => x (ix3 0 r k)) (fun k => sc (ix3 0 0 k)) (fun k => sh (ix3 0 0 k)) (fun k => w (ix2 k n)) := by
  pointwise [k0_pay10, dotp, pay3_at]

/-! ### The gating unit -/

/-- gelu of the first input. -/
theorem pay19_at (p : FVec Ideal S1024x1024 .f32) (n : Fin 512) (r : Fin 1024) :
    k0_pay19 p (ix2 n r) = gelu (p (ix2 ⟨n.val, by omega⟩ r)) := by
  pointwise [k0_pay19, gelu]

/-- gelu of the second input, in groups of 64 channels. -/
theorem pay20_at (p : FVec Ideal S1024x1024 .f32) (g : Fin 8) (d : Fin 64) (r : Fin 1024) :
    k0_pay20 p (ix3 g d r) = gelu (p (ix2 ⟨512 + (g.val * 64 + d.val), by omega⟩ r)) := by
  pointwise [k0_pay20, gelu]

/-- The groups' means. -/
theorem pay21_at (p : FVec Ideal S1024x1024 .f32) (g : Fin 8) (d : Fin 64) (r : Fin 1024) :
    k0_pay21 p (ix3 g d r) = Ideal.div (∑ e : Fin 64, k0_pay20 p (ix3 g e r)) (Ideal.ofBits .f32 0x42800000#32) := by
  pointwise [k0_pay21]

/-- The normalised groups. -/
theorem pay22_at (p : FVec Ideal S1024x1024 .f32) (lg lb : Vec Ideal S8x64x1 .f32) (g : Fin 8) (d : Fin 64) (r : Fin 1024) :
    k0_pay22 (k0_pay20 p) (k0_pay21 p) lg lb (ix3 g d r) = normed (fun e => gelu (p (ix2 ⟨512 + (g.val * 64 + e.val), by omega⟩ r)))
      (fun e => lg (ix3 g e 0)) (fun e => lb (ix3 g e 0)) d := by
  pointwise [k0_pay22, normed, centred, pay21_at, pay20_at]

/-- The eight chunks of a group of channels, one above the other. -/
def stack (v : FVec Ideal S64x1024 .bf16) : FVec Ideal S512x128 .bf16 :=
  concatenate S512x128 0 [
    ⟨S64x128, extractStridedSlice S64x128 ![0, 0] v slices_S64x1024_o0_0_S64x128⟩,
    ⟨S64x128, extractStridedSlice S64x128 ![0, 128] v slices_S64x1024_o0_128_S64x128⟩,
    ⟨S64x128, extractStridedSlice S64x128 ![0, 256] v slices_S64x1024_o0_256_S64x128⟩,
    ⟨S64x128, extractStridedSlice S64x128 ![0, 384] v slices_S64x1024_o0_384_S64x128⟩,
    ⟨S64x128, extractStridedSlice S64x128 ![0, 512] v slices_S64x1024_o0_512_S64x128⟩,
    ⟨S64x128, extractStridedSlice S64x128 ![0, 640] v slices_S64x1024_o0_640_S64x128⟩,
    ⟨S64x128, extractStridedSlice S64x128 ![0, 768] v slices_S64x1024_o0_768_S64x128⟩,
    ⟨S64x128, extractStridedSlice S64x128 ![0, 896] v slices_S64x1024_o0_896_S64x128⟩]
    concatenates_S64x128_S64x128_S64x128_S64x128_S64x128_S64x128_S64x128_S64x128_S512x128_d0

/-- Chunk `c` of the stack. -/
theorem stack_at (v : FVec Ideal S64x1024 .bf16) (c : Fin 8) (d : Fin 64) (s : Fin 128) :
    stack v (ix2 ⟨c.val * 64 + d.val, by omega⟩ s) = v (ix2 d ⟨c.val * 128 + s.val, by omega⟩) := by
  unfold stack
  fin_cases c
  · refine (concatenate_apply_piece (t := S512x128) 0 _ _ _ 0 (by show 0 < 8; decide) S64x128 _ rfl rfl 0 rfl (ix2 d s)
      (fun b hb => ?_) ?_).trans ?_
    · fin_cases b
      · exact absurd rfl hb
      · rfl
    · simp
    · pointwise
  · refine (concatenate_apply_piece (t := S512x128) 0 _ _ _ 1 (by show 1 < 8; decide) S64x128 _ rfl rfl 64 rfl (ix2 d s)
      (fun b hb => ?_) ?_).trans ?_
    · fin_cases b
      · exact absurd rfl hb
      · rfl
    · simp
    · pointwise
  · refine (concatenate_apply_piece (t := S512x128) 0 _ _ _ 2 (by show 2 < 8; decide) S64x128 _ rfl rfl 128 rfl (ix2 d s)
      (fun b hb => ?_) ?_).trans ?_
    · fin_cases b
      · exact absurd rfl hb
      · rfl
    · simp
    · pointwise
  · refine (concatenate_apply_piece (t := S512x128) 0 _ _ _ 3 (by show 3 < 8; decide) S64x128 _ rfl rfl 192 rfl (ix2 d s)
      (fun b hb => ?_) ?_).trans ?_
    · fin_cases b
      · exact absurd rfl hb
      · rfl
    · simp
    · pointwise
  · refine (concatenate_apply_piece (t := S512x128) 0 _ _ _ 4 (by show 4 < 8; decide) S64x128 _ rfl rfl 256 rfl (ix2 d s)
      (fun b hb => ?_) ?_).trans ?_
    · fin_cases b
      · exact absurd rfl hb
      · rfl
    · simp
    · pointwise
  · refine (concatenate_apply_piece (t := S512x128) 0 _ _ _ 5 (by show 5 < 8; decide) S64x128 _ rfl rfl 320 rfl (ix2 d s)
      (fun b hb => ?_) ?_).trans ?_
    · fin_cases b
      · exact absurd rfl hb
      · rfl
    · simp
    · pointwise
  · refine (concatenate_apply_piece (t := S512x128) 0 _ _ _ 6 (by show 6 < 8; decide) S64x128 _ rfl rfl 384 rfl (ix2 d s)
      (fun b hb => ?_) ?_).trans ?_
    · fin_cases b
      · exact absurd rfl hb
      · rfl
    · simp
    · pointwise
  · refine (concatenate_apply_piece (t := S512x128) 0 _ _ _ 7 (by show 7 < 8; decide) S64x128 _ rfl rfl 448 rfl (ix2 d s)
      (fun b hb => ?_) ?_).trans ?_
    · fin_cases b
      · exact absurd rfl hb
      · rfl
    · simp
    · pointwise

/-- One group of channels of the normalised input. -/
def group (vn : FVec Ideal S8x64x1024 .f32) (g : Nat) (hs : S8x64x1024.Slices ![g, 0, 0] S1x64x1024) : FVec Ideal S64x1024 .bf16 :=
  truncf .bf16 (shapeCast S64x1024 (extractStridedSlice S1x64x1024 ![g, 0, 0] vn hs) shapeCasts_S1x64x1024_S64x1024) bitsLt_bf16_f32

/-- An element of a group. -/
theorem group_at (vn : FVec Ideal S8x64x1024 .f32) (g : Fin 8) (hs : S8x64x1024.Slices ![g.val, 0, 0] S1x64x1024) (d : Fin 64) (r : Fin 1024) :
    group vn g.val hs (ix2 d r) = vn (ix3 g d r) := by
  pointwise [group]

/-- A group's chunks mixed over their places, before the bias. -/
def sv (vn : FVec Ideal S8x64x1024 .f32) (g : Nat) (hs : S8x64x1024.Slices ![g, 0, 0] S1x64x1024) (w : Vec Ideal S1x128x128 .f32) :
    FVec Ideal S512x128 .f32 :=
  matmul dot_S512x128_S128x128_S512x128_1_0_0_1_n_n none (stack (group vn g hs))
    (truncf .bf16 (select (cmpi .sle (iota .tc S128x128 32 [0] iota_S128x128_d0_w32) (iota .tc S128x128 32 [1] iota_S128x128_d1_w32))
      (shapeCast S128x128 w shapeCasts_S1x128x128_S128x128) (broadcast S128x128 (Scalar.ofBits (F := Ideal) .f32 0x00000000#32))) bitsLt_bf16_f32)
    (constant S512x128 .f32 0x00000000#32)

/-- The kernel's causal mask as it is computed from place numbers. -/
theorem mask_word : ∀ s t : Fin 128, IntOp.cmpi .sle (BitVec.ofNat 32 s.val) (BitVec.ofNat 32 t.val) = if s.val ≤ t.val then 1#1 else 0#1 := by
  decide +kernel

/-- An element of a group's mixed chunk. -/
theorem sv_at (vn : FVec Ideal S8x64x1024 .f32) (g : Fin 8) (hs : S8x64x1024.Slices ![g.val, 0, 0] S1x64x1024) (w : Vec Ideal S1x128x128 .f32)
    (c : Fin 8) (d : Fin 64) (t : Fin 128) :
    sv vn g.val hs w (ix2 ⟨c.val * 64 + d.val, by omega⟩ t)
      = ∑ s : Fin 128, vn (ix3 g d ⟨c.val * 128 + s.val, by omega⟩) * (if s.val ≤ t.val then w (ix3 0 s t) else 0) := by
  pointwise [sv, stack_at, group_at, mask_word]
  refine Finset.sum_congr rfl fun s _ => ?_
  by_cases h : s.val ≤ t.val
  · rw [if_pos h, if_pos h]; rfl
  · rw [if_neg h, if_neg h, mul_zero]; rfl

/-- One tile of the gating unit's result: 64 channels of one chunk. -/
def cell (u : FVec Ideal S512x1024 .f32) (z : FVec Ideal S512x128 .f32) (b : Vec Ideal S1x128 .f32) (r k o : Nat)
    (h1 : S512x1024.Slices ![r, k] S64x128) (h2 : S512x128.Slices ![o, 0] S64x128) : FVec Ideal S1x64x128 .bf16 :=
  shapeCast S1x64x128 (truncf .bf16 (mulf (extractStridedSlice S64x128 ![r, k] u h1)
    (addf (extractStridedSlice S64x128 ![o, 0] z h2) (broadcastTo S64x128 b broadcasts_S1x128_S64x128))) bitsLt_bf16_f32) shapeCasts_S64x128_S1x64x128

/-- The block of the gating unit's result, from its gelu, its normalised groups, the mixing matrices and the biases. -/
def mlpBlk (u : FVec Ideal S512x1024 .f32) (vn : FVec Ideal S8x64x1024 .f32) (w : Vec Ideal S8x128x128 .f32) (b : Vec Ideal S8x128 .f32)
    (n : Fin 512) (r : Fin 1024) : EReal :=
  mixed (u (ix2 n r)) (fun s => vn (ix3 ⟨n.val / 64, by omega⟩ ⟨n.val % 64, by omega⟩ ⟨r.val / 128 * 128 + s.val, by omega⟩))
    (fun s => w (ix3 ⟨n.val / 64, by omega⟩ s ⟨r.val % 128, by omega⟩)) (b (ix2 ⟨n.val / 64, by omega⟩ ⟨r.val % 128, by omega⟩))
    ⟨r.val % 128, by omega⟩

/-- A tile of the result is the block's function at the tile's place. -/
theorem tile_eq (u : FVec Ideal S512x1024 .f32) (vn : FVec Ideal S8x64x1024 .f32) (w : Vec Ideal S8x128x128 .f32) (b : Vec Ideal S8x128 .f32)
    (g c : Fin 8) (r k o : Nat) (hr : r = g.val * 64) (hk : k = c.val * 128) (ho : o = c.val * 64)
    (hs : S8x64x1024.Slices ![g.val, 0, 0] S1x64x1024) (h1 : S512x1024.Slices ![r, k] S64x128) (h2 : S512x128.Slices ![o, 0] S64x128)
    (hw : ∀ a, (![g.val, 0, 0] : Fin 3 → Nat) a + (![1, 128, 128] : Fin 3 → Nat) a ≤ S8x128x128.size a)
    (hb : ∀ a, (![g.val, 0] : Fin 2 → Nat) a + (![1, 128] : Fin 2 → Nat) a ≤ S8x128.size a)
    (x : S1x64x128.Idx) (n : Fin 512) (q : Fin 1024) (e1 : n.val = r + (x 1).val) (e2 : q.val = k + (x 2).val) :
    cell u (sv vn g.val hs (View.ld w (Rect.unit ![g.val, 0, 0] ![1, 128, 128] hw))) (View.ld b (Rect.unit ![g.val, 0] ![1, 128] hb))
      r k o h1 h2 x = mlpBlk u vn w b n q := by
  subst hr hk ho
  idx_vars x
  obtain rfl : x0 = 0 := Subsingleton.elim _ _
  have ln : g.val * 64 + x1.val < 512 := by omega
  have lq : c.val * 128 + x2.val < 1024 := by omega
  obtain rfl : n = ⟨g.val * 64 + x1.val, ln⟩ := Fin.ext e1
  obtain rfl : q = ⟨c.val * 128 + x2.val, lq⟩ := Fin.ext e2
  have g1 : (g.val * 64 + x1.val) / 64 = g.val := by omega
  have g2 : (g.val * 64 + x1.val) % 64 = x1.val := by omega
  have c1 : (c.val * 128 + x2.val) / 128 = c.val := by omega
  have c2 : (c.val * 128 + x2.val) % 128 = x2.val := by omega
  pointwise [cell, sv_at, mlpBlk, mixed]
  simp only [g1, g2, c1, c2, Fin.eta]

/-! ### The six blocks -/

variable (m : (ℓ : Loc nD τ sig) → Buf (Elt Ideal) ℓ) (c : Dev nD) (t : Fin cfg0.N)

/-- One column of weights against the block's token `r`. -/
def tok (r : Fin 1024) (w : Fin 1024 → EReal) : EReal :=
  dotp (fun k => iblk m c 0 t (ix3 0 r k)) (fun k => iblk m c 1 t (ix3 0 0 k)) (fun k => iblk m c 2 t (ix3 0 0 k)) w

/-- Key or compressed channel `n` of token `r`. -/
def tokA (r : Fin 1024) (n : Fin 512) : EReal := tok m c t r (fun q => iblk m c 3 t (ix2 q n))

/-- Channel `n` of token `r` by the transposed weights. -/
def tokT (r : Fin 1024) (n : Fin 1824) : EReal := tok m c t r (fun q => iblk m c 4 t (ix2 n q))

/-- The kernel's key product, channel by channel. -/
theorem tokA_at (r : Fin 1024) (n : Fin 512) :
    k0_pay10 (F := Ideal) (k0_pay3 (iblk m c 0 t) (iblk m c 1 t) (iblk m c 2 t)) (iblk m c 3 t) (ix2 r n) = tokA m c t r n :=
  pay10_at _ _ _ _ r n

/-- The kernel's product for queries, values and gates, channel by channel. -/
theorem tokT_at (r : Fin 1024) (n : Fin 800) :
    k0_pay5 (F := Ideal) (iblk m c 0 t) (iblk m c 1 t) (iblk m c 2 t)
      (View.ld (iblk m c 4 t) (Rect.unit (s := S1824x1024) ![1024, 0] ![800, 1024] inb_S1824x1024_S800x1024_1024_0)) (ix2 n r)
      = tokT m c t r ⟨1024 + n.val, by omega⟩ := by
  pointwise [pay5_at, tokT, tok]

/-- The gating unit's two inputs in this block. -/
def uvBlk : FVec Ideal S1024x1024 .f32 :=
  k0_pay4 (F := Ideal) (iblk m c 0 t) (iblk m c 1 t) (iblk m c 2 t)
    (View.ld (iblk m c 4 t) (Rect.unit (s := S1824x1024) ![0, 0] S1024x1024.size inb_S1824x1024_S1024x1024_0_0))

/-- A channel of the gating unit's inputs. -/
theorem uvBlk_at (n r : Fin 1024) : uvBlk m c t (ix2 n r) = tokT m c t r ⟨n.val, by omega⟩ := by
  pointwise [uvBlk, pay4_at, tokT, tok]

/-- The gating unit's block. -/
theorem out14_tiles (n : Fin 512) (r : Fin 1024) : (outsAt0 m c t).2.2.2.2.2 (ix3 0 n r)
    = mlpBlk (k0_pay19 (uvBlk m c t)) (k0_pay22 (k0_pay20 (uvBlk m c t)) (k0_pay21 (uvBlk m c t)) (iblk m c 5 t) (iblk m c 6 t))
        (iblk m c 7 t) (iblk m c 8 t) n r := by
  rw [outsAt0]
  frame_out
  canon_tiles x h
  · exact tile_eq _ _ _ _ 7 7 448 896 448 rfl rfl rfl (by decide) (by decide) (by decide) inb_S8x128x128_S1x128x128_7_0_0 inb_S8x128_S1x128_7_0 x n r h1 h2
  · exact tile_eq _ _ _ _ 7 6 448 768 384 rfl rfl rfl (by decide) (by decide) (by decide) inb_S8x128x128_S1x128x128_7_0_0 inb_S8x128_S1x128_7_0 x n r h1 h2
  · exact tile_eq _ _ _ _ 7 5 448 640 320 rfl rfl rfl (by decide) (by decide) (by decide) inb_S8x128x128_S1x128x128_7_0_0 inb_S8x128_S1x128_7_0 x n r h1 h2
  · exact tile_eq _ _ _ _ 7 4 448 512 256 rfl rfl rfl (by decide) (by decide) (by decide) inb_S8x128x128_S1x128x128_7_0_0 inb_S8x128_S1x128_7_0 x n r h1 h2
  · exact tile_eq _ _ _ _ 7 3 448 384 192 rfl rfl rfl (by decide) (by decide) (by decide) inb_S8x128x128_S1x128x128_7_0_0 inb_S8x128_S1x128_7_0 x n r h1 h2
  · exact tile_eq _ _ _ _ 7 2 448 256 128 rfl rfl rfl (by decide) (by decide) (by decide) inb_S8x128x128_S1x128x128_7_0_0 inb_S8x128_S1x128_7_0 x n r h1 h2
  · exact tile_eq _ _ _ _ 7 1 448 128 64 rfl rfl rfl (by decide) (by decide) (by decide) inb_S8x128x128_S1x128x128_7_0_0 inb_S8x128_S1x128_7_0 x n r h1 h2
  · exact tile_eq _ _ _ _ 7 0 448 0 0 rfl rfl rfl (by decide) (by decide) (by decide) inb_S8x128x128_S1x128x128_7_0_0 inb_S8x128_S1x128_7_0 x n r h1 (h2.trans (Nat.zero_add _).symm)
  · exact tile_eq _ _ _ _ 6 7 384 896 448 rfl rfl rfl (by decide) (by decide) (by decide) inb_S8x128x128_S1x128x128_6_0_0 inb_S8x128_S1x128_6_0 x n r h1 h2
  · exact tile_eq _ _ _ _ 6 6 384 768 384 rfl rfl rfl (by decide) (by decide) (by decide) inb_S8x128x128_S1x128x128_6_0_0 inb_S8x128_S1x128_6_0 x n r h1 h2
  · exact tile_eq _ _ _ _ 6 5 384 640 320 rfl rfl rfl (by decide) (by decide) (by decide) inb_S8x128x128_S1x128x128_6_0_0 inb_S8x128_S1x128_6_0 x n r h1 h2
  · exact tile_eq _ _ _ _ 6 4 384 512 256 rfl rfl rfl (by decide) (by decide) (by decide) inb_S8x128x128_S1x128x128_6_0_0 inb_S8x128_S1x128_6_0 x n r h1 h2
  · exact tile_eq _ _ _ _ 6 3 384 384 192 rfl rfl rfl (by decide) (by decide) (by decide) inb_S8x128x128_S1x128x128_6_0_0 inb_S8x128_S1x128_6_0 x n r h1 h2
  · exact tile_eq _ _ _ _ 6 2 384 256 128 rfl rfl rfl (by decide) (by decide) (by decide) inb_S8x128x128_S1x128x128_6_0_0 inb_S8x128_S1x128_6_0 x n r h1 h2
  · exact tile_eq _ _ _ _ 6 1 384 128 64 rfl rfl rfl (by decide) (by decide) (by decide) inb_S8x128x128_S1x128x128_6_0_0 inb_S8x128_S1x128_6_0 x n r h1 h2
  · exact tile_eq _ _ _ _ 6 0 384 0 0 rfl rfl rfl (by decide) (by decide) (by decide) inb_S8x128x128_S1x128x128_6_0_0 inb_S8x128_S1x128_6_0 x n r h1 (h2.trans (Nat.zero_add _).symm)
  · exact tile_eq _ _ _ _ 5 7 320 896 448 rfl rfl rfl (by decide) (by decide) (by decide) inb_S8x128x128_S1x128x128_5_0_0 inb_S8x128_S1x128_5_0 x n r h1 h2
  · exact tile_eq _ _ _ _ 5 6 320 768 384 rfl rfl rfl (by decide) (by decide) (by decide) inb_S8x128x128_S1x128x128_5_0_0 inb_S8x128_S1x128_5_0 x n r h1 h2
  · exact tile_eq _ _ _ _ 5 5 320 640 320 rfl rfl rfl (by decide) (by decide) (by decide) inb_S8x128x128_S1x128x128_5_0_0 inb_S8x128_S1x128_5_0 x n r h1 h2
  · exact tile_eq _ _ _ _ 5 4 320 512 256 rfl rfl rfl (by decide) (by decide) (by decide) inb_S8x128x128_S1x128x128_5_0_0 inb_S8x128_S1x128_5_0 x n r h1 h2
  · exact tile_eq _ _ _ _ 5 3 320 384 192 rfl rfl rfl (by decide) (by decide) (by decide) inb_S8x128x128_S1x128x128_5_0_0 inb_S8x128_S1x128_5_0 x n r h1 h2
  · exact tile_eq _ _ _ _ 5 2 320 256 128 rfl rfl rfl (by decide) (by decide) (by decide) inb_S8x128x128_S1x128x128_5_0_0 inb_S8x128_S1x128_5_0 x n r h1 h2
  · exact tile_eq _ _ _ _ 5 1 320 128 64 rfl rfl rfl (by decide) (by decide) (by decide) inb_S8x128x128_S1x128x128_5_0_0 inb_S8x128_S1x128_5_0 x n r h1 h2
  · exact tile_eq _ _ _ _ 5 0 320 0 0 rfl rfl rfl (by decide) (by decide) (by decide) inb_S8x128x128_S1x128x128_5_0_0 inb_S8x128_S1x128_5_0 x n r h1 (h2.trans (Nat.zero_add _).symm)
  · exact tile_eq _ _ _ _ 4 7 256 896 448 rfl rfl rfl (by decide) (by decide) (by decide) inb_S8x128x128_S1x128x128_4_0_0 inb_S8x128_S1x128_4_0 x n r h1 h2
  · exact tile_eq _ _ _ _ 4 6 256 768 384 rfl rfl rfl (by decide) (by decide) (by decide) inb_S8x128x128_S1x128x128_4_0_0 inb_S8x128_S1x128_4_0 x n r h1 h2
  · exact tile_eq _ _ _ _ 4 5 256 640 320 rfl rfl rfl (by decide) (by decide) (by decide) inb_S8x128x128_S1x128x128_4_0_0 inb_S8x128_S1x128_4_0 x n r h1 h2
  · exact tile_eq _ _ _ _ 4 4 256 512 256 rfl rfl rfl (by decide) (by decide) (by decide) inb_S8x128x128_S1x128x128_4_0_0 inb_S8x128_S1x128_4_0 x n r h1 h2
  · exact tile_eq _ _ _ _ 4 3 256 384 192 rfl rfl rfl (by decide) (by decide) (by decide) inb_S8x128x128_S1x128x128_4_0_0 inb_S8x128_S1x128_4_0 x n r h1 h2
  · exact tile_eq _ _ _ _ 4 2 256 256 128 rfl rfl rfl (by decide) (by decide) (by decide) inb_S8x128x128_S1x128x128_4_0_0 inb_S8x128_S1x128_4_0 x n r h1 h2
  · exact tile_eq _ _ _ _ 4 1 256 128 64 rfl rfl rfl (by decide) (by decide) (by decide) inb_S8x128x128_S1x128x128_4_0_0 inb_S8x128_S1x128_4_0 x n r h1 h2
  · exact tile_eq _ _ _ _ 4 0 256 0 0 rfl rfl rfl (by decide) (by decide) (by decide) inb_S8x128x128_S1x128x128_4_0_0 inb_S8x128_S1x128_4_0 x n r h1 (h2.trans (Nat.zero_add _).symm)
  · exact tile_eq _ _ _ _ 3 7 192 896 448 rfl rfl rfl (by decide) (by decide) (by decide) inb_S8x128x128_S1x128x128_3_0_0 inb_S8x128_S1x128_3_0 x n r h1 h2
  · exact tile_eq _ _ _ _ 3 6 192 768 384 rfl rfl rfl (by decide) (by decide) (by decide) inb_S8x128x128_S1x128x128_3_0_0 inb_S8x128_S1x128_3_0 x n r h1 h2
  · exact tile_eq _ _ _ _ 3 5 192 640 320 rfl rfl rfl (by decide) (by decide) (by decide) inb_S8x128x128_S1x128x128_3_0_0 inb_S8x128_S1x128_3_0 x n r h1 h2
  · exact tile_eq _ _ _ _ 3 4 192 512 256 rfl rfl rfl (by decide) (by decide) (by decide) inb_S8x128x128_S1x128x128_3_0_0 inb_S8x128_S1x128_3_0 x n r h1 h2
  · exact tile_eq _ _ _ _ 3 3 192 384 192 rfl rfl rfl (by decide) (by decide) (by decide) inb_S8x128x128_S1x128x128_3_0_0 inb_S8x128_S1x128_3_0 x n r h1 h2
  · exact tile_eq _ _ _ _ 3 2 192 256 128 rfl rfl rfl (by decide) (by decide) (by decide) inb_S8x128x128_S1x128x128_3_0_0 inb_S8x128_S1x128_3_0 x n r h1 h2
  · exact tile_eq _ _ _ _ 3 1 192 128 64 rfl rfl rfl (by decide) (by decide) (by decide) inb_S8x128x128_S1x128x128_3_0_0 inb_S8x128_S1x128_3_0 x n r h1 h2
  · exact tile_eq _ _ _ _ 3 0 192 0 0 rfl rfl rfl (by decide) (by decide) (by decide) inb_S8x128x128_S1x128x128_3_0_0 inb_S8x128_S1x128_3_0 x n r h1 (h2.trans (Nat.zero_add _).symm)
  · exact tile_eq _ _ _ _ 2 7 128 896 448 rfl rfl rfl (by decide) (by decide) (by decide) inb_S8x128x128_S1x128x128_2_0_0 inb_S8x128_S1x128_2_0 x n r h1 h2
  · exact tile_eq _ _ _ _ 2 6 128 768 384 rfl rfl rfl (by decide) (by decide) (by decide) inb_S8x128x128_S1x128x128_2_0_0 inb_S8x128_S1x128_2_0 x n r h1 h2
  · exact tile_eq _ _ _ _ 2 5 128 640 320 rfl rfl rfl (by decide) (by decide) (by decide) inb_S8x128x128_S1x128x128_2_0_0 inb_S8x128_S1x128_2_0 x n r h1 h2
  · exact tile_eq _ _ _ _ 2 4 128 512 256 rfl rfl rfl (by decide) (by decide) (by decide) inb_S8x128x128_S1x128x128_2_0_0 inb_S8x128_S1x128_2_0 x n r h1 h2
  · exact tile_eq _ _ _ _ 2 3 128 384 192 rfl rfl rfl (by decide) (by decide) (by decide) inb_S8x128x128_S1x128x128_2_0_0 inb_S8x128_S1x128_2_0 x n r h1 h2
  · exact tile_eq _ _ _ _ 2 2 128 256 128 rfl rfl rfl (by decide) (by decide) (by decide) inb_S8x128x128_S1x128x128_2_0_0 inb_S8x128_S1x128_2_0 x n r h1 h2
  · exact tile_eq _ _ _ _ 2 1 128 128 64 rfl rfl rfl (by decide) (by decide) (by decide) inb_S8x128x128_S1x128x128_2_0_0 inb_S8x128_S1x128_2_0 x n r h1 h2
  · exact tile_eq _ _ _ _ 2 0 128 0 0 rfl rfl rfl (by decide) (by decide) (by decide) inb_S8x128x128_S1x128x128_2_0_0 inb_S8x128_S1x128_2_0 x n r h1 (h2.trans (Nat.zero_add _).symm)
  · exact tile_eq _ _ _ _ 1 7 64 896 448 rfl rfl rfl (by decide) (by decide) (by decide) inb_S8x128x128_S1x128x128_1_0_0 inb_S8x128_S1x128_1_0 x n r h1 h2
  · exact tile_eq _ _ _ _ 1 6 64 768 384 rfl rfl rfl (by decide) (by decide) (by decide) inb_S8x128x128_S1x128x128_1_0_0 inb_S8x128_S1x128_1_0 x n r h1 h2
  · exact tile_eq _ _ _ _ 1 5 64 640 320 rfl rfl rfl (by decide) (by decide) (by decide) inb_S8x128x128_S1x128x128_1_0_0 inb_S8x128_S1x128_1_0 x n r h1 h2
  · exact tile_eq _ _ _ _ 1 4 64 512 256 rfl rfl rfl (by decide) (by decide) (by decide) inb_S8x128x128_S1x128x128_1_0_0 inb_S8x128_S1x128_1_0 x n r h1 h2
  · exact tile_eq _ _ _ _ 1 3 64 384 192 rfl rfl rfl (by decide) (by decide) (by decide) inb_S8x128x128_S1x128x128_1_0_0 inb_S8x128_S1x128_1_0 x n r h1 h2
  · exact tile_eq _ _ _ _ 1 2 64 256 128 rfl rfl rfl (by decide) (by decide) (by decide) inb_S8x128x128_S1x128x128_1_0_0 inb_S8x128_S1x128_1_0 x n r h1 h2
  · exact tile_eq _ _ _ _ 1 1 64 128 64 rfl rfl rfl (by decide) (by decide) (by decide) inb_S8x128x128_S1x128x128_1_0_0 inb_S8x128_S1x128_1_0 x n r h1 h2
  · exact tile_eq _ _ _ _ 1 0 64 0 0 rfl rfl rfl (by decide) (by decide) (by decide) inb_S8x128x128_S1x128x128_1_0_0 inb_S8x128_S1x128_1_0 x n r h1 (h2.trans (Nat.zero_add _).symm)
  · exact tile_eq _ _ _ _ 0 7 0 896 448 rfl rfl rfl (by decide) (by decide) (by decide) inb_S8x128x128_S1x128x128_0_0_0 inb_S8x128_S1x128_0_0 x n r (h1.trans (Nat.zero_add _).symm) h2
  · exact tile_eq _ _ _ _ 0 6 0 768 384 rfl rfl rfl (by decide) (by decide) (by decide) inb_S8x128x128_S1x128x128_0_0_0 inb_S8x128_S1x128_0_0 x n r (h1.trans (Nat.zero_add _).symm) h2
  · exact tile_eq _ _ _ _ 0 5 0 640 320 rfl rfl rfl (by decide) (by decide) (by decide) inb_S8x128x128_S1x128x128_0_0_0 inb_S8x128_S1x128_0_0 x n r (h1.trans (Nat.zero_add _).symm) h2
  · exact tile_eq _ _ _ _ 0 4 0 512 256 rfl rfl rfl (by decide) (by decide) (by decide) inb_S8x128x128_S1x128x128_0_0_0 inb_S8x128_S1x128_0_0 x n r (h1.trans (Nat.zero_add _).symm) h2
  · exact tile_eq _ _ _ _ 0 3 0 384 192 rfl rfl rfl (by decide) (by decide) (by decide) inb_S8x128x128_S1x128x128_0_0_0 inb_S8x128_S1x128_0_0 x n r (h1.trans (Nat.zero_add _).symm) h2
  · exact tile_eq _ _ _ _ 0 2 0 256 128 rfl rfl rfl (by decide) (by decide) (by decide) inb_S8x128x128_S1x128x128_0_0_0 inb_S8x128_S1x128_0_0 x n r (h1.trans (Nat.zero_add _).symm) h2
  · exact tile_eq _ _ _ _ 0 1 0 128 64 rfl rfl rfl (by decide) (by decide) (by decide) inb_S8x128x128_S1x128x128_0_0_0 inb_S8x128_S1x128_0_0 x n r (h1.trans (Nat.zero_add _).symm) h2
  · exact tile_eq _ _ _ _ 0 0 0 0 0 rfl rfl rfl (by decide) (by decide) (by decide) inb_S8x128x128_S1x128x128_0_0_0 inb_S8x128_S1x128_0_0 x n r (h1.trans (Nat.zero_add _).symm) (h2.trans (Nat.zero_add _).symm)

/-- The gating unit's block, from the block's tokens. -/
theorem out14 (g : Fin 8) (d : Fin 64) (n : Fin 8) (s : Fin 128) :
    (outsAt0 m c t).2.2.2.2.2 (ix3 0 ⟨g.val * 64 + d.val, by omega⟩ ⟨n.val * 128 + s.val, by omega⟩)
      = mixed (gelu (tokT m c t ⟨n.val * 128 + s.val, by omega⟩ ⟨g.val * 64 + d.val, by omega⟩))
          (fun s => normed (fun e => gelu (tokT m c t ⟨n.val * 128 + s.val, by omega⟩ ⟨512 + (g.val * 64 + e.val), by omega⟩))
            (fun e => iblk m c 5 t (ix3 g e 0)) (fun e => iblk m c 6 t (ix3 g e 0)) d)
          (fun r => iblk m c 7 t (ix3 g r s)) (iblk m c 8 t (ix2 g s)) s := by
  have g1 : (g.val * 64 + d.val) / 64 = g.val := by omega
  have g2 : (g.val * 64 + d.val) % 64 = d.val := by omega
  have c1 : (n.val * 128 + s.val) / 128 = n.val := by omega
  have c2 : (n.val * 128 + s.val) % 128 = s.val := by omega
  rw [out14_tiles]
  simp only [mlpBlk, g1, g2, c1, c2, Fin.eta, pay19_at, pay22_at, uvBlk_at]

/-- The queries' block. -/
theorem out11 (d : Fin 512) (r : Fin 1024) : (outsAt0 m c t).2.2.1 (ix3 0 d r)
    = tokT m c t r ⟨1024 + d.val, by omega⟩ := by
  rw [outsAt0]
  frame_out
  pointwise [k0_pay6]
  exact tokT_at m c t r ⟨d.val, by omega⟩

/-- The values' block. -/
theorem out12 (d : Fin 256) (r : Fin 1024) : (outsAt0 m c t).2.2.2.1 (ix3 0 d r)
    = tokT m c t r ⟨1536 + d.val, by omega⟩ := by
  rw [outsAt0]
  frame_out
  pointwise [k0_pay7]
  exact (tokT_at m c t r ⟨512 + d.val, by omega⟩).trans (congrArg (tokT m c t r) (Fin.ext (by simp only []; omega)))

/-- The gates' block. -/
theorem out13 (k : Fin 2) (g : Fin 16) (r : Fin 1024) : (outsAt0 m c t).2.2.2.2.1 (ix4 0 k g r)
    = tokT m c t r ⟨1792 + (k.val * 16 + g.val), by omega⟩ := by
  rw [outsAt0]
  frame_out
  pointwise [k0_pay8, k0_pay9]
  exact (tokT_at m c t r ⟨768 + (k.val * 16 + g.val), by omega⟩).trans (congrArg (tokT m c t r) (Fin.ext (by simp only []; omega)))

/-- The compressed branch's block. -/
theorem out10 (k : Fin 2) (r : Fin 1024) (d : Fin 128) : (outsAt0 m c t).2.1 (ix4 k 0 r d)
    = tokA m c t r ⟨256 + (k.val * 128 + d.val), by omega⟩ := by
  rw [outsAt0]
  frame_out
  canon_tiles x h
  · idx_vars x
    obtain rfl : x0 = 0 := Subsingleton.elim _ _
    obtain rfl : x1 = 0 := Subsingleton.elim _ _
    obtain rfl : r = x2 := Fin.ext h2
    obtain rfl : d = x3 := Fin.ext h3
    obtain rfl : k = 1 := Fin.ext h0
    pointwise [k0_pay18, tokA_at]
    exact congrArg (tokA m c t r) (Fin.ext (by simp only []; omega))
  · idx_vars x
    obtain rfl : x0 = 0 := Subsingleton.elim _ _
    obtain rfl : x1 = 0 := Subsingleton.elim _ _
    obtain rfl : r = x2 := Fin.ext h2
    obtain rfl : d = x3 := Fin.ext h3
    obtain rfl : k = 0 := Fin.ext h0
    pointwise [k0_pay17, k0_pay16, tokA_at]

/-- The keys' block. -/
theorem out9 (r : Fin 1024) (j : Fin 384) : (outsAt0 m c t).1 (ix3 0 r j)
    = kkRow (tokA m c t r) j := by
  rw [outsAt0]
  frame_out
  canon_tiles x h using View.cover_of_tiledBy _ ![1, 1024, 64] (by sl_kernel_rfl) _
  · idx_vars x
    obtain rfl : x0 = 0 := Subsingleton.elim _ _
    obtain rfl : r = x1 := Fin.ext h1
    have e : j.val = 256 + x2.val := h2
    unfold kkRow
    rw [if_neg (by omega)]
    pointwise [k0_pay15, tokA_at]
    exact congrArg (tokA m c t r) (Fin.ext (by simp only []; omega))
  · idx_vars x
    obtain rfl : x0 = 0 := Subsingleton.elim _ _
    obtain rfl : r = x1 := Fin.ext h1
    have e : j.val = 192 + x2.val := h2
    unfold kkRow
    rw [if_pos (by omega), if_neg (by omega)]
    pointwise [k0_pay14]
  · idx_vars x
    obtain rfl : x0 = 0 := Subsingleton.elim _ _
    obtain rfl : r = x1 := Fin.ext h1
    have e : j.val = 128 + x2.val := h2
    unfold kkRow
    rw [if_pos (by omega), if_pos (by omega)]
    pointwise [k0_pay13, tokA_at]
    exact congrArg (tokA m c t r) (Fin.ext (by simp only []; omega))
  · idx_vars x
    obtain rfl : x0 = 0 := Subsingleton.elim _ _
    obtain rfl : r = x1 := Fin.ext h1
    have e : j.val = 64 + x2.val := h2
    unfold kkRow
    rw [if_pos (by omega), if_neg (by omega)]
    pointwise [k0_pay12]
  · idx_vars x
    obtain rfl : x0 = 0 := Subsingleton.elim _ _
    obtain rfl : r = x1 := Fin.ext h1
    have e : j.val = x2.val := h2
    unfold kkRow
    rw [if_pos (by omega), if_pos (by omega)]
    pointwise [k0_pay11, tokA_at]
    exact congrArg (tokA m c t r) (Fin.ext (by simp only []; omega))
end Cert.InPIdeal.Block
-- ==== Proof.InValue.lean ====
/-
  The input projection kernel's six whole result arrays are the plain reference's: each grid point writes the rows of 1024
  tokens of one sequence, and together the 64 points write every row.
-/
module

public import proofs.«01_k».proof.Proof.InBlock

@[expose] public section

set_option maxRecDepth 16384

noncomputable section

open Idealize.ShloMosaic Idealize.ShloMosaic.TcCoe Idealize.SL.Sem

namespace Cert.InPIdeal.Whole

open Cert.InPIdeal Cert.InPIdeal.Gen Cert.InRow Cert.InPRefIdeal.Row Cert.InPIdeal.Block

/-! ### The weights as the kernel is given them -/

/-- The keys' and the compressed branch's weights, side by side. -/
def wA (w : FVec Ideal S1024x2328 .f32) : FVec Ideal S1024x512 .bf16 :=
  truncf .bf16 (concatenate S1024x512 1
    [⟨S1024x128, extractStridedSlice S1024x128 ![0, 768] w slices_S1024x2328_S1024x128_0_768⟩,
     ⟨S1024x128, extractStridedSlice S1024x128 ![0, 1024] w slices_S1024x2328_S1024x128_0_1024⟩,
     ⟨S1024x128, extractStridedSlice S1024x128 ![0, 512] w slices_S1024x2328_S1024x128_0_512⟩,
     ⟨S1024x128, extractStridedSlice S1024x128 ![0, 640] w slices_S1024x2328_S1024x128_0_640⟩]
    concatenates_S1024x128_S1024x128_S1024x128_S1024x128_S1024x512_d1) bitsLt_bf16_f32

/-- The gates' weights, regrouped by head, branch and query head, with four rows of zeros per head. -/
def wG (w : FVec Ideal S1024x2328 .f32) : FVec Ideal S32x1024 .f32 :=
  shapeCast S32x1024 (pad S2x16x1024 ![0, 0, 0] ![0, 4, 0] ![0, 0, 0]
    (shapeCast S2x12x1024 (transpose S2x3x4x1024 [1, 3, 2, 0]
      (shapeCast S1024x2x4x3 (extractStridedSlice S1024x24 ![0, 1280] w slices_S1024x2328_S1024x24_0_1280) shapeCasts_S1024x24_S1024x2x4x3)
      transposes_S1024x2x4x3_S2x3x4x1024_1_3_2_0) shapeCasts_S2x3x4x1024_S2x12x1024)
    (sitofp .f32 (constantI S_ 32 0#32)) pads_S2x12x1024_S2x16x1024_000_040_000 h_S_) shapeCasts_S2x16x1024_S32x1024

/-- The other weights, transposed and stacked. -/
def wCat (w : FVec Ideal S1024x2328 .f32) : FVec Ideal S1824x1024 .f32 :=
  concatenate S1824x1024 0
    [⟨S512x1024, transpose S512x1024 [1, 0] (extractStridedSlice S1024x512 ![0, 1304] w slices_S1024x2328_S1024x512_0_1304) transposes_S1024x512_S512x1024_1_0⟩,
     ⟨S512x1024, transpose S512x1024 [1, 0] (extractStridedSlice S1024x512 ![0, 1816] w slices_S1024x2328_S1024x512_0_1816) transposes_S1024x512_S512x1024_1_0⟩,
     ⟨S512x1024, transpose S512x1024 [1, 0] (extractStridedSlice S1024x512 ![0, 0] w slices_S1024x2328_S1024x512_0_0) transposes_S1024x512_S512x1024_1_0⟩,
     ⟨S128x1024, transpose S128x1024 [1, 0] (extractStridedSlice S1024x128 ![0, 896] w slices_S1024x2328_S1024x128_0_896) transposes_S1024x128_S128x1024_1_0⟩,
     ⟨S128x1024, transpose S128x1024 [1, 0] (extractStridedSlice S1024x128 ![0, 1152] w slices_S1024x2328_S1024x128_0_1152) transposes_S1024x128_S128x1024_1_0⟩,
     ⟨S32x1024, wG w⟩]
    concatenates_S512x1024_S512x1024_S512x1024_S128x1024_S128x1024_S32x1024_S1824x1024_d0

/-- The same in bfloat16. -/
def wT (w : FVec Ideal S1024x2328 .f32) : FVec Ideal S1824x1024 .bf16 := truncf .bf16 (wCat w) bitsLt_bf16_f32

/-- Column `n` of the side-by-side weights. -/
theorem wA_at (w : FVec Ideal S1024x2328 .f32) (k : Fin 1024) (n : Fin 512) : wA w (ix2 k n) = w (ix2 k (colA n)) := by
  pointwise [wA]
  by_cases h : n.val < 128
  · rw [dif_pos h, colA_slc n h]
  · rw [dif_neg h]
    by_cases h' : n.val - 128 < 128
    · rw [dif_pos h', colA_win n h (by omega)]
    · rw [dif_neg h', colA_cmp n (by omega)]
      by_cases h'' : n.val - 128 - 128 < 128
      · rw [dif_pos h'']
        exact congrArg (fun n => w (ix2 k n)) (Fin.ext (by simp only []; omega))
      · rw [dif_neg h'']
        exact congrArg (fun n => w (ix2 k n)) (Fin.ext (by simp only []; omega))

/-- A gate's row of the regrouped weights. -/
theorem wG_at (w : FVec Ideal S1024x2328 .f32) (k : Fin 2) (r : Fin 12) (q : Fin 1024) :
    wG w (ix2 ⟨k.val * 16 + r.val, by omega⟩ q) = w (ix2 q (colG k r)) := by
  pointwise [wG]
  rw [dif_pos (by omega)]
  exact congrArg (fun n => w (ix2 q n)) (Fin.ext (by simp only [colG]; omega))

/-- A padding row of the regrouped weights. -/
theorem wG_pad (w : FVec Ideal S1024x2328 .f32) (k : Fin 2) (r : Fin 4) (q : Fin 1024) :
    wG w (ix2 ⟨k.val * 16 + (12 + r.val), by omega⟩ q) = 0 := by
  pointwise [wG]
  rw [dif_neg (by omega)]
  exact zero_word

/-- The stacked weights' rows of the gating unit's first input. -/
theorem wT_u (w : FVec Ideal S1024x2328 .f32) (n : Fin 512) (k : Fin 1024) :
    wT w (ix2 ⟨n.val, by omega⟩ k) = w (ix2 k ⟨1304 + n.val, by omega⟩) := by
  show wCat w _ = _
  unfold wCat
  refine (concatenate_apply_piece (t := S1824x1024) 0 _ _ _ 0 (by show 0 < 6; decide) S512x1024 _ rfl rfl 0 rfl (ix2 n k)
    (fun b hb => ?_) ?_).trans ?_
  · fin_cases b
    · exact absurd rfl hb
    · rfl
  · simp
  · pointwise

/-- The stacked weights' rows of the gating unit's second input. -/
theorem wT_v (w : FVec Ideal S1024x2328 .f32) (n : Fin 512) (k : Fin 1024) :
    wT w (ix2 ⟨512 + n.val, by omega⟩ k) = w (ix2 k ⟨1816 + n.val, by omega⟩) := by
  show wCat w _ = _
  unfold wCat
  refine (concatenate_apply_piece (t := S1824x1024) 0 _ _ _ 1 (by show 1 < 6; decide) S512x1024 _ rfl rfl 512 rfl (ix2 n k)
    (fun b hb => ?_) ?_).trans ?_
  · fin_cases b
    · exact absurd rfl hb
    · rfl
  · simp
  · pointwise

/-- The stacked weights' rows of the queries. -/
theorem wT_q (w : FVec Ideal S1024x2328 .f32) (n : Fin 512) (k : Fin 1024) :
    wT w (ix2 ⟨1024 + n.val, by omega⟩ k) = w (ix2 k ⟨n.val, by omega⟩) := by
  show wCat w _ = _
  unfold wCat
  refine (concatenate_apply_piece (t := S1824x1024) 0 _ _ _ 2 (by show 2 < 6; decide) S512x1024 _ rfl rfl 1024 rfl (ix2 n k)
    (fun b hb => ?_) ?_).trans ?_
  · fin_cases b
    · exact absurd rfl hb
    · rfl
  · simp
  · pointwise

/-- The stacked weights' rows of the selected branch's values. -/
theorem wT_s (w : FVec Ideal S1024x2328 .f32) (n : Fin 128) (k : Fin 1024) :
    wT w (ix2 ⟨1536 + n.val, by omega⟩ k) = w (ix2 k ⟨896 + n.val, by omega⟩) := by
  show wCat w _ = _
  unfold wCat
  refine (concatenate_apply_piece (t := S1824x1024) 0 _ _ _ 3 (by show 3 < 6; decide) S128x1024 _ rfl rfl 1536 rfl (ix2 n k)
    (fun b hb => ?_) ?_).trans ?_
  · fin_cases b
    · exact absurd rfl hb
    · rfl
  · simp
  · pointwise

/-- The stacked weights' rows of the window branch's values. -/
theorem wT_w (w : FVec Ideal S1024x2328 .f32) (n : Fin 128) (k : Fin 1024) :
    wT w (ix2 ⟨1664 + n.val, by omega⟩ k) = w (ix2 k ⟨1152 + n.val, by omega⟩) := by
  show wCat w _ = _
  unfold wCat
  refine (concatenate_apply_piece (t := S1824x1024) 0 _ _ _ 4 (by show 4 < 6; decide) S128x1024 _ rfl rfl 1664 rfl (ix2 n k)
    (fun b hb => ?_) ?_).trans ?_
  · fin_cases b
    · exact absurd rfl hb
    · rfl
  · simp
  · pointwise

/-- The stacked weights' rows of the gates. -/
theorem wT_g (w : FVec Ideal S1024x2328 .f32) (n : Fin 32) (k : Fin 1024) :
    wT w (ix2 ⟨1792 + n.val, by omega⟩ k) = wG w (ix2 n k) := by
  show wCat w _ = _
  unfold wCat
  refine (concatenate_apply_piece (t := S1824x1024) 0 _ _ _ 5 (by show 5 < 6; decide) S32x1024 _ rfl rfl 1792 rfl (ix2 n k)
    (fun b hb => ?_) ?_).trans ?_
  · fin_cases b
    · exact absurd rfl hb
    · rfl
  · simp
  · rfl

/-! ### The blocks the kernel reads -/

variable (m : (ℓ : Loc nD τ sig) → Buf (Elt Ideal) ℓ)

/-- Where each window's block stands at a grid point. -/
theorem index_maps : ∀ t : Fin grid0.N,
    win0_0.index t = ![(grid0.coords t 0).val, (grid0.coords t 1).val, 0]
    ∧ win0_1.index t = ![(grid0.coords t 0).val, 0, 0] ∧ win0_2.index t = ![(grid0.coords t 0).val, 0, 0]
    ∧ win0_3.index t = ![0, 0] ∧ win0_4.index t = ![0, 0] ∧ win0_5.index t = ![0, 0, 0] ∧ win0_6.index t = ![0, 0, 0]
    ∧ win0_7.index t = ![0, 0, 0] ∧ win0_8.index t = ![0, 0]
    ∧ win0_9.index t = ![(grid0.coords t 0).val, (grid0.coords t 1).val, 0]
    ∧ win0_10.index t = ![0, (grid0.coords t 0).val, (grid0.coords t 1).val, 0]
    ∧ win0_11.index t = ![(grid0.coords t 0).val, 0, (grid0.coords t 1).val]
    ∧ win0_12.index t = ![(grid0.coords t 0).val, 0, (grid0.coords t 1).val]
    ∧ win0_13.index t = ![(grid0.coords t 0).val, 0, 0, (grid0.coords t 1).val]
    ∧ win0_14.index t = ![(grid0.coords t 0).val, 0, (grid0.coords t 1).val] := by
  decide +kernel

/-- The sequence a grid point works on. -/
def seqOf (t : Fin grid0.N) : Fin 8 := ⟨(grid0.coords t 0).val, (grid0.coords t 0).isLt⟩

/-- Row `r` of a grid point's block, as a token of its sequence. -/
def tokOf (t : Fin grid0.N) (r : Fin 1024) : Fin 8192 :=
  ⟨(grid0.coords t 1).val * 1024 + r.val, by have : (grid0.coords t 1).val < 8 := (grid0.coords t 1).isLt; omega⟩

/-- Where the keys' block lies in the keys. -/
theorem emb9 (t : Fin grid0.N) (r : Fin 1024) (j : Fin 384) :
    ((View.whole main_v31_0).slice (win0_9.rect t)).emb (ix3 0 r j) = ix3 (seqOf t) (tokOf t r) j := by
  blk_ext [index_maps t, seqOf, tokOf]

/-- Where the compressed branch's block lies. -/
theorem emb10 (t : Fin grid0.N) (k : Fin 2) (r : Fin 1024) (d : Fin 128) :
    ((View.whole main_v31_1).slice (win0_10.rect t)).emb (ix4 k 0 r d) = ix4 k (seqOf t) (tokOf t r) d := by
  blk_ext [index_maps t, seqOf, tokOf]

/-- Where the queries' block lies. -/
theorem emb11 (t : Fin grid0.N) (d : Fin 512) (r : Fin 1024) :
    ((View.whole main_v31_2).slice (win0_11.rect t)).emb (ix3 0 d r) = ix3 (seqOf t) d (tokOf t r) := by
  blk_ext [index_maps t, seqOf, tokOf]

/-- Where the values' block lies. -/
theorem emb12 (t : Fin grid0.N) (d : Fin 256) (r : Fin 1024) :
    ((View.whole main_v31_3).slice (win0_12.rect t)).emb (ix3 0 d r) = ix3 (seqOf t) d (tokOf t r) := by
  blk_ext [index_maps t, seqOf, tokOf]

/-- Where the gates' block lies. -/
theorem emb13 (t : Fin grid0.N) (k : Fin 2) (g : Fin 16) (r : Fin 1024) :
    ((View.whole main_v31_4).slice (win0_13.rect t)).emb (ix4 0 k g r) = ix4 (seqOf t) k g (tokOf t r) := by
  blk_ext [index_maps t, seqOf, tokOf]

/-- Where the gating unit's block lies. -/
theorem emb14 (t : Fin grid0.N) (d : Fin 512) (r : Fin 1024) :
    ((View.whole main_v31_5).slice (win0_14.rect t)).emb (ix3 0 d r) = ix3 (seqOf t) d (tokOf t r) := by
  blk_ext [index_maps t, seqOf, tokOf]

/-- The block of input rows. -/
theorem blk0 (c : Dev nD) (t : Fin grid0.N) (r k : Fin 1024) :
    iblk m c 0 t (ix3 0 r k) = m ((c.tc : Thread nD τ).loc main_arg0) (ix3 (seqOf t) (tokOf t r) k) := by
  blk_ext [iblk, V, index_maps t, seqOf, tokOf]

/-- The block of scales, read off the modulation table. -/
theorem blk1 (c : Dev nD) (t : Fin grid0.N) (k : Fin 1024) :
    iblk m c 1 t (ix3 0 0 k) = modAt (m ((c.tc : Thread nD τ).loc main_arg1)) (seqOf t) 1024 (by omega) k := by
  blk_simp [iblk]
  simp only [V, hostOps0, hostOps0_1, hostOps0_2, List.flatten_cons, List.flatten_nil, List.append_nil, List.cons_append, List.nil_append]
  entry_read; pointwise [modAt]
  blk_ext [index_maps t, seqOf, tokOf]

/-- The block of shifts, read off the modulation table. -/
theorem blk2 (c : Dev nD) (t : Fin grid0.N) (k : Fin 1024) :
    iblk m c 2 t (ix3 0 0 k) = modAt (m ((c.tc : Thread nD τ).loc main_arg1)) (seqOf t) 0 (by omega) k := by
  blk_simp [iblk]
  simp only [V, hostOps0, hostOps0_1, hostOps0_2, List.flatten_cons, List.flatten_nil, List.append_nil, List.cons_append, List.nil_append]
  entry_read; pointwise [modAt]
  blk_ext [index_maps t, seqOf, tokOf]

/-- The side-by-side weights are the host's. -/
theorem host3 (c : Dev nD) : V m c main_v15 = wA (m ((c.tc : Thread nD τ).loc main_arg2)) := rfl

set_option maxHeartbeats 4000000 in
/-- The stacked weights are the host's. -/
theorem host4 (c : Dev nD) : V m c main_v27 = wT (m ((c.tc : Thread nD τ).loc main_arg2)) := rfl

/-- Where the side-by-side weights' block lies. -/
theorem emb3 (t : Fin grid0.N) (k : Fin 1024) (n : Fin 512) :
    ((View.whole main_v15).slice (win0_3.rect t)).emb (ix2 k n) = ix2 k n := by
  blk_ext [index_maps t]

/-- Where the stacked weights' block lies. -/
theorem emb4 (t : Fin grid0.N) (n : Fin 1824) (k : Fin 1024) :
    ((View.whole main_v27).slice (win0_4.rect t)).emb (ix2 n k) = ix2 n k := by
  blk_ext [index_maps t]

/-- Where the gains' block lies. -/
theorem emb5 (t : Fin grid0.N) (g : Fin 8) (d : Fin 64) :
    ((View.whole main_v28).slice (win0_5.rect t)).emb (ix3 g d 0) = ix3 g d 0 := by
  blk_ext [index_maps t]

/-- Where the shifts' block lies. -/
theorem emb6 (t : Fin grid0.N) (g : Fin 8) (d : Fin 64) :
    ((View.whole main_v29).slice (win0_6.rect t)).emb (ix3 g d 0) = ix3 g d 0 := by
  blk_ext [index_maps t]

/-- Where the mixing weights' block lies. -/
theorem emb7 (t : Fin grid0.N) (g : Fin 8) (s r : Fin 128) :
    ((View.whole main_v30).slice (win0_7.rect t)).emb (ix3 g s r) = ix3 g s r := by
  blk_ext [index_maps t]

/-- The side-by-side weights. -/
theorem blk3 (c : Dev nD) (t : Fin grid0.N) (k : Fin 1024) (n : Fin 512) :
    iblk m c 3 t (ix2 k n) = wA (m ((c.tc : Thread nD τ).loc main_arg2)) (ix2 k n) := by
  blk_simp [iblk]; rw [emb3]; exact congrFun (host3 m c) _

/-- The stacked weights. -/
theorem blk4 (c : Dev nD) (t : Fin grid0.N) (n : Fin 1824) (k : Fin 1024) :
    iblk m c 4 t (ix2 n k) = wT (m ((c.tc : Thread nD τ).loc main_arg2)) (ix2 n k) := by
  blk_simp [iblk]; rw [emb4]; exact congrFun (host4 m c) _

/-- The groups' gains. -/
theorem blk5 (c : Dev nD) (t : Fin grid0.N) (g : Fin 8) (d : Fin 64) :
    iblk m c 5 t (ix3 g d 0) = m ((c.tc : Thread nD τ).loc main_arg3) (ix1 ⟨g.val * 64 + d.val, by omega⟩) := by
  blk_simp [iblk]; rw [emb5]
  simp only [V, hostOps0, hostOps0_1, hostOps0_2, List.flatten_cons, List.flatten_nil, List.append_nil, List.cons_append, List.nil_append]
  entry_read; pointwise

/-- The groups' shifts. -/
theorem blk6 (c : Dev nD) (t : Fin grid0.N) (g : Fin 8) (d : Fin 64) :
    iblk m c 6 t (ix3 g d 0) = m ((c.tc : Thread nD τ).loc main_arg4) (ix1 ⟨g.val * 64 + d.val, by omega⟩) := by
  blk_simp [iblk]; rw [emb6]
  simp only [V, hostOps0, hostOps0_1, hostOps0_2, List.flatten_cons, List.flatten_nil, List.append_nil, List.cons_append, List.nil_append]
  entry_read; pointwise

/-- The mixing weights. -/
theorem blk7 (c : Dev nD) (t : Fin grid0.N) (g : Fin 8) (s r : Fin 128) :
    iblk m c 7 t (ix3 g s r) = m ((c.tc : Thread nD τ).loc main_arg5) (ix3 g r s) := by
  blk_simp [iblk]; rw [emb7]
  simp only [V, hostOps0, hostOps0_1, hostOps0_2, List.flatten_cons, List.flatten_nil, List.append_nil, List.cons_append, List.nil_append]
  entry_read; pointwise

/-- The mixing biases. -/
theorem blk8 (c : Dev nD) (t : Fin grid0.N) (g : Fin 8) (s : Fin 128) :
    iblk m c 8 t (ix2 g s) = m ((c.tc : Thread nD τ).loc main_arg6) (ix2 g s) := by
  blk_ext [iblk, V, index_maps t]

/-! ### A token's channels, as the reference's projection -/

/-- The reference's projected rows, of the kernel's arguments. -/
def pr (c : Dev nD) : FVec Ideal Cert.InPRefIdeal.S8x8192x2328 .f32 :=
  rProj (m ((c.tc : Thread nD τ).loc main_arg0)) (m ((c.tc : Thread nD τ).loc main_arg1)) (m ((c.tc : Thread nD τ).loc main_arg2))

/-- A key or compressed channel. -/
theorem tokA_eq (c : Dev nD) (t : Fin grid0.N) (r : Fin 1024) (n : Fin 512) :
    tokA m c t r n = pr m c (ix3 (seqOf t) (tokOf t r) (colA n)) := by
  unfold tokA tok
  simp only [blk0, blk1, blk2, blk3, wA_at]
  exact (rProj_at _ _ _ (seqOf t) (tokOf t r) (colA n)).symm

/-- A channel whose row of the stacked weights is a column of the input weights. -/
theorem tokT_eq (c : Dev nD) (t : Fin grid0.N) (r : Fin 1024) (n : Fin 1824) (j : Fin 2328)
    (h : ∀ k, wT (m ((c.tc : Thread nD τ).loc main_arg2)) (ix2 n k) = m ((c.tc : Thread nD τ).loc main_arg2) (ix2 k j)) :
    tokT m c t r n = pr m c (ix3 (seqOf t) (tokOf t r) j) := by
  unfold tokT tok
  simp only [blk0, blk1, blk2, blk4, h]
  exact (rProj_at _ _ _ (seqOf t) (tokOf t r) j).symm

/-- A channel whose row of the stacked weights is zero. -/
theorem tokT_zero (c : Dev nD) (t : Fin grid0.N) (r : Fin 1024) (n : Fin 1824)
    (h : ∀ k, wT (m ((c.tc : Thread nD τ).loc main_arg2)) (ix2 n k) = 0) : tokT m c t r n = 0 := by
  unfold tokT tok dotp
  refine Finset.sum_eq_zero fun k _ => ?_
  exact (congrArg (fun x : EReal => _ * x) ((blk4 m c t n k).trans (h k))).trans (mul_zero _)

/-! ### The six results -/

/-- The keys after the run. -/
theorem final9 (c : Dev nD) : (dats m 0 c).arrAt 9 cfg0.N = rKK (pr m c) := by
  refine (dats m 0 c).arrAt_eq_of_covers 9 _ (by decide +kernel) fun t hf y => ?_
  blk_simp
  rw [after0_9]
  idx_vars y
  obtain rfl : y0 = 0 := Subsingleton.elim _ _
  rw [emb9 t y1 y2]
  refine (out9 m c t y1 y2).trans ?_
  rw [rKK_at]
  exact congrFun (congrArg kkRow (funext fun n => tokA_eq m c t y1 n)) y2

/-- The compressed branch's keys and values after the run. -/
theorem final10 (c : Dev nD) : (dats m 0 c).arrAt 10 cfg0.N = rKvc (pr m c) := by
  refine (dats m 0 c).arrAt_eq_of_covers 10 _ (by decide +kernel) fun t hf y => ?_
  blk_simp
  rw [after0_10]
  idx_vars y
  obtain rfl : y1 = 0 := Subsingleton.elim _ _
  rw [emb10 t y0 y2 y3]
  refine (out10 m c t y0 y2 y3).trans ((tokA_eq m c t y2 _).trans ?_)
  rw [rKvc_at, colA_cmp _ (by simp only []; omega)]
  exact congrArg (fun n => pr m c (ix3 (seqOf t) (tokOf t y2) n)) (Fin.ext (by simp only []; omega))

/-- The queries after the run. -/
theorem final11 (c : Dev nD) : (dats m 0 c).arrAt 11 cfg0.N = rQ (pr m c) := by
  refine (dats m 0 c).arrAt_eq_of_covers 11 _ (by decide +kernel) fun t hf y => ?_
  blk_simp
  rw [after0_11]
  idx_vars y
  obtain rfl : y0 = 0 := Subsingleton.elim _ _
  rw [emb11 t y1 y2]
  refine (out11 m c t y1 y2).trans ?_
  rw [rQ_at]
  exact tokT_eq m c t y2 _ _ fun k => wT_q _ y1 k

/-- The values after the run. -/
theorem final12 (c : Dev nD) : (dats m 0 c).arrAt 12 cfg0.N = rV (pr m c) := by
  refine (dats m 0 c).arrAt_eq_of_covers 12 _ (by decide +kernel) fun t hf y => ?_
  blk_simp
  rw [after0_12]
  idx_vars y
  obtain rfl : y0 = 0 := Subsingleton.elim _ _
  rw [emb12 t y1 y2]
  refine (out12 m c t y1 y2).trans ?_
  obtain ⟨k, d, rfl⟩ : ∃ (k : Fin 2) (d : Fin 128), y1 = ⟨k.val * 128 + d.val, by omega⟩ :=
    ⟨⟨y1.val / 128, by omega⟩, ⟨y1.val % 128, by omega⟩, Fin.ext (by simp only []; omega)⟩
  rw [rV_at]
  fin_cases k
  · refine (congrArg (tokT m c t y2) (Fin.ext (by simp only []; omega))).trans
      ((tokT_eq m c t y2 ⟨1536 + d.val, by omega⟩ ⟨896 + d.val, by omega⟩ fun k => wT_s _ d k).trans ?_)
    exact congrArg (fun n => pr m c (ix3 (seqOf t) (tokOf t y2) n)) (Fin.ext (by simp only []))
  · refine (congrArg (tokT m c t y2) (Fin.ext (by simp only []; omega))).trans
      ((tokT_eq m c t y2 ⟨1664 + d.val, by omega⟩ ⟨1152 + d.val, by omega⟩ fun k => wT_w _ d k).trans ?_)
    exact congrArg (fun n => pr m c (ix3 (seqOf t) (tokOf t y2) n)) (Fin.ext (by simp only []))

/-- The gates after the run. -/
theorem final13 (c : Dev nD) : (dats m 0 c).arrAt 13 cfg0.N = rG (pr m c) := by
  refine (dats m 0 c).arrAt_eq_of_covers 13 _ (by decide +kernel) fun t hf y => ?_
  blk_simp
  rw [after0_13]
  idx_vars y
  obtain rfl : y0 = 0 := Subsingleton.elim _ _
  rw [emb13 t y1 y2 y3]
  refine (out13 m c t y1 y2 y3).trans ?_
  by_cases h : y2.val < 12
  · obtain ⟨r, rfl⟩ : ∃ r : Fin 12, y2 = ⟨r.val, Nat.lt_trans r.isLt (by decide)⟩ := ⟨⟨y2.val, h⟩, rfl⟩
    rw [rG_at]
    exact tokT_eq m c t y3 _ _ fun k => (wT_g _ ⟨y1.val * 16 + r.val, by omega⟩ k).trans (wG_at _ y1 r k)
  · obtain ⟨r, rfl⟩ : ∃ r : Fin 4, y2 = ⟨12 + r.val, Nat.add_lt_add_left r.isLt 12⟩ :=
      ⟨⟨y2.val - 12, by omega⟩, Fin.ext (by simp only []; omega)⟩
    rw [rG_pad]
    exact tokT_zero m c t y3 _ fun k => (wT_g _ ⟨y1.val * 16 + (12 + r.val), by omega⟩ k).trans (wG_pad _ y1 r k)

/-- The gating unit's result after the run. -/
theorem final14 (c : Dev nD) : (dats m 0 c).arrAt 14 cfg0.N
    = rMlp (pr m c) (m ((c.tc : Thread nD τ).loc main_arg3)) (m ((c.tc : Thread nD τ).loc main_arg4))
        (m ((c.tc : Thread nD τ).loc main_arg5)) (m ((c.tc : Thread nD τ).loc main_arg6)) := by
  refine (dats m 0 c).arrAt_eq_of_covers 14 _ (by decide +kernel) fun t hf y => ?_
  blk_simp
  rw [after0_14]
  idx_vars y
  obtain rfl : y0 = 0 := Subsingleton.elim _ _
  rw [emb14 t y1 y2]
  obtain ⟨g, d, rfl⟩ : ∃ (g : Fin 8) (d : Fin 64), y1 = ⟨g.val * 64 + d.val, by omega⟩ :=
    ⟨⟨y1.val / 64, by omega⟩, ⟨y1.val % 64, by omega⟩, Fin.ext (by simp only []; omega)⟩
  obtain ⟨n, s, rfl⟩ : ∃ (n : Fin 8) (s : Fin 128), y2 = ⟨n.val * 128 + s.val, by omega⟩ :=
    ⟨⟨y2.val / 128, by omega⟩, ⟨y2.val % 128, by omega⟩, Fin.ext (by simp only []; omega)⟩
  refine (out14 m c t g d n s).trans ?_
  have hi : (grid0.coords t 1).val < 8 := (grid0.coords t 1).isLt
  have ht : ∀ s : Fin 128, tokOf t ⟨n.val * 128 + s.val, by omega⟩
      = ⟨(⟨(grid0.coords t 1).val * 8 + n.val, by omega⟩ : Fin 64).val * 128 + s.val, by simp only []; omega⟩ :=
    fun s => Fin.ext (by simp only [tokOf]; omega)
  have hu : ∀ r, tokT m c t r ⟨g.val * 64 + d.val, by omega⟩
      = pr m c (ix3 (seqOf t) (tokOf t r) ⟨1304 + g.val * 64 + d.val, by omega⟩) := fun r =>
    tokT_eq m c t r _ ⟨1304 + g.val * 64 + d.val, by omega⟩ fun k => (wT_u _ ⟨g.val * 64 + d.val, by omega⟩ k).trans
      (congrArg (fun n => m ((c.tc : Thread nD τ).loc main_arg2) (ix2 k n)) (Fin.ext (by simp only []; omega)))
  have hv : ∀ r (e : Fin 64), tokT m c t r ⟨512 + (g.val * 64 + e.val), by omega⟩
      = pr m c (ix3 (seqOf t) (tokOf t r) ⟨1816 + g.val * 64 + e.val, by omega⟩) := fun r e =>
    tokT_eq m c t r _ ⟨1816 + g.val * 64 + e.val, by omega⟩ fun k => (wT_v _ ⟨g.val * 64 + e.val, by omega⟩ k).trans
      (congrArg (fun n => m ((c.tc : Thread nD τ).loc main_arg2) (ix2 k n)) (Fin.ext (by simp only []; omega)))
  simp only [hu, hv, ht, blk5, blk6, blk7, blk8]
  exact (rMlp_at (pr m c) _ _ _ _ (seqOf t) ⟨(grid0.coords t 1).val * 8 + n.val, by omega⟩ s g d).symm

end Cert.InPIdeal.Whole
-- ==== Proof.InClaims.lean ====
/-
  The input projection program's claims: its frames and its equality with the plain reference.
-/
module

public import proofs.«01_k».proof.Defs
public import proofs.«01_k».proof.Proof.Gen.InP.Frame
public import proofs.«01_k».proof.Proof.InValue
public import Idealize.ShloMosaic.Lib.Quiescent

@[expose] public section

noncomputable section

open Idealize.ShloMosaic Idealize.ShloMosaic.TcCoe Idealize.SL.Sem

namespace Cert.Proof.InClaims

/-- Every run of the kernel ends with its arguments unchanged. -/
theorem frame_p : Cert.quiescent_InP := fun m ρ _ => Cert.InP.Gen.frame m ρ
/-- The same, on the extended reals. -/
theorem frame_pi : Cert.quiescent_InPIdeal := fun m ρ _ => Cert.InPIdeal.Gen.frame m ρ
/-- Every run of the reference ends with its arguments unchanged. -/
theorem frame_ri : Cert.quiescent_InPRefIdeal := fun m ρ _ =>
  (θ_run Cert.InPRefIdeal.defs _ _).mono (fun r h => ⟨fun c => (h c).2.2.2.2.2.2,
      Idealize.ShloMosaic.sem_eq_zero_of_no_sems (by decide) r.2⟩)
    (Cert.InPRefIdeal.Value.run (F := Ideal) m ρ)

/-- Kernel and reference compute the same six arrays on the extended reals. -/
theorem algebraic : Cert.algebraic_InPIdeal_InPRefIdeal := by
  intro m ρ m' ρ' _ hag
  have hp : ∀ c, Cert.InPRefIdeal.Row.proj m' c = Cert.InPIdeal.Whole.pr m c := fun c => by
    obtain ⟨h0, h1, h2, _⟩ := hag c
    unfold Cert.InPRefIdeal.Row.proj Cert.InPIdeal.Whole.pr
    rw [h0, h1, h2]
  refine ⟨fun c => Cert.InPRefIdeal.Row.rKK (Cert.InPIdeal.Whole.pr m c), fun c => Cert.InPRefIdeal.Row.rKvc (Cert.InPIdeal.Whole.pr m c),
    fun c => Cert.InPRefIdeal.Row.rQ (Cert.InPIdeal.Whole.pr m c), fun c => Cert.InPRefIdeal.Row.rV (Cert.InPIdeal.Whole.pr m c),
    fun c => Cert.InPRefIdeal.Row.rG (Cert.InPIdeal.Whole.pr m c),
    fun c => Cert.InPRefIdeal.Row.rMlp (Cert.InPIdeal.Whole.pr m c) (m ((c.tc : Thread _ _).loc Cert.InPIdeal.main_arg3))
      (m ((c.tc : Thread _ _).loc Cert.InPIdeal.main_arg4)) (m ((c.tc : Thread _ _).loc Cert.InPIdeal.main_arg5))
      (m ((c.tc : Thread _ _).loc Cert.InPIdeal.main_arg6)), ?_, ?_⟩
  · exact (θ_run Cert.InPIdeal.defs _ _).mono (fun _ h c =>
        ⟨(h c).1.trans (Cert.InPIdeal.Whole.final9 m c), (h c).2.1.trans (Cert.InPIdeal.Whole.final10 m c),
          (h c).2.2.1.trans (Cert.InPIdeal.Whole.final11 m c), (h c).2.2.2.1.trans (Cert.InPIdeal.Whole.final12 m c),
          (h c).2.2.2.2.1.trans (Cert.InPIdeal.Whole.final13 m c), (h c).2.2.2.2.2.1.trans (Cert.InPIdeal.Whole.final14 m c),
          (h c).2.2.2.2.2.2⟩)
      (Cert.InPIdeal.Value.run_blocks (F := Ideal) m ρ)
  · refine (θ_run Cert.InPRefIdeal.defs _ _).mono (fun _ h c =>
        ⟨(h c).1.trans (congrArg Cert.InPRefIdeal.Row.rKK (hp c)), (h c).2.1.trans (congrArg Cert.InPRefIdeal.Row.rKvc (hp c)),
          (h c).2.2.1.trans (congrArg Cert.InPRefIdeal.Row.rQ (hp c)), (h c).2.2.2.1.trans (congrArg Cert.InPRefIdeal.Row.rV (hp c)),
          (h c).2.2.2.2.1.trans (congrArg Cert.InPRefIdeal.Row.rG (hp c)), (h c).2.2.2.2.2.1.trans ?_, (h c).2.2.2.2.2.2⟩)
      (Cert.InPRefIdeal.Row.run m' ρ')
    obtain ⟨_, _, _, h3, h4, h5, h6⟩ := hag c
    rw [hp c, h3, h4, h5, h6]

end Cert.Proof.InClaims
-- ==== Proof.AdaRow.lean ====
/-
  The modulation table on the extended reals, and the plain reference's result read as it.

  Each of the 8 vectors of 1024 conditioning numbers goes through the function c times the logistic of c, is multiplied
  with the layer's weights and shifted by the layer's bias.
-/
module

public import proofs.«01_k».proof.Proof.Gen.AdaRefIdeal.Run
public import proofs.«01_k».proof.Proof.FfnRow

@[expose] public section

set_option maxRecDepth 16384

noncomputable section

open Idealize.ShloMosaic Idealize.ShloMosaic.TcCoe

namespace Cert.AdaRow

/-- A number times its logistic function. -/
def silu (a : EReal) : EReal := a * Ideal.div 1 (1 + Ideal.exp (-a))

/-- One entry of the modulation table: the activated vector against a column of weights, plus the bias. -/
def mod (c w : Fin 1024 → EReal) (b : EReal) : EReal := (∑ k : Fin 1024, silu (c k) * w k) + b

end Cert.AdaRow

namespace Cert.AdaRefIdeal.Row

open Cert.AdaRefIdeal Cert.AdaRefIdeal.Gen Cert.AdaRow

/-- The activated vectors. -/
def rAct (c : FVec Ideal S8x1024 .f32) : FVec Ideal S8x1024 .f32 :=
  mulf c (Host.divf (broadcastInDim S8x1024 ![] bcast_S_S8x1024 (constant S_ .f32 0x3F800000#32))
    (addf (broadcastInDim S8x1024 ![] bcast_S_S8x1024 (constant S_ .f32 0x3F800000#32)) (Host.exp (Host.negf c))))

/-- One layer's table, from the activated vectors and the layer's weights and bias. -/
def rLayer (a : FVec Ideal S8x1024 .f32) (w : FVec Ideal S1x1024x6144 .f32) (b : FVec Ideal S1x6144 .f32) : FVec Ideal S8x6144 .f32 :=
  addf (Host.dotGeneral (φ₁ := .f32) (φ₂ := .f32) dot_S8x1024_S1024x6144_S8x6144_1_0_0_1_n_n none a
      (shapeCast S1024x6144 w shapeCasts_S1x1024x6144_S1024x6144))
    (broadcastInDim S8x6144 ![0, 1] bcast_S1x6144_S8x6144_0_1 (broadcastInDim S1x6144 ![1] bcast_S6144_S1x6144_1
      (shapeCast S6144 b shapeCasts_S1x6144_S6144)))

/-- The whole reference: both layers' tables, stacked. -/
def rAda (c : FVec Ideal S8x1024 .f32) (w : FVec Ideal S2x1024x6144 .f32) (b : FVec Ideal S2x6144 .f32) : FVec Ideal S2x8x6144 .f32 :=
  concatenate S2x8x6144 0
    [⟨S1x8x6144, broadcastInDim S1x8x6144 ![1, 2] bcast_S8x6144_S1x8x6144_1_2 (rLayer (rAct c)
      (extractStridedSlice S1x1024x6144 ![0, 0, 0] w slices_S2x1024x6144_S1x1024x6144_0_0_0)
      (extractStridedSlice S1x6144 ![0, 0] b slices_S2x6144_S1x6144_0_0))⟩,
     ⟨S1x8x6144, broadcastInDim S1x8x6144 ![1, 2] bcast_S8x6144_S1x8x6144_1_2 (rLayer (rAct c)
      (extractStridedSlice S1x1024x6144 ![1, 0, 0] w slices_S2x1024x6144_S1x1024x6144_1_0_0)
      (extractStridedSlice S1x6144 ![1, 0] b slices_S2x6144_S1x6144_1_0))⟩]
    concatenates_S1x8x6144_S1x8x6144_S2x8x6144_d0

/-- An activated number. -/
theorem rAct_at (c : FVec Ideal S8x1024 .f32) (i : Fin 8) (k : Fin 1024) : rAct c (ix2 i k) = silu (c (ix2 i k)) := by
  pointwise [rAct, silu]

/-- An entry of one layer's table. -/
theorem rLayer_at (a : FVec Ideal S8x1024 .f32) (w : FVec Ideal S1x1024x6144 .f32) (b : FVec Ideal S1x6144 .f32) (i : Fin 8) (j : Fin 6144) :
    rLayer a w b (ix2 i j) = (∑ k : Fin 1024, a (ix2 i k) * w (ix3 0 k j)) + b (ix2 0 j) := by
  pointwise [rLayer]

/-- An entry of the reference's result. -/
theorem rAda_at (c : FVec Ideal S8x1024 .f32) (w : FVec Ideal S2x1024x6144 .f32) (b : FVec Ideal S2x6144 .f32) (l : Fin 2) (i : Fin 8) (j : Fin 6144) :
    rAda c w b (ix3 l i j) = mod (fun k => c (ix2 i k)) (fun k => w (ix3 l k j)) (b (ix2 l j)) := by
  unfold mod
  fin_cases l
  · pointwise [rAda, rLayer_at, rAct_at]
  · pointwise [rAda, rLayer_at, rAct_at]

end Cert.AdaRefIdeal.Row
-- ==== Proof.AdaBlock.lean ====
/-
  The modulation kernel's result block, read as the function of `AdaRow.lean`.
-/
module

public import proofs.«01_k».proof.Proof.Gen.AdaIdeal.Value
public import proofs.«01_k».proof.Proof.AdaRow

@[expose] public section

set_option maxRecDepth 16384

noncomputable section

open Idealize.ShloMosaic Idealize.ShloMosaic.TcCoe

namespace Cert.AdaIdeal.Block

open Cert.AdaIdeal Cert.AdaIdeal.Gen Cert.AdaRow

/-- An entry of the block that one grid point computes. -/
theorem pay1_at (c : Vec Ideal S8x1024 .f32) (w : Vec Ideal S1x1024x1024 .f32) (b : Vec Ideal S1x1x1024 .f32) (i : Fin 8) (j : Fin 1024) :
    k0_pay1 (F := Ideal) c w b (ix3 0 i j) = mod (fun k => c (ix2 i k)) (fun k => w (ix3 0 k j)) (b (ix3 0 0 j)) := by
  pointwise [k0_pay1, mod, silu]
  simp only [zero_sub]

/-- The same of the block as it is stored. -/
theorem out_at (c : Vec Ideal S8x1024 .f32) (w : Vec Ideal S1x1024x1024 .f32) (b : Vec Ideal S1x1x1024 .f32) (i : Fin 8) (j : Fin 1024) :
    out0_3 (F := Ideal) c w b (ix3 0 i j) = mod (fun k => c (ix2 i k)) (fun k => w (ix3 0 k j)) (b (ix3 0 0 j)) := by
  frame_out
  exact pay1_at c w b i j

end Cert.AdaIdeal.Block
-- ==== Proof.AdaValue.lean ====
/-
  The modulation kernel's whole result array is the plain reference's: each grid point writes 1024 columns of one layer's
  table, and together the 12 points write every column.
-/
module

public import proofs.«01_k».proof.Proof.AdaBlock

@[expose] public section

set_option maxRecDepth 16384

noncomputable section

open Idealize.ShloMosaic Idealize.ShloMosaic.TcCoe Idealize.SL.Sem

namespace Cert.AdaIdeal.Whole

open Cert.AdaIdeal Cert.AdaIdeal.Gen Cert.AdaRow Cert.AdaRefIdeal.Row

variable (m : (ℓ : Loc nD τ sig) → Buf (Elt Ideal) ℓ)

/-- The reference's function of the kernel's arguments. -/
def goal (c : Dev nD) : FVec Ideal S2x8x6144 .f32 :=
  rAda (m ((c.tc : Thread nD τ).loc main_arg0)) (m ((c.tc : Thread nD τ).loc main_arg1)) (m ((c.tc : Thread nD τ).loc main_arg2))

/-- Where each window's block stands at a grid point. -/
theorem index_maps : ∀ t : Fin grid0.N,
    win0_0.index t = ![0, 0] ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] := by
  decide +kernel

/-- The layer a grid point works on. -/
def layOf (t : Fin grid0.N) : Fin 2 := ⟨(grid0.coords t 0).val, (grid0.coords t 0).isLt⟩

/-- Column `j` of a grid point's block, as a column of the table. -/
def colOf (t : Fin grid0.N) (j : Fin 1024) : Fin 6144 :=
  ⟨(grid0.coords t 1).val * 1024 + j.val, by have : (grid0.coords t 1).val < 6 := (grid0.coords t 1).isLt; omega⟩

/-- Where row `i`, column `j` of the result's block lies in the result. -/
theorem emb3 (t : Fin grid0.N) (i : Fin 8) (j : Fin 1024) :
    ((View.whole main_v1).slice (win0_3.rect t)).emb (ix3 0 i j) = ix3 (layOf t) i (colOf t j) := by
  blk_ext [index_maps t, layOf, colOf]

/-- The conditioning vectors. -/
theorem blk0 (c : Dev nD) (t : Fin grid0.N) (i : Fin 8) (k : Fin 1024) :
    iblk m c 0 t (ix2 i k) = m ((c.tc : Thread nD τ).loc main_arg0) (ix2 i k) := by
  blk_ext [iblk, V, index_maps t, layOf, colOf]

/-- The block of weights, read off its layer's weights. -/
theorem blk1 (c : Dev nD) (t : Fin grid0.N) (k j : Fin 1024) :
    iblk m c 1 t (ix3 0 k j) = m ((c.tc : Thread nD τ).loc main_arg1) (ix3 (layOf t) k (colOf t j)) := by
  blk_ext [iblk, V, index_maps t, layOf, colOf]

/-- The block of biases, read off its layer's bias. -/
theorem blk2 (c : Dev nD) (t : Fin grid0.N) (j : Fin 1024) :
    iblk m c 2 t (ix3 0 0 j) = m ((c.tc : Thread nD τ).loc main_arg2) (ix2 (layOf t) (colOf t j)) := by
  blk_simp [iblk]; entry_read; pointwise
  blk_ext [index_maps t, layOf, colOf]

/-- The result array after the run. -/
theorem final (c : Dev nD) : (dats m 0 c).arrAt 3 cfg0.N = goal m c := by
  refine (dats m 0 c).arrAt_eq_of_covers 3 _ (by decide +kernel) fun t hf y => ?_
  blk_simp
  rw [after0_3]
  idx_vars y
  obtain rfl : y0 = 0 := Subsingleton.elim _ _
  rw [emb3 t y1 y2]
  refine (Block.out_at (iblk m c 0 t) (iblk m c 1 t) (iblk m c 2 t) y1 y2).trans ?_
  simp only [blk0, blk1, blk2]
  exact (rAda_at _ _ _ (layOf t) y1 (colOf t y2)).symm

end Cert.AdaIdeal.Whole
-- ==== Proof.AdaClaims.lean ====
/-
  The modulation program's claims: its frames and its equality with the plain reference.
-/
module

public import proofs.«01_k».proof.Defs
public import proofs.«01_k».proof.Proof.Gen.Ada.Frame
public import proofs.«01_k».proof.Proof.AdaValue
public import Idealize.ShloMosaic.Lib.Quiescent

@[expose] public section

noncomputable section

open Idealize.ShloMosaic Idealize.ShloMosaic.TcCoe Idealize.SL.Sem

namespace Cert.Proof.AdaClaims

/-- Every run of the kernel ends with its arguments unchanged. -/
theorem frame_p : Cert.quiescent_Ada := fun m ρ _ => Cert.Ada.Gen.frame m ρ
/-- The same, on the extended reals. -/
theorem frame_pi : Cert.quiescent_AdaIdeal := fun m ρ _ => Cert.AdaIdeal.Gen.frame m ρ
/-- Every run of the reference ends with its arguments unchanged. -/
theorem frame_ri : Cert.quiescent_AdaRefIdeal := fun m ρ _ =>
  (θ_run Cert.AdaRefIdeal.defs _ _).mono (fun r h => ⟨fun c => (h c).2,
      Idealize.ShloMosaic.sem_eq_zero_of_no_sems (by decide) r.2⟩)
    (Cert.AdaRefIdeal.Value.run (F := Ideal) m ρ)

/-- Kernel and reference compute the same array on the extended reals. -/
theorem algebraic : Cert.algebraic_AdaIdeal_AdaRefIdeal := by
  intro m ρ m' ρ' _ hag
  refine ⟨fun c => Cert.AdaIdeal.Whole.goal m c, ?_, ?_⟩
  · exact (θ_run Cert.AdaIdeal.defs _ _).mono (fun _ h c => ⟨(h c).1.trans (Cert.AdaIdeal.Whole.final m c), (h c).2⟩)
      (Cert.AdaIdeal.Value.run_blocks (F := Ideal) m ρ)
  · refine (θ_run Cert.AdaRefIdeal.defs _ _).mono (fun _ h c => ⟨(h c).1.trans ?_, (h c).2⟩)
      (Cert.AdaRefIdeal.Value.run (F := Ideal) m' ρ')
    unfold Cert.AdaIdeal.Whole.goal
    obtain ⟨h0, h1, h2⟩ := hag c
    rw [h0, h1, h2]
    rfl

end Cert.Proof.AdaClaims
-- ==== Proof.WinRow.lean ====
/-
  One query's softmax average over the keys of its window, on the extended reals.

  A key outside the window has the score `⊥`, a key inside a real score. Whatever real number is taken off every score
  before the exponential, and whether the weights are divided by their sum before or after they meet the values, the
  average is the same: `avg` below. The kernel forms it in base two from scores times `1 / log 2`, over three tiles
  of 256 keys; the reference in base e over all the 8192 keys.
-/
module

public import Idealize.ShloMosaic.PureOps.Ideal
public import Idealize.ShloMosaic.Lib.IdealHost

@[expose] public section

noncomputable section

open Idealize.ShloMosaic

namespace Cert.WinRow

/-- A real score where the key counts, `⊥` where it does not. -/
def masked (p : Prop) [Decidable p] (a : ℝ) : EReal := if p then (a : EReal) else ⊥

section Average

variable {ι : Type} [Fintype ι] (P : ι → Prop) [DecidablePred P] (a : ι → ℝ) (v : ι → EReal)

/-- The weight of a key: its exponential where it counts. -/
def wt (i : ι) : ℝ := if P i then Real.exp (a i) else 0

/-- The average of `v` with the softmax weights of the keys that count. -/
def avg : EReal := ∑ i, v i * ((wt P a i / ∑ j, wt P a j : ℝ) : EReal)

theorem wt_nonneg (i : ι) : 0 ≤ wt P a i := by
  unfold wt; split
  · exact (Real.exp_pos _).le
  · exact le_rfl

theorem wt_sum_pos {i₀ : ι} (h : P i₀) : 0 < ∑ j, wt P a j := by
  refine Finset.sum_pos' (fun i _ => wt_nonneg P a i) ⟨i₀, Finset.mem_univ _, ?_⟩
  simp [wt, h, Real.exp_pos]

/-- A sum of coerced reals. -/
theorem coe_sum (f : ι → ℝ) : ∑ i, ((f i : ℝ) : EReal) = ((∑ i, f i : ℝ) : EReal) := by
  classical
  induction (Finset.univ : Finset ι) using Finset.induction_on with
  | empty => simp
  | insert i s hi ih => rw [Finset.sum_insert hi, Finset.sum_insert hi, ih, EReal.coe_add]

/-- A nonnegative real factor goes inside a sum. -/
theorem sum_mul_coe (f : ι → EReal) {c : ℝ} (hc : 0 ≤ c) : (∑ i, f i) * (c : EReal) = ∑ i, f i * (c : EReal) := by
  classical
  induction (Finset.univ : Finset ι) using Finset.induction_on with
  | empty => simp
  | insert i s hi ih =>
    rw [Finset.sum_insert hi, Finset.sum_insert hi, ← ih, EReal.right_distrib_of_nonneg_of_ne_top (by exact_mod_cast hc) (EReal.coe_ne_top c)]

/-- The exponential of a masked score less a real number. -/
theorem exp_masked (M : ℝ) (i : ι) : Ideal.exp (masked (P i) (a i) - (M : EReal)) = ((wt P a i * Real.exp (-M) : ℝ) : EReal) := by
  unfold masked wt
  split
  · rw [← EReal.coe_sub, sub_eq_add_neg, ← Real.exp_add]; rfl
  · rw [EReal.bot_sub, zero_mul]; rfl

/-- The same in base two, for a score times `1 / log 2`. -/
theorem exp2_masked (M : ℝ) (i : ι) : Ideal.exp2 (masked (P i) ((Real.log 2)⁻¹ * a i) - (M : EReal)) = ((wt P a i * Real.exp (-(Real.log 2 * M)) : ℝ) : EReal) := by
  have hl : Real.log 2 ≠ 0 := (Real.log_pos one_lt_two).ne'
  unfold masked wt
  split
  · rw [← EReal.coe_sub, ← Real.exp_add]
    show ((Real.rpow 2 _ : ℝ) : EReal) = _
    congr 1
    show (2 : ℝ) ^ ((Real.log 2)⁻¹ * a i - M) = _
    rw [Real.rpow_def_of_pos two_pos]
    congr 1
    field_simp
    ring
  · rw [EReal.bot_sub, zero_mul]; rfl

/-- Weights times a positive number, divided by their sum. -/
theorem div_scaled {i₀ : ι} (h : P i₀) {c : ℝ} (hc : 0 < c) (i : ι) :
    Ideal.div ((wt P a i * c : ℝ) : EReal) (∑ j, ((wt P a j * c : ℝ) : EReal)) = ((wt P a i / ∑ j, wt P a j : ℝ) : EReal) := by
  have hS := wt_sum_pos P a h
  rw [coe_sum, ← Finset.sum_mul, Ideal.div, if_neg, ← EReal.coe_inv, ← EReal.coe_mul]
  · congr 1; field_simp
  · exact_mod_cast (mul_pos hS hc).ne'

/-- The reference's form: weights divided by their sum first. -/
theorem avg_of_probs {i₀ : ι} (h : P i₀) (M : ℝ) :
    ∑ i, v i * Ideal.div (Ideal.exp (masked (P i) (a i) - (M : EReal))) (∑ j, Ideal.exp (masked (P j) (a j) - (M : EReal))) = avg P a v := by
  simp only [exp_masked, div_scaled P a h (Real.exp_pos _)]
  rfl

/-- The kernel's form: base two, and the sum of weighted values divided last. -/
theorem avg_of_quot {i₀ : ι} (h : P i₀) (M : ℝ) :
    Ideal.div (∑ i, v i * Ideal.exp2 (masked (P i) ((Real.log 2)⁻¹ * a i) - (M : EReal)))
      (∑ i, Ideal.exp2 (masked (P i) ((Real.log 2)⁻¹ * a i) - (M : EReal))) = avg P a v := by
  have hS := wt_sum_pos P a h
  have hc := Real.exp_pos (-(Real.log 2 * M))
  simp only [exp2_masked]
  rw [coe_sum, ← Finset.sum_mul, Ideal.div, if_neg (by exact_mod_cast (mul_pos hS hc).ne'), ← EReal.coe_inv,
    sum_mul_coe _ (inv_nonneg.mpr (mul_pos hS hc).le), avg]
  refine Finset.sum_congr rfl fun i _ => ?_
  rw [mul_assoc, ← EReal.coe_mul]
  congr 2
  field_simp

/-- A real number added to every score changes nothing. -/
theorem avg_shift (β : ℝ) : avg P (fun i => a i + β) v = avg P a v := by
  unfold avg
  have hw : ∀ i, wt P (fun i => a i + β) i = wt P a i * Real.exp β := fun i => by
    unfold wt; split
    · exact Real.exp_add _ _
    · simp
  simp only [hw, ← Finset.sum_mul]
  refine Finset.sum_congr rfl fun i _ => ?_
  rw [mul_div_mul_right _ _ (Real.exp_pos β).ne']

/-- The greatest of masked scores is never `⊤`. -/
theorem fold_ne_top : Finset.univ.fold max (⊥ : EReal) (fun i => masked (P i) (a i)) ≠ ⊤ := by
  refine ne_of_lt ?_
  rw [Finset.fold_max_lt]
  refine ⟨bot_lt_top, fun i _ => ?_⟩
  unfold masked; split
  · exact EReal.coe_lt_top _
  · exact bot_lt_top

/-- The greatest of masked scores is a number where some key counts. -/
theorem fold_ne_bot {i₀ : ι} (h : P i₀) : Finset.univ.fold max (⊥ : EReal) (fun i => masked (P i) (a i)) ≠ ⊥ := by
  refine ne_of_gt ?_
  rw [Finset.lt_fold_max]
  exact Or.inr ⟨i₀, Finset.mem_univ _, by rw [masked, if_pos h]; exact EReal.bot_lt_coe _⟩

end Average

/-- A sum over the 8192 keys of a function that vanishes outside `t`'s window is the sum over the three tiles of 256 keys
    that end with `t`'s own. -/
theorem sum_tiles {β : Type} [AddCommMonoid β] (f : ℤ → β) (t₀ : ℤ) (q : Fin 256) (h0 : 0 ≤ t₀) (hN : t₀ + 256 ≤ 8192)
    (hf : ∀ z, ¬ (0 ≤ z ∧ z ≤ t₀ + q.val ∧ t₀ + q.val < z + 512) → f z = 0) :
    ∑ s : Fin 8192, f s.val = ∑ x : Fin 3 × Fin 256, f (t₀ - 512 + 256 * x.1.val + x.2.val) := by
  have hL : ∑ s : Fin 8192, f s.val = ∑ z ∈ (Finset.Ico (-512 : ℤ) 8192), f z := by
    rw [← Finset.sum_subset (s₁ := Finset.Ico (0 : ℤ) 8192)]
    · refine Finset.sum_bij (fun s _ => (s.val : ℤ)) ?_ ?_ ?_ ?_
      · intro s _; rw [Finset.mem_Ico]; have := s.isLt; omega
      · intro a _ b _ e; exact Fin.ext (by exact_mod_cast e)
      · intro z hz; rw [Finset.mem_Ico] at hz
        exact ⟨⟨z.toNat, by omega⟩, Finset.mem_univ _, by simp [hz.1]⟩
      · intros; rfl
    · intro z; simp only [Finset.mem_Ico]; omega
    · intro z _ hz; rw [Finset.mem_Ico] at hz; exact hf z (by omega)
  rw [hL, ← Finset.sum_subset (s₁ := Finset.Ico (t₀ - 512) (t₀ + 256))]
  · symm
    refine Finset.sum_bij (fun x _ => t₀ - 512 + 256 * (x.1.val : ℤ) + x.2.val) ?_ ?_ ?_ ?_
    · intro x _; rw [Finset.mem_Ico]; have := x.1.isLt; have := x.2.isLt; omega
    · rintro ⟨a, b⟩ _ ⟨c, d⟩ _ e
      have ha := a.isLt; have hb := b.isLt; have hc := c.isLt; have hd := d.isLt
      simp only at e
      exact Prod.ext (Fin.ext (by simp only; omega)) (Fin.ext (by simp only; omega))
    · intro z hz; rw [Finset.mem_Ico] at hz
      refine ⟨(⟨((z - (t₀ - 512)) / 256).toNat, by omega⟩, ⟨((z - (t₀ - 512)) % 256).toNat, by omega⟩), Finset.mem_univ _, ?_⟩
      simp only; omega
    · intros; rfl
  · intro z; simp only [Finset.mem_Ico]; omega
  · intro z _ hz; rw [Finset.mem_Ico] at hz; have := q.isLt; exact hf z (by omega)

/-- Whether the key at `z` counts for the query at `t`. -/
abbrev inWin (t : ℤ) (z : ℤ) : Prop := 0 ≤ z ∧ z ≤ t ∧ t < z + 512

/-- The average over the 8192 keys is the average over the three tiles. -/
theorem avg_tiles (a : ℤ → ℝ) (v : ℤ → EReal) (t₀ : ℤ) (q : Fin 256) (h0 : 0 ≤ t₀) (hN : t₀ + 256 ≤ 8192) :
    avg (fun s : Fin 8192 => inWin (t₀ + q.val) s.val) (fun s => a s.val) (fun s => v s.val)
      = avg (fun x : Fin 3 × Fin 256 => inWin (t₀ + q.val) (t₀ - 512 + 256 * x.1.val + x.2.val))
          (fun x => a (t₀ - 512 + 256 * x.1.val + x.2.val)) (fun x => v (t₀ - 512 + 256 * x.1.val + x.2.val)) := by
  have hw : ∑ s : Fin 8192, wt (fun s : Fin 8192 => inWin (t₀ + q.val) s.val) (fun s => a s.val) s
      = ∑ x, wt (fun x : Fin 3 × Fin 256 => inWin (t₀ + q.val) (t₀ - 512 + 256 * x.1.val + x.2.val))
          (fun x => a (t₀ - 512 + 256 * x.1.val + x.2.val)) x :=
    sum_tiles (fun z => if inWin (t₀ + q.val) z then Real.exp (a z) else 0) t₀ q h0 hN fun z hz => if_neg hz
  unfold avg
  rw [hw]
  exact sum_tiles (fun z => v z * (((if inWin (t₀ + q.val) z then Real.exp (a z) else 0) / _ : ℝ) : EReal)) t₀ q h0 hN
    fun z hz => by rw [if_neg hz, zero_div, EReal.coe_zero, mul_zero]

/-- A key's score at position `z` for the query at position `t`: the product over eight less the slope times the
    distance. -/
def score (q k : Fin 64 → ℝ) (c : ℝ) (t z : ℤ) : ℝ := ∑ d, k d * (q d * (1 / 8)) - c * ((t : ℝ) - z)

/-- The slope of query head `g` of key head `h`. -/
def pen (h : Fin 2) (g : Fin 4) : ℝ := (1 / 2) ^ (4 * h.val + g.val + 1)

/-- A finite sum of products of reals, coerced. -/
theorem coe_dot {n : Nat} (k q : Fin n → ℝ) : ∑ d, ((k d : ℝ) : EReal) * ((q d : ℝ) : EReal) = ((∑ d, k d * q d : ℝ) : EReal) := by
  rw [← coe_sum]; simp only [EReal.coe_mul]

end Cert.WinRow
-- ==== Proof.WinModel.lean ====
/-
  The window kernel's result block, named step by step.

  A block holds two stretches of 256 queries for the four query heads of one key head. Each stretch scores three tiles of
  256 keys: a tile's key rows carry, beside their 128 key columns, 128 further columns that spell the row's position in the
  tile and whether the tile lies before the sequence; the queries carry matching rows with the head's slope, so that one
  product gives the scores with the distance penalty. The definitions below say each of these steps once, for whichever
  head and tile, and `out_eq` reads the block as its eight pieces.
-/
module

public import proofs.«01_k».proof.Proof.Gen.WinIdeal.Value
public import proofs.«01_k».proof.Proof.WinRow

@[expose] public section

set_option maxRecDepth 16384

noncomputable section

open Idealize.ShloMosaic Idealize.ShloMosaic.TcCoe

namespace Cert.WinIdeal.Block

open Cert.WinIdeal Cert.WinIdeal.Gen Cert.WinRow

/-- The named mask value. -/
def neg : Ideal .f32 := Named.named κ "neg" 0xF149F2CA#32

/-- The position columns of the key rows. -/
def cols : FVec Ideal S256x128 .f32 :=
  k0_pay8 (F := Ideal) (iota .tc S256x128 32 [0] iota_S256x128_d0_w32) (iota .tc S256x128 32 [1] iota_S256x128_d1_w32) k0_pay5 128#32 k0_pay6 k0_pay7
    (Scalar.extui (Scalar.cmpi .sgt 128#32 0#32))

/-- The lanes that take the tile's own position. -/
def high : FVec Ideal S256x128 .f32 :=
  k0_pay10 (k0_pay9 (iota .tc S256x128 32 [1] iota_S256x128_d1_w32)) (Scalar.ofBits .f32 0x3F800000#32)

/-- The lane that takes the flag of a tile before the sequence. -/
def flag : FVec Ideal S256x128 .f32 := k0_pay11 (F := Ideal) (iota .tc S256x128 32 [1] iota_S256x128_d1_w32)

/-- The word of tile `n` of the four a block sees. -/
def tileWord (a2 n : BitVec 32) : BitVec 32 := Scalar.addi (Scalar.subi (Scalar.muli 2#32 a2) 2#32) n

/-- The position columns of a tile. -/
def kPos (w : BitVec 32) : FVec Ideal S256x128 .f32 :=
  addf (addf cols (mulf high (broadcast S256x128 (Scalar.sitofp .f32 (Scalar.muli w 2#32)))))
    (mulf flag (broadcast S256x128 (Scalar.select (Scalar.cmpi .slt w 0#32) (Scalar.ofBits .f32 0x3F800000#32) (Scalar.ofBits .f32 0x00000000#32))))

/-- The key rows of a tile with their position columns. -/
def kAug (w : BitVec 32) (k : Vec Ideal S1x256x128 .bf16) : FVec Ideal S256x256 .bf16 :=
  concatenate S256x256 1 [⟨S256x128, shapeCast S256x128 k shapeCasts_S1x256x128_S256x128⟩, ⟨S256x128, truncf .bf16 (kPos w) bitsLt_bf16_f32⟩]
    concatenates_S256x128_S256x128_S256x256_d1

/-- The values of a tile with a row of ones. -/
def vAug (v : Vec Ideal S1x128x256 .bf16) : FVec Ideal S144x256 .bf16 := k0_pay13 (k0_pay4 (F := Ideal)) v

/-- A head's slope, by the key head. -/
def slope (a : BitVec 32) (hi lo : Ideal .f32) : Ideal .f32 := Scalar.select (Scalar.cmpi .eq a 1#32) hi lo

/-- A slope's first part. -/
def part0 (c : Ideal .f32) : FVec Ideal S8x256 .f32 := extf .f32 (truncf .bf16 (broadcast S8x256 c) bitsLt_bf16_f32) bitsLt_bf16_f32

/-- A slope's second part. -/
def part1 (c : Ideal .f32) : FVec Ideal S8x256 .f32 :=
  extf .f32 (truncf .bf16 (subf (broadcast S8x256 c) (part0 c)) bitsLt_bf16_f32) bitsLt_bf16_f32

/-- The first part of a product with the stretch's first position, negated. -/
def low0 (p : FVec Ideal S8x256 .f32) (t : Ideal .f32) : FVec Ideal S8x256 .f32 :=
  subf (broadcast S8x256 (Scalar.ofBits .f32 0x00000000#32)) (extf .f32 (truncf .bf16 (mulf p (broadcast S8x256 t)) bitsLt_bf16_f32) bitsLt_bf16_f32)

/-- Its second part, negated. -/
def low1 (p : FVec Ideal S8x256 .f32) (t : Ideal .f32) : FVec Ideal S8x256 .f32 :=
  subf (broadcast S8x256 (Scalar.ofBits .f32 0x00000000#32))
    (subf (mulf p (broadcast S8x256 t)) (extf .f32 (truncf .bf16 (mulf p (broadcast S8x256 t)) bitsLt_bf16_f32) bitsLt_bf16_f32))

/-- `x` in row `n` of eight, `y` elsewhere. -/
def row8 (n : BitVec 32) (x y : FVec Ideal S8x256 .f32) : FVec Ideal S8x256 .f32 :=
  select (cmpi .eq (iota .tc S8x256 32 [0] iota_S8x256_d0_w32) (broadcast S8x256 n)) x y

/-- The eight rows of a slope. -/
def aTop (c t : Ideal .f32) : FVec Ideal S8x256 .f32 :=
  row8 7#32 (low1 (part1 c) t) (row8 6#32 (low0 (part1 c) t) (row8 3#32 (part1 c)
    (row8 2#32 (mulf (broadcast S8x256 (Scalar.ofBits .f32 0x43000000#32)) (part1 c))
    (row8 5#32 (low1 (part0 c) t) (row8 4#32 (low0 (part0 c) t) (row8 1#32 (part0 c)
    (row8 0#32 (mulf (broadcast S8x256 (Scalar.ofBits .f32 0x43000000#32)) (part0 c)) (broadcast S8x256 (Scalar.ofBits .f32 0x00000000#32)))))))))

/-- The row that meets the flag, and zeros. -/
def aRest : FVec Ideal S120x256 .f32 :=
  select (cmpi .eq (iota .tc S120x256 32 [0] iota_S120x256_d0_w32) (broadcast S120x256 0#32)) (broadcast S120x256 neg)
    (broadcast S120x256 (Scalar.ofBits .f32 0x00000000#32))

/-- The 128 rows of a slope that meet the position columns. -/
def aRow (c t : Ideal .f32) : FVec Ideal S128x256 .f32 :=
  concatenate S128x256 0 [⟨S8x256, aTop c t⟩, ⟨S120x256, aRest⟩] concatenates_S8x256_S120x256_S128x256_d0

/-- The scaled queries of one head. -/
def qScaled (y : Vec Ideal S1x64x256 .f32) : FVec Ideal S64x256 .bf16 := k0_pay23 y

/-- The scaled queries of the four heads, side by side. -/
def qAll (y0 y1 y2 y3 : Vec Ideal S1x64x256 .f32) : FVec Ideal S64x1024 .bf16 :=
  concatenate S64x1024 1 [⟨S64x256, qScaled y0⟩, ⟨S64x256, qScaled y1⟩, ⟨S64x256, qScaled y2⟩, ⟨S64x256, qScaled y3⟩]
    concatenates_S64x256_S64x256_S64x256_S64x256_S64x1024_d1

/-- The queries kept for key head `n`, zeros for the other. -/
def qFor (a n : BitVec 32) (q : FVec Ideal S64x1024 .bf16) : FVec Ideal S64x1024 .bf16 :=
  Scalar.select (Scalar.cmpi .eq a n) q (broadcast S64x1024 (Scalar.ofBits .bf16 0x0000#16))

/-- The four heads' slope rows, side by side. -/
def aAll (c0 c1 c2 c3 t : Ideal .f32) : FVec Ideal S128x1024 .bf16 :=
  truncf .bf16 (concatenate S128x1024 1 [⟨S128x256, aRow c0 t⟩, ⟨S128x256, aRow c1 t⟩, ⟨S128x256, aRow c2 t⟩, ⟨S128x256, aRow c3 t⟩]
    concatenates_S128x256_S128x256_S128x256_S128x256_S128x1024_d1) bitsLt_bf16_f32

/-- The query columns with their slope rows. -/
def qAug (a : BitVec 32) (q : FVec Ideal S64x1024 .bf16) (p : FVec Ideal S128x1024 .bf16) : FVec Ideal S256x1024 .bf16 :=
  concatenate S256x1024 0 [⟨S64x1024, qFor a 0#32 q⟩, ⟨S64x1024, qFor a 1#32 q⟩, ⟨S128x1024, p⟩]
    concatenates_S64x1024_S64x1024_S128x1024_S256x1024_d0

/-- The four heads' columns. -/
def cut0 (q : FVec Ideal S256x1024 .bf16) : FVec Ideal S256x256 .bf16 := extractStridedSlice S256x256 ![0, 0] q slices_S256x1024_o0_0_S256x256
def cut1 (q : FVec Ideal S256x1024 .bf16) : FVec Ideal S256x256 .bf16 := extractStridedSlice S256x256 ![0, 256] q slices_S256x1024_o0_256_S256x256
def cut2 (q : FVec Ideal S256x1024 .bf16) : FVec Ideal S256x256 .bf16 := extractStridedSlice S256x256 ![0, 512] q slices_S256x1024_o0_512_S256x256
def cut3 (q : FVec Ideal S256x1024 .bf16) : FVec Ideal S256x256 .bf16 := extractStridedSlice S256x256 ![0, 768] q slices_S256x1024_o0_768_S256x256

/-- A tile's scores. -/
def raw (k q : FVec Ideal S256x256 .bf16) : FVec Ideal S256x256 .f32 :=
  matmul dot_S256x256_S256x256_S256x256_1_0_0_1_n_n none k q (constant S256x256 .f32 0x00000000#32)

/-- Masked scores. -/
def keep (p : IVec S256x256 1) (s : FVec Ideal S256x256 .f32) : FVec Ideal S256x256 .f32 := select p s (broadcast S256x256 neg)

/-- The weighted values over the weights' sum. -/
def quot (a : BitVec 32) (v0 v1 v2 : FVec Ideal S144x256 .bf16) (s0 s1 s2 : FVec Ideal S256x256 .f32) : FVec Ideal S64x256 .f32 :=
  k0_pay136 a v0 v1 v2 s0 s1 s2

/-- A head's part of the result block. -/
def piece (o : FVec Ideal S64x256 .f32) (g : Vec Ideal S1x1x1x256 .f32) (y : Vec Ideal S1x64x256 .f32) : FVec Ideal S1x64x256 .f32 :=
  k0_pay138 o (k0_pay137 g) y

/-- The first position of stretch `h` of a block, as a float. -/
def startOf (a2 h : BitVec 32) : Ideal .f32 := Scalar.sitofp .f32 (Scalar.muli (Scalar.addi (Scalar.muli 2#32 a2) h) 256#32)

/-- The query columns of a stretch. -/
def qOf (a a2 h : BitVec 32) (y0 y1 y2 y3 : Vec Ideal S1x64x256 .f32) : FVec Ideal S256x1024 .bf16 :=
  qAug a (qAll y0 y1 y2 y3)
    (aAll (slope a (Named.named κ "slope5" 0x3D38AA3B#32) (Named.named κ "slope1" 0x3F38AA3B#32))
      (slope a (Named.named κ "slope6" 0x3CB8AA3B#32) (Named.named κ "slope2" 0x3EB8AA3B#32))
      (slope a (Named.named κ "slope7" 0x3C38AA3B#32) (Named.named κ "slope3" 0x3E38AA3B#32))
      (slope a (Named.named κ "slope8" 0x3BB8AA3B#32) (Named.named κ "slope4" 0x3DB8AA3B#32)) (startOf a2 h))

/-- A head's weighted values from three tiles' keys and values. -/
def head (a : BitVec 32) (k0 k1 k2 q : FVec Ideal S256x256 .bf16) (v0 v1 v2 : Vec Ideal S1x128x256 .bf16) : FVec Ideal S64x256 .f32 :=
  quot a (vAug v0) (vAug v1) (vAug v2) (keep k0_pay2 (raw k0 q)) (raw k1 q) (keep k0_pay3 (raw k2 q))

section Out

variable (i : grid0.Coords) (x0 : Vec Ideal S1x256x512 .f32) (x1 x2 : Vec Ideal S1x512x128 .bf16) (x3 x4 : Vec Ideal S1x128x512 .bf16)
  (x5 : Vec Ideal S1x1x16x512 .f32) (x6 : Vec Ideal S1x256x512 .f32)

/-- The words of the key head and of the block. -/
def headWord : BitVec 32 := BitVec.ofNat 32 (i 1).val
def blockWord : BitVec 32 := BitVec.ofNat 32 (i 2).val

/-- The four tiles of keys. -/
def key0 : FVec Ideal S256x256 .bf16 := kAug (tileWord (blockWord i) 0#32) (View.ld x1 r0_0)
def key1 : FVec Ideal S256x256 .bf16 := kAug (tileWord (blockWord i) 1#32) (View.ld x1 r0_2)
def key2 : FVec Ideal S256x256 .bf16 := kAug (tileWord (blockWord i) 2#32) (View.ld x2 r0_0)
def key3 : FVec Ideal S256x256 .bf16 := kAug (tileWord (blockWord i) 3#32) (View.ld x2 r0_2)

/-- The two stretches' queries. -/
def qry0 : FVec Ideal S256x1024 .bf16 :=
  qOf (headWord i) (blockWord i) 0#32 (View.ld x0 r0_4) (View.ld x0 r0_5) (View.ld x0 r0_6) (View.ld x0 r0_7)
def qry1 : FVec Ideal S256x1024 .bf16 :=
  qOf (headWord i) (blockWord i) 1#32 (View.ld x0 r0_8) (View.ld x0 r0_9) (View.ld x0 r0_10) (View.ld x0 r0_11)

/-- A head's weighted values in the first stretch, and in the second. -/
def head0 (q : FVec Ideal S256x256 .bf16) : FVec Ideal S64x256 .f32 :=
  head (headWord i) (key0 i x1) (key1 i x1) (key2 i x2) q (View.ld x3 r0_1) (View.ld x3 r0_3) (View.ld x4 r0_1)
def head1 (q : FVec Ideal S256x256 .bf16) : FVec Ideal S64x256 .f32 :=
  head (headWord i) (key1 i x1) (key2 i x2) (key3 i x2) q (View.ld x3 r0_3) (View.ld x4 r0_1) (View.ld x4 r0_3)

theorem kA0 : k0_pay160 (F := Ideal) i x0 x1 x2 x3 x4 x5 x6 = key0 i x1 := rfl
theorem kA1 : k0_pay162 (F := Ideal) i x0 x1 x2 x3 x4 x5 x6 = key1 i x1 := rfl
theorem kA2 : k0_pay164 (F := Ideal) i x0 x1 x2 x3 x4 x5 x6 = key2 i x2 := rfl
theorem kA3 : k0_pay166 (F := Ideal) i x0 x1 x2 x3 x4 x5 x6 = key3 i x2 := rfl
theorem vA0 : k0_pay161 (F := Ideal) i x0 x1 x2 x3 x4 x5 x6 = vAug (View.ld x3 r0_1) := rfl
theorem vA1 : k0_pay163 (F := Ideal) i x0 x1 x2 x3 x4 x5 x6 = vAug (View.ld x3 r0_3) := rfl
theorem vA2 : k0_pay165 (F := Ideal) i x0 x1 x2 x3 x4 x5 x6 = vAug (View.ld x4 r0_1) := rfl
theorem vA3 : k0_pay167 (F := Ideal) i x0 x1 x2 x3 x4 x5 x6 = vAug (View.ld x4 r0_3) := rfl
theorem qA0 : k0_pay168 (F := Ideal) i x0 x1 x2 x3 x4 x5 x6 = qry0 i x0 := rfl
theorem qA1 : k0_pay169 (F := Ideal) i x0 x1 x2 x3 x4 x5 x6 = qry1 i x0 := rfl

/-- The block is its eight pieces. -/
theorem out_eq : out0_7 (F := Ideal) i x0 x1 x2 x3 x4 x5 x6 = View.canon [
    ⟨r0_11, piece (head1 i x1 x2 x3 x4 (cut3 (qry1 i x0))) (View.ld x5 r0_19) (View.ld x6 r0_11)⟩,
    ⟨r0_10, piece (head1 i x1 x2 x3 x4 (cut2 (qry1 i x0))) (View.ld x5 r0_18) (View.ld x6 r0_10)⟩,
    ⟨r0_9, piece (head1 i x1 x2 x3 x4 (cut1 (qry1 i x0))) (View.ld x5 r0_17) (View.ld x6 r0_9)⟩,
    ⟨r0_8, piece (head1 i x1 x2 x3 x4 (cut0 (qry1 i x0))) (View.ld x5 r0_16) (View.ld x6 r0_8)⟩,
    ⟨r0_7, piece (head0 i x1 x2 x3 x4 (cut3 (qry0 i x0))) (View.ld x5 r0_15) (View.ld x6 r0_7)⟩,
    ⟨r0_6, piece (head0 i x1 x2 x3 x4 (cut2 (qry0 i x0))) (View.ld x5 r0_14) (View.ld x6 r0_6)⟩,
    ⟨r0_5, piece (head0 i x1 x2 x3 x4 (cut1 (qry0 i x0))) (View.ld x5 r0_13) (View.ld x6 r0_5)⟩,
    ⟨r0_4, piece (head0 i x1 x2 x3 x4 (cut0 (qry0 i x0))) (View.ld x5 r0_12) (View.ld x6 r0_4)⟩] := by
  rfl

end Out

end Cert.WinIdeal.Block
-- ==== Proof.WinBlock.lean ====
/-
  The window kernel's result block, read as window averages.

  A tile's product is a real score times `1 / log 2` for a tile of the sequence and `⊥` for one before it.
-/
module

public import proofs.«01_k».proof.Proof.WinModel
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe

namespace Cert.WinIdeal.Block

open Cert.WinIdeal Cert.WinIdeal.Gen Cert.WinRow

/-- The reciprocal of the logarithm of two. -/
abbrev L : ℝ := (Real.log 2)⁻¹

/-! ## The position columns -/

/-- Column 0 holds which half of the tile a row is in. -/
theorem cols_0 (r : Fin 256) : cols (ix2 r 0) = (((r.val / 128 : ℕ) : ℝ) : EReal) := by
  have key : ∃ f : Fin 256 → BitVec 32, (∀ r, cols (ix2 r 0) = (((f r).toInt : ℝ) : EReal)) ∧ ∀ r, (f r).toInt = (r.val / 128 : ℕ) := by
    refine ⟨?f, fun r => ?a, ?b⟩
    case a =>
      pointwise [cols, k0_pay5, k0_pay6, k0_pay7, k0_pay8]
      rfl
    case b => decide +kernel
  obtain ⟨f, h1, h2⟩ := key
  rw [h1, h2]; rfl

/-- Column 1 holds the row within its half. -/
theorem cols_1 (r : Fin 256) : cols (ix2 r 1) = (((r.val % 128 : ℕ) : ℝ) : EReal) := by
  have key : ∃ f : Fin 256 → BitVec 32, (∀ r, cols (ix2 r 1) = (((f r).toInt : ℝ) : EReal)) ∧ ∀ r, (f r).toInt = (r.val % 128 : ℕ) := by
    refine ⟨?f, fun r => ?a, ?b⟩
    case a =>
      pointwise [cols, k0_pay5, k0_pay6, k0_pay7, k0_pay8]
      rfl
    case b => decide +kernel
  obtain ⟨f, h1, h2⟩ := key
  rw [h1, h2]; rfl

/-- Column 4 holds one. -/
theorem cols_4 (r : Fin 256) : cols (ix2 r 4) = 1 := by
  have key : ∃ f : Fin 256 → BitVec 32, (∀ r, cols (ix2 r 4) = (((f r).toInt : ℝ) : EReal)) ∧ ∀ r, (f r).toInt = 1 := by
    refine ⟨?f, fun r => ?a, ?b⟩
    case a =>
      pointwise [cols, k0_pay5, k0_pay6, k0_pay7, k0_pay8]
      rfl
    case b => decide +kernel
  obtain ⟨f, h1, h2⟩ := key
  rw [h1, h2]; norm_num

/-- Column 8 holds zero. -/
theorem cols_8 (r : Fin 256) : cols (ix2 r 8) = 0 := by
  have key : ∃ f : Fin 256 → BitVec 32, (∀ r, cols (ix2 r 8) = (((f r).toInt : ℝ) : EReal)) ∧ ∀ r, (f r).toInt = 0 := by
    refine ⟨?f, fun r => ?a, ?b⟩
    case a =>
      pointwise [cols, k0_pay5, k0_pay6, k0_pay7, k0_pay8]
      rfl
    case b => decide +kernel
  obtain ⟨f, h1, h2⟩ := key
  rw [h1, h2]; norm_num

/-- The lanes that take the tile's position, at an index. -/
theorem high_at (r : Fin 256) (l : Fin 128) : high (ix2 r l) = if l.val = 0 ∨ l.val = 2 then 1 else 0 := by
  have e : high (ix2 r l) = Scalar.select (IntOp.ori (IntOp.cmpi .eq (BitVec.ofNat 32 l.val) 0#32) (IntOp.cmpi .eq (BitVec.ofNat 32 l.val) 2#32)) (1 : EReal) 0 := by
    pointwise [high, k0_pay9, k0_pay10]
  have hw : ∀ l : Fin 128, IntOp.ori (IntOp.cmpi .eq (BitVec.ofNat 32 l.val) 0#32) (IntOp.cmpi .eq (BitVec.ofNat 32 l.val) 2#32)
      = if l.val = 0 ∨ l.val = 2 then 1#1 else 0#1 := by decide +kernel
  rw [e, hw]; split <;> simp [Scalar.select]

/-- The flag's lane, at an index. -/
theorem flag_at (r : Fin 256) (l : Fin 128) : flag (ix2 r l) = if l.val = 8 then 1 else 0 := by
  have e : flag (ix2 r l) = Scalar.select (IntOp.cmpi .eq (BitVec.ofNat 32 l.val) 8#32) (1 : EReal) 0 := by
    pointwise [flag, k0_pay11]
  have hw : ∀ l : Fin 128, IntOp.cmpi .eq (BitVec.ofNat 32 l.val) 8#32 = if l.val = 8 then 1#1 else 0#1 := by decide +kernel
  rw [e, hw]; split <;> simp [Scalar.select]

/-- The position columns of tile `T`, at an index. -/
theorem kPos_at (w : BitVec 32) (T : ℤ) (h2 : (Scalar.muli w 2#32).toInt = 2 * T) (h0 : Scalar.cmpi .slt w 0#32 = BitVec.ofBool (decide (T < 0)))
    (r : Fin 256) (l : Fin 128) : kPos w (ix2 r l) = cols (ix2 r l) + high (ix2 r l) * ((2 * T : ℝ) : EReal) + if T < 0 then flag (ix2 r l) else 0 := by
  have e : kPos w (ix2 r l) = cols (ix2 r l) + high (ix2 r l) * (((Scalar.muli w 2#32).toInt : ℝ) : EReal)
      + Scalar.select (Scalar.cmpi .slt w 0#32) (flag (ix2 r l)) 0 := by
    pointwise [kPos]
  rw [e, h2, h0]
  by_cases hT : T < 0 <;> simp [hT, Scalar.select]

/-! ## The slope rows -/

theorem ofBits_128 : Ideal.ofBits .f32 0x43000000#32 = ((128 : ℝ) : EReal) := by
  simp [Ideal.ofBits, Ideal.ieee, -EReal.coe_mul]; norm_num

/-- The mask value is `⊥`. -/
theorem neg_eq : neg = ⊥ := by
  simp [neg, Named.named, κ]

/-- A slope's eight rows, at an index, for a real slope and position. -/
theorem aTop_at (c t : ℝ) (l : Fin 8) (q : Fin 256) : aTop (c : EReal) (t : EReal) (ix2 l q)
    = ((if l.val = 0 then 128 * c else if l.val = 1 then c else if l.val = 4 then -(c * t) else 0 : ℝ) : EReal) := by
  have e : aTop (c : EReal) (t : EReal) (ix2 l q)
      = Scalar.select (IntOp.cmpi .eq (BitVec.ofNat 32 l.val) 7#32) (0 - (((c : EReal) - c) * t - ((c : EReal) - c) * t))
        (Scalar.select (IntOp.cmpi .eq (BitVec.ofNat 32 l.val) 6#32) (0 - ((c : EReal) - c) * t)
        (Scalar.select (IntOp.cmpi .eq (BitVec.ofNat 32 l.val) 3#32) ((c : EReal) - c)
        (Scalar.select (IntOp.cmpi .eq (BitVec.ofNat 32 l.val) 2#32) (Ideal.ofBits .f32 0x43000000#32 * ((c : EReal) - c))
        (Scalar.select (IntOp.cmpi .eq (BitVec.ofNat 32 l.val) 5#32) (0 - ((c : EReal) * t - c * t))
        (Scalar.select (IntOp.cmpi .eq (BitVec.ofNat 32 l.val) 4#32) (0 - (c : EReal) * t)
        (Scalar.select (IntOp.cmpi .eq (BitVec.ofNat 32 l.val) 1#32) (c : EReal)
        (Scalar.select (IntOp.cmpi .eq (BitVec.ofNat 32 l.val) 0#32) (Ideal.ofBits .f32 0x43000000#32 * c) 0))))))) := by
    pointwise [aTop, row8, part0, part1, low0, low1]
  rw [e, ofBits_128]
  simp only [← EReal.coe_mul, ← EReal.coe_sub, ← EReal.coe_zero]
  fin_cases l <;> simp [Scalar.select, IntOp.cmpi]

/-- The rows of a slope, at an index. -/
theorem aRow_at (c t : ℝ) (l : Fin 128) (q : Fin 256) : aRow (c : EReal) (t : EReal) (ix2 l q)
    = if l.val = 8 then ⊥ else ((if l.val = 0 then 128 * c else if l.val = 1 then c else if l.val = 4 then -(c * t) else 0 : ℝ) : EReal) := by
  have e : aRow (c : EReal) (t : EReal) (ix2 l q) = if h : l.val < 8 then aTop (c : EReal) (t : EReal) (ix2 ⟨l.val, h⟩ q)
      else Scalar.select (IntOp.cmpi .eq (BitVec.ofNat 32 (l.val - 8)) 0#32) neg 0 := by
    pointwise [aRow, aRest]
  rw [e, neg_eq]
  split
  · rename_i h
    rw [aTop_at, if_neg (by omega : ¬ l.val = 8)]
  · rename_i h
    have hw : ∀ l : Fin 128, ¬ l.val < 8 → IntOp.cmpi .eq (BitVec.ofNat 32 (l.val - 8)) 0#32 = if l.val = 8 then 1#1 else 0#1 := by decide +kernel
    rw [hw l h, if_neg (by omega : ¬ l.val = 0), if_neg (by omega : ¬ l.val = 1), if_neg (by omega : ¬ l.val = 4)]
    split <;> simp [Scalar.select]

/-- A sum over 128 columns whose terms vanish outside four of them. -/
theorem sum_four (f : Fin 128 → EReal) (hf : ∀ l : Fin 128, l.val ≠ 0 → l.val ≠ 1 → l.val ≠ 4 → l.val ≠ 8 → f l = 0) :
    ∑ l, f l = f 0 + f 1 + f 4 + f 8 := by
  rw [← Finset.sum_subset (Finset.subset_univ ({0, 1, 4, 8} : Finset (Fin 128)))]
  · rw [Finset.sum_insert (by decide), Finset.sum_insert (by decide), Finset.sum_insert (by decide), Finset.sum_singleton]
    simp only [add_assoc]
  · intro l _ hl
    simp only [Finset.mem_insert, Finset.mem_singleton, not_or] at hl
    exact hf l (fun h => hl.1 (Fin.ext h)) (fun h => hl.2.1 (Fin.ext h)) (fun h => hl.2.2.1 (Fin.ext h)) (fun h => hl.2.2.2 (Fin.ext h))

/-- The position columns against the slope rows: the slope times the distance, or `⊥` before the sequence. -/
theorem pos_dot (w : BitVec 32) (T : ℤ) (h2 : (Scalar.muli w 2#32).toInt = 2 * T) (h0 : Scalar.cmpi .slt w 0#32 = BitVec.ofBool (decide (T < 0)))
    (c t : ℝ) (r q : Fin 256) :
    ∑ l : Fin 128, kPos w (ix2 r l) * aRow (c : EReal) (t : EReal) (ix2 l q) = masked (0 ≤ T) (c * (256 * T + r.val - t)) := by
  rw [sum_four]
  · simp only [kPos_at w T h2 h0, aRow_at, cols_0, cols_1, cols_4, cols_8, high_at, flag_at]
    have hr : ((r.val : ℕ) : ℝ) = 128 * ((r.val / 128 : ℕ) : ℝ) + ((r.val % 128 : ℕ) : ℝ) := by exact_mod_cast (Nat.div_add_mod r.val 128).symm
    by_cases hT : T < 0
    · simp [hT, masked, not_le.mpr hT]
    · simp only [hT, masked, not_lt.mp hT, if_true, if_false]
      rw [hr]
      simp [← EReal.coe_add, ← EReal.coe_mul, ← EReal.coe_one, -EReal.coe_neg]
      norm_cast
      push_cast
      ring_nf
  · intro l a b d e
    rw [aRow_at, if_neg e, if_neg a, if_neg b, if_neg d]; simp

/-! ## A tile's scores -/

/-- One head's query column with its slope row, at an index: what the four heads' columns are cut out of. -/
def qCol (a : BitVec 32) (y : Vec Ideal S1x64x256 .f32) (s t : Ideal .f32) (q : Fin 256) (x : Fin 256) : EReal :=
  if h : x.val < 64 then Scalar.select (Scalar.cmpi .eq a 0#32) (y (ix3 0 ⟨x.val, h⟩ q) * Named.named (F := Ideal) κ "slope3" (φ := .f32) 0x3E38AA3B#32) 0
  else if h : x.val - 64 < 64 then Scalar.select (Scalar.cmpi .eq a 1#32) (y (ix3 0 ⟨x.val - 64, h⟩ q) * Named.named (F := Ideal) κ "slope3" (φ := .f32) 0x3E38AA3B#32) 0
  else aRow s t (ix2 ⟨x.val - 64 - 64, by omega⟩ q)

section Cuts

variable (a : BitVec 32) (y0 y1 y2 y3 : Vec Ideal S1x64x256 .f32) (s0 s1 s2 s3 t : Ideal .f32)

/-- The query columns with their slope rows, at an index. -/
theorem qAug_at (q : FVec Ideal S64x1024 .bf16) (p : FVec Ideal S128x1024 .bf16) (x : Fin 256) (c : Fin 1024) :
    qAug a q p (ix2 x c) = if h : x.val < 64 then Scalar.select (Scalar.cmpi .eq a 0#32) (q (ix2 ⟨x.val, h⟩ c)) 0
      else if h : x.val - 64 < 64 then Scalar.select (Scalar.cmpi .eq a 1#32) (q (ix2 ⟨x.val - 64, h⟩ c)) 0
      else p (ix2 ⟨x.val - 64 - 64, by omega⟩ c) := by
  pointwise [qAug, qFor]

theorem qAll_0 (d : Fin 64) (q : Fin 256) : qAll y0 y1 y2 y3 (ix2 d ⟨q.val, by omega⟩) = y0 (ix3 0 d q) * Named.named (F := Ideal) κ "slope3" (φ := .f32) 0x3E38AA3B#32 := by
  pointwise [qAll, qScaled, k0_pay23]
theorem aAll_0 (l : Fin 128) (q : Fin 256) : aAll s0 s1 s2 s3 t (ix2 l ⟨q.val, by omega⟩) = aRow s0 t (ix2 l q) := by
  pointwise [aAll]
/-- The columns of head 0. -/
theorem cut0_at (x q : Fin 256) : cut0 (qAug a (qAll y0 y1 y2 y3) (aAll s0 s1 s2 s3 t)) (ix2 x q) = qCol a y0 s0 t q x := by
  have e : ∀ z : FVec Ideal S256x1024 .bf16, cut0 z (ix2 x q) = z (ix2 x ⟨q.val, by omega⟩) := fun z => by pointwise [cut0]
  rw [e, qAug_at, qCol]
  simp only [qAll_0, aAll_0]

theorem qAll_1 (d : Fin 64) (q : Fin 256) : qAll y0 y1 y2 y3 (ix2 d ⟨256 + q.val, by omega⟩) = y1 (ix3 0 d q) * Named.named (F := Ideal) κ "slope3" (φ := .f32) 0x3E38AA3B#32 := by
  pointwise [qAll, qScaled, k0_pay23]
theorem aAll_1 (l : Fin 128) (q : Fin 256) : aAll s0 s1 s2 s3 t (ix2 l ⟨256 + q.val, by omega⟩) = aRow s1 t (ix2 l q) := by
  pointwise [aAll]
/-- The columns of head 1. -/
theorem cut1_at (x q : Fin 256) : cut1 (qAug a (qAll y0 y1 y2 y3) (aAll s0 s1 s2 s3 t)) (ix2 x q) = qCol a y1 s1 t q x := by
  have e : ∀ z : FVec Ideal S256x1024 .bf16, cut1 z (ix2 x q) = z (ix2 x ⟨256 + q.val, by omega⟩) := fun z => by pointwise [cut1]
  rw [e, qAug_at, qCol]
  simp only [qAll_1, aAll_1]

theorem qAll_2 (d : Fin 64) (q : Fin 256) : qAll y0 y1 y2 y3 (ix2 d ⟨512 + q.val, by omega⟩) = y2 (ix3 0 d q) * Named.named (F := Ideal) κ "slope3" (φ := .f32) 0x3E38AA3B#32 := by
  pointwise [qAll, qScaled, k0_pay23]
  have e : (⟨512 + q.val - 256 - 256, by omega⟩ : Fin 256) = q := Fin.ext (by show 512 + q.val - 256 - 256 = q.val; omega)
  rw [dif_neg (by omega), dif_neg (by omega), dif_pos (by omega), e]
theorem aAll_2 (l : Fin 128) (q : Fin 256) : aAll s0 s1 s2 s3 t (ix2 l ⟨512 + q.val, by omega⟩) = aRow s2 t (ix2 l q) := by
  pointwise [aAll]
  have e : (⟨512 + q.val - 256 - 256, by omega⟩ : Fin 256) = q := Fin.ext (by show 512 + q.val - 256 - 256 = q.val; omega)
  rw [dif_neg (by omega), dif_neg (by omega), dif_pos (by omega), e]
/-- The columns of head 2. -/
theorem cut2_at (x q : Fin 256) : cut2 (qAug a (qAll y0 y1 y2 y3) (aAll s0 s1 s2 s3 t)) (ix2 x q) = qCol a y2 s2 t q x := by
  have e : ∀ z : FVec Ideal S256x1024 .bf16, cut2 z (ix2 x q) = z (ix2 x ⟨512 + q.val, by omega⟩) := fun z => by pointwise [cut2]
  rw [e, qAug_at, qCol]
  simp only [qAll_2, aAll_2]

theorem qAll_3 (d : Fin 64) (q : Fin 256) : qAll y0 y1 y2 y3 (ix2 d ⟨768 + q.val, by omega⟩) = y3 (ix3 0 d q) * Named.named (F := Ideal) κ "slope3" (φ := .f32) 0x3E38AA3B#32 := by
  pointwise [qAll, qScaled, k0_pay23]
  have e : (⟨768 + q.val - 256 - 256 - 256, by omega⟩ : Fin 256) = q := Fin.ext (by show 768 + q.val - 256 - 256 - 256 = q.val; omega)
  rw [dif_neg (by omega), dif_neg (by omega), dif_neg (by omega), e]
theorem aAll_3 (l : Fin 128) (q : Fin 256) : aAll s0 s1 s2 s3 t (ix2 l ⟨768 + q.val, by omega⟩) = aRow s3 t (ix2 l q) := by
  pointwise [aAll]
  have e : (⟨768 + q.val - 256 - 256 - 256, by omega⟩ : Fin 256) = q := Fin.ext (by show 768 + q.val - 256 - 256 - 256 = q.val; omega)
  rw [dif_neg (by omega), dif_neg (by omega), dif_neg (by omega), e]
/-- The columns of head 3. -/
theorem cut3_at (x q : Fin 256) : cut3 (qAug a (qAll y0 y1 y2 y3) (aAll s0 s1 s2 s3 t)) (ix2 x q) = qCol a y3 s3 t q x := by
  have e : ∀ z : FVec Ideal S256x1024 .bf16, cut3 z (ix2 x q) = z (ix2 x ⟨768 + q.val, by omega⟩) := fun z => by pointwise [cut3]
  rw [e, qAug_at, qCol]
  simp only [qAll_3, aAll_3]

end Cuts

/-- A sum over 256 columns in its three parts. -/
theorem sum_parts (f : Fin 256 → EReal) : ∑ x, f x = (∑ d : Fin 64, f ⟨d.val, by omega⟩ + ∑ d : Fin 64, f ⟨64 + d.val, by omega⟩)
    + ∑ l : Fin 128, f ⟨128 + l.val, by omega⟩ := by
  rw [Fin.sum_univ_add (a := 128) (b := 128) f, Fin.sum_univ_add (a := 64) (b := 64) (fun i => f (Fin.castAdd 128 i))]
  rfl

/-- The eighth over the logarithm of two. -/
theorem slope3_eq : Named.named (F := Ideal) κ "slope3" (φ := .f32) 0x3E38AA3B#32 = (((1 / 8) * L : ℝ) : EReal) := by
  simp [Named.named, κ]

/-- A key row, at an index. -/
theorem kAug_at (w : BitVec 32) (k : Vec Ideal S1x256x128 .bf16) (r l : Fin 256) :
    kAug w k (ix2 r l) = if h : l.val < 128 then k (ix3 0 r ⟨l.val, h⟩) else kPos w (ix2 r ⟨l.val - 128, by omega⟩) := by
  pointwise [kAug]

/-- A product, at an index. -/
theorem raw_at (x y : FVec Ideal S256x256 .bf16) (d c : Fin 256) : raw x y (ix2 d c) = ∑ l, x (ix2 d l) * y (ix2 l c) := by
  pointwise [raw]

/-- The word of a key head. -/
abbrev headW (a : Fin 2) : BitVec 32 := BitVec.ofNat 32 a.val

/-- The two questions asked of it. -/
theorem head_0 (a : Fin 2) : Scalar.cmpi .eq (headW a) 0#32 = if a.val = 0 then 1#1 else 0#1 := by revert a; decide
theorem head_1 (a : Fin 2) : Scalar.cmpi .eq (headW a) 1#32 = if a.val = 1 then 1#1 else 0#1 := by revert a; decide

/-- A query's product with a key row of its key head, less the penalty: the score up to what depends on the query alone. -/
def lin (y : Fin 64 → ℝ) (k : Fin 128 → ℝ) (a : Fin 2) (p t z : ℝ) : ℝ :=
  ∑ d : Fin 64, k ⟨a.val * 64 + d.val, by omega⟩ * (y d * (1 / 8)) + p * (z - t)

/-- A tile's scores: real over the logarithm of two, or `⊥` before the sequence. -/
theorem tile_at (w : BitVec 32) (T : ℤ) (h2 : (Scalar.muli w 2#32).toInt = 2 * T) (h0 : Scalar.cmpi .slt w 0#32 = BitVec.ofBool (decide (T < 0)))
    (a : Fin 2) (k : Vec Ideal S1x256x128 .bf16) (K : Fin 256 → Fin 128 → ℝ) (hk : ∀ r l, k (ix3 0 r l) = ((K r l : ℝ) : EReal))
    (y : Vec Ideal S1x64x256 .f32) (Y : Fin 64 → ℝ) (p t : ℝ) (q : Fin 256) (hy : ∀ d, y (ix3 0 d q) = ((Y d : ℝ) : EReal))
    (c : FVec Ideal S256x256 .bf16) (hc : ∀ x, c (ix2 x q) = qCol (headW a) y ((p * L : ℝ) : EReal) (t : EReal) q x) (r : Fin 256) :
    raw (kAug w k) c (ix2 r q) = masked (0 ≤ T) (L * lin Y (K r) a p t (256 * T + r.val)) := by
  rw [raw_at, sum_parts]
  have e3 : ∑ l : Fin 128, kAug w k (ix2 r ⟨128 + l.val, by omega⟩) * c (ix2 ⟨128 + l.val, by omega⟩ q)
      = masked (0 ≤ T) (p * L * (256 * T + r.val - t)) := by
    rw [← pos_dot w T h2 h0 (p * L) t r q]
    refine Finset.sum_congr rfl fun l _ => ?_
    have l1 : (⟨128 + l.val - 128, by omega⟩ : Fin 128) = l := Fin.ext (by simp)
    have l2 : (⟨128 + l.val - 64 - 64, by omega⟩ : Fin 128) = l := Fin.ext (by show 128 + l.val - 64 - 64 = l.val; omega)
    rw [kAug_at, hc, qCol, dif_neg (by show ¬ 128 + l.val < 128; omega), dif_neg (by show ¬ 128 + l.val < 64; omega),
      dif_neg (by show ¬ 128 + l.val - 64 < 64; omega), l1, l2]
  have e1 : ∑ d : Fin 64, kAug w k (ix2 r ⟨d.val, by omega⟩) * c (ix2 ⟨d.val, by omega⟩ q)
      = ((if a.val = 0 then ∑ d : Fin 64, K r ⟨d.val, by omega⟩ * (Y d * ((1 / 8) * L)) else 0 : ℝ) : EReal) := by
    have : ∀ d : Fin 64, kAug w k (ix2 r ⟨d.val, by omega⟩) * c (ix2 ⟨d.val, by omega⟩ q)
        = ((if a.val = 0 then K r ⟨d.val, by omega⟩ * (Y d * ((1 / 8) * L)) else 0 : ℝ) : EReal) := fun d => by
      rw [kAug_at, hc, qCol, dif_pos (by show d.val < 128; omega), dif_pos (by show d.val < 64; omega), hk, hy, slope3_eq, head_0]
      split <;> simp [Scalar.select]
    simp only [this, coe_sum]
    split <;> simp
  have e2 : ∑ d : Fin 64, kAug w k (ix2 r ⟨64 + d.val, by omega⟩) * c (ix2 ⟨64 + d.val, by omega⟩ q)
      = ((if a.val = 1 then ∑ d : Fin 64, K r ⟨64 + d.val, by omega⟩ * (Y d * ((1 / 8) * L)) else 0 : ℝ) : EReal) := by
    have : ∀ d : Fin 64, kAug w k (ix2 r ⟨64 + d.val, by omega⟩) * c (ix2 ⟨64 + d.val, by omega⟩ q)
        = ((if a.val = 1 then K r ⟨64 + d.val, by omega⟩ * (Y d * ((1 / 8) * L)) else 0 : ℝ) : EReal) := fun d => by
      have hd : (⟨64 + d.val - 64, by omega⟩ : Fin 64) = d := Fin.ext (by simp)
      rw [kAug_at, hc, qCol, dif_pos (by show 64 + d.val < 128; omega), dif_neg (by show ¬ 64 + d.val < 64; omega),
        dif_pos (by show 64 + d.val - 64 < 64; omega), hk, slope3_eq, hd, hy, head_1]
      split <;> simp [Scalar.select]
    simp only [this, coe_sum]
    split <;> simp
  rw [e1, e2, e3, ← EReal.coe_add]
  by_cases hT : 0 ≤ T
  · simp only [masked, if_pos hT, ← EReal.coe_add]
    congr 1
    unfold lin
    rw [mul_add, Finset.mul_sum]
    fin_cases a
    · simp only [Fin.zero_eta, Fin.val_zero, if_true, zero_mul, zero_add, zero_ne_one, if_false, add_zero]
      congr 1
      · exact Finset.sum_congr rfl fun d _ => by ring
      · ring
    · simp only [Fin.mk_one, Fin.val_one, one_ne_zero, if_false, if_true, one_mul, zero_add]
      congr 1
      · exact Finset.sum_congr rfl fun d _ => by ring
      · ring
  · simp only [masked, if_neg hT, EReal.add_bot]

end Cert.WinIdeal.Block
-- ==== Proof.WinHead.lean ====
/-
  A head's quotient in the window kernel, read as an average.

  Masked, a tile's scores are those of exactly the keys of the window; and the weighted values of the three tiles over the
  weights' sum are then the window average.
-/
module

public import proofs.«01_k».proof.Proof.WinBlock
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe

namespace Cert.WinIdeal.Block

open Cert.WinIdeal Cert.WinIdeal.Gen Cert.WinRow

/-! ## A head's quotient -/

/-- Masked scores, at an index. -/
theorem keep_at (p : IVec S256x256 1) (s : FVec Ideal S256x256 .f32) (r q : Fin 256) : keep p s (ix2 r q) = Scalar.select (p (ix2 r q)) (s (ix2 r q)) ⊥ := by
  rw [← neg_eq]; pointwise [keep]

/-- The early tile keeps the keys after the query's place in the tile. -/
theorem early_at (s : FVec Ideal S256x256 .f32) (P : Prop) [Decidable P] (x : ℝ) (r q : Fin 256) (h : s (ix2 r q) = masked P x) :
    keep k0_pay2 s (ix2 r q) = masked (P ∧ q.val < r.val) x := by
  have e : k0_pay2 (ix2 r q) = IntOp.cmpi .slt (BitVec.ofNat 32 q.val) (BitVec.ofNat 32 r.val) := by
    pointwise [k0_pay2]
  have hw : ∀ q r : Fin 256, IntOp.cmpi .slt (BitVec.ofNat 32 q.val) (BitVec.ofNat 32 r.val) = if q.val < r.val then 1#1 else 0#1 := by decide +kernel
  rw [keep_at, e, hw, h]
  by_cases h1 : q.val < r.val <;> by_cases h2 : P <;> simp [Scalar.select, masked, h1, h2]

/-- The late tile keeps the keys up to the query's place in the tile. -/
theorem late_at (s : FVec Ideal S256x256 .f32) (P : Prop) [Decidable P] (x : ℝ) (r q : Fin 256) (h : s (ix2 r q) = masked P x) :
    keep k0_pay3 s (ix2 r q) = masked (P ∧ r.val ≤ q.val) x := by
  have e : k0_pay3 (ix2 r q) = IntOp.cmpi .sle (BitVec.ofNat 32 r.val) (BitVec.ofNat 32 q.val) := by
    pointwise [k0_pay3]
  have hw : ∀ q r : Fin 256, IntOp.cmpi .sle (BitVec.ofNat 32 r.val) (BitVec.ofNat 32 q.val) = if r.val ≤ q.val then 1#1 else 0#1 := by decide +kernel
  rw [keep_at, e, hw, h]
  by_cases h1 : r.val ≤ q.val <;> by_cases h2 : P <;> simp [Scalar.select, masked, h1, h2]

/-- The values of a tile, at an index, and the row of ones. -/
theorem vAug_at (v : Vec Ideal S1x128x256 .bf16) (d : Fin 128) (r : Fin 256) : vAug v (ix2 ⟨d.val, by omega⟩ r) = v (ix3 0 d r) := by
  have e : vAug v (ix2 ⟨d.val, by omega⟩ r) = if h : d.val < 128 then v (ix3 0 ⟨d.val, h⟩ r)
      else Scalar.select (IntOp.cmpi .eq (BitVec.ofNat 32 (d.val - 128)) 0#32) (1 : EReal) 0 := by
    pointwise [vAug, k0_pay13, k0_pay4]
  rw [e, dif_pos d.isLt]
theorem vAug_one (v : Vec Ideal S1x128x256 .bf16) (r : Fin 256) : vAug v (ix2 128 r) = 1 := by
  pointwise [vAug, k0_pay13, k0_pay4]

/-- The greatest of a column's scores. -/
def top (s : FVec Ideal S256x256 .f32) (q : Fin 256) : EReal := Finset.fold max ⊥ (fun r => s (ix2 r q)) Finset.univ

/-- A weighted sum of one tile. -/
def part (v : FVec Ideal S144x256 .bf16) (s : FVec Ideal S256x256 .f32) (M : EReal) (d : Fin 144) (q : Fin 256) : EReal :=
  ∑ r : Fin 256, v (ix2 d r) * FloatOps.exp2 (F := Ideal) (φ := .f32) (s (ix2 r q) - M)

theorem ofBits_bot : Ideal.ofBits .f32 0xFF800000#32 = ⊥ := by
  simp [Ideal.ofBits, Ideal.ieee]

/-- A quotient, at an index. -/
theorem quot_at (a : BitVec 32) (v0 v1 v2 : FVec Ideal S144x256 .bf16) (s0 s1 s2 : FVec Ideal S256x256 .f32) (d : Fin 64) (q : Fin 256) (M : EReal)
    (hM : max (max (top s0 q) (top s1 q)) (top s2 q) = M) :
    quot a v0 v1 v2 s0 s1 s2 (ix2 d q) = Ideal.div
      (Scalar.select (Scalar.cmpi .eq a 1#32)
        (part v0 s0 M ⟨64 + d.val, by omega⟩ q + part v1 s1 M ⟨64 + d.val, by omega⟩ q + part v2 s2 M ⟨64 + d.val, by omega⟩ q)
        (part v0 s0 M ⟨d.val, by omega⟩ q + part v1 s1 M ⟨d.val, by omega⟩ q + part v2 s2 M ⟨d.val, by omega⟩ q))
      (part v0 s0 M 128 q + part v1 s1 M 128 q + part v2 s2 M 128 q) := by
  subst hM
  unfold part top
  rw [← ofBits_bot]
  pointwise [quot, k0_pay136]

/-- A quotient of masked scores is the average of the values with their weights. -/
theorem quot_eq (a : Fin 2) (v : Fin 3 → Vec Ideal S1x128x256 .bf16) (s0 s1 s2 : FVec Ideal S256x256 .f32) (d : Fin 64) (q : Fin 256)
    (P : Fin 3 × Fin 256 → Prop) [DecidablePred P] (x : Fin 3 × Fin 256 → ℝ)
    (h0 : ∀ r, s0 (ix2 r q) = masked (P (0, r)) (L * x (0, r))) (h1 : ∀ r, s1 (ix2 r q) = masked (P (1, r)) (L * x (1, r)))
    (h2 : ∀ r, s2 (ix2 r q) = masked (P (2, r)) (L * x (2, r))) (hP : P (2, q)) :
    quot (headW a) (vAug (v 0)) (vAug (v 1)) (vAug (v 2)) s0 s1 s2 (ix2 d q)
      = avg P x (fun i => v i.1 (ix3 0 ⟨a.val * 64 + d.val, by omega⟩ i.2)) := by
  obtain ⟨M, hM⟩ : ∃ M : ℝ, max (max (top s0 q) (top s1 q)) (top s2 q) = (M : EReal) := by
    have hb : max (max (top s0 q) (top s1 q)) (top s2 q) ≠ ⊥ := by
      have : top s2 q ≠ ⊥ := by
        unfold top; simp only [h2]
        exact fold_ne_bot (fun r => P (2, r)) (fun r => L * x (2, r)) (i₀ := q) hP
      exact fun e => this (max_eq_bot.mp e).2
    have ht : max (max (top s0 q) (top s1 q)) (top s2 q) ≠ ⊤ := by
      have t0 : top s0 q ≠ ⊤ := by unfold top; simp only [h0]; exact fold_ne_top (fun r => P (0, r)) (fun r => L * x (0, r))
      have t1 : top s1 q ≠ ⊤ := by unfold top; simp only [h1]; exact fold_ne_top (fun r => P (1, r)) (fun r => L * x (1, r))
      have t2 : top s2 q ≠ ⊤ := by unfold top; simp only [h2]; exact fold_ne_top (fun r => P (2, r)) (fun r => L * x (2, r))
      exact (max_lt (max_lt t0.lt_top t1.lt_top) t2.lt_top).ne
    exact ⟨_, (EReal.coe_toReal ht hb).symm⟩
  rw [quot_at _ _ _ _ _ _ _ _ _ _ hM, ← avg_of_quot P x _ hP M]
  simp only [Fintype.sum_prod_type, Fin.sum_univ_three]
  congr 1
  · have c : ∀ (n : Fin 3) (s : FVec Ideal S256x256 .f32) (h : ∀ r, s (ix2 r q) = masked (P (n, r)) (L * x (n, r))) (e : Fin 128),
        part (vAug (v n)) s M ⟨e.val, by omega⟩ q = ∑ r, v n (ix3 0 e r) * Ideal.exp2 (masked (P (n, r)) (L * x (n, r)) - (M : EReal)) := fun n s h e => by
      unfold part; exact Finset.sum_congr rfl fun r _ => by rw [h, vAug_at]; rfl
    rw [head_1, ← c 0 s0 h0, ← c 1 s1 h1, ← c 2 s2 h2]
    fin_cases a <;> simp [Scalar.select]
  · unfold part
    simp only [vAug_one, one_mul, h0, h1, h2]
    rfl

end Cert.WinIdeal.Block
-- ==== Proof.WinPiece.lean ====
/-
  The window kernel's result block, read at an index.

  A block's query `q` of stretch `h` stands at position `256 (2 b + h) + q`; the three tiles its stretch scores hold the
  keys from 512 before the stretch on. A head's part of the block is the other branches' value plus its gate times its
  window average over these keys.
-/
module

public import proofs.«01_k».proof.Proof.WinHead

@[expose] public section

set_option maxRecDepth 16384

noncomputable section

open Idealize.ShloMosaic Idealize.ShloMosaic.TcCoe

namespace Cert.WinIdeal.Block

open Cert.WinIdeal Cert.WinIdeal.Gen Cert.WinRow

/-- Masked scores depend on the mask's truth and the score. -/
theorem masked_congr {P P' : Prop} [Decidable P] [Decidable P'] {x x' : ℝ} (h : P ↔ P') (e : x = x') : masked P x = masked P' x' := by
  subst e; unfold masked; simp only [h]

/-- A head's weighted values in a stretch, from three tiles: the window average. -/
theorem head_eq (a : Fin 2) (w : Fin 3 → BitVec 32) (T₀ : ℤ) (hT : -2 ≤ T₀)
    (h2 : ∀ n, (Scalar.muli (w n) 2#32).toInt = 2 * (T₀ + n.val)) (h0 : ∀ n, Scalar.cmpi .slt (w n) 0#32 = BitVec.ofBool (decide (T₀ + n.val < 0)))
    (k : Fin 3 → Vec Ideal S1x256x128 .bf16) (vv : Fin 3 → Vec Ideal S1x128x256 .bf16) (K : Fin 3 → Fin 256 → Fin 128 → ℝ)
    (hk : ∀ n r l, k n (ix3 0 r l) = ((K n r l : ℝ) : EReal))
    (y : Vec Ideal S1x64x256 .f32) (Y : Fin 64 → ℝ) (p : ℝ) (t : ℤ) (ht : t = 256 * (T₀ + 2)) (d : Fin 64) (q : Fin 256)
    (hy : ∀ d, y (ix3 0 d q) = ((Y d : ℝ) : EReal))
    (c : FVec Ideal S256x256 .bf16) (hc : ∀ x, c (ix2 x q) = qCol (headW a) y ((p * L : ℝ) : EReal) ((t : ℝ) : EReal) q x) :
    head (headW a) (kAug (w 0) (k 0)) (kAug (w 1) (k 1)) (kAug (w 2) (k 2)) c (vv 0) (vv 1) (vv 2) (ix2 d q)
      = avg (fun x : Fin 3 × Fin 256 => inWin (t + q.val) (t - 512 + 256 * x.1.val + x.2.val))
          (fun x => score Y (fun e => K x.1 x.2 ⟨a.val * 64 + e.val, by omega⟩) p (t + q.val) (t - 512 + 256 * x.1.val + x.2.val))
          (fun x => vv x.1 (ix3 0 ⟨a.val * 64 + d.val, by omega⟩ x.2)) := by
  have tile : ∀ n r, raw (kAug (w n) (k n)) c (ix2 r q) = masked (0 ≤ T₀ + n.val) (L * lin Y (K n r) a p t (256 * (T₀ + n.val : ℤ) + r.val)) :=
    fun n r => tile_at (w n) (T₀ + n.val) (h2 n) (h0 n) a (k n) (K n) (hk n) y Y p t q hy c hc r
  have hq := q.isLt
  unfold head
  rw [quot_eq a vv _ _ _ d q (fun x : Fin 3 × Fin 256 => inWin (t + q.val) (t - 512 + 256 * x.1.val + x.2.val))
    (fun x => lin Y (K x.1 x.2) a p t (256 * (T₀ + x.1.val : ℤ) + x.2.val))
    (fun r => (early_at _ _ _ r q (tile 0 r)).trans (masked_congr (by
      have := r.isLt; simp only [inWin, Fin.val_zero]; omega) rfl))
    (fun r => (tile 1 r).trans (masked_congr (by
      have := r.isLt; simp only [inWin, Fin.val_one]; omega) rfl))
    (fun r => (late_at _ _ _ r q (tile 2 r)).trans (masked_congr (by
      have := r.isLt; simp only [inWin, Fin.val_two]; omega) rfl))
    (by simp only [inWin, Fin.val_two]; omega),
    ← avg_shift _ _ _ (-(p * q.val))]
  congr 1
  funext x
  unfold lin score
  have hz : ((t - 512 + 256 * x.1.val + x.2.val : ℤ) : ℝ) = 256 * ((T₀ + x.1.val : ℤ) : ℝ) + x.2.val := by
    rw [ht]; push_cast; ring
  rw [hz]
  push_cast
  ring

/-! ## The words of a block -/

/-- A tile's word, doubled and compared with zero. -/
theorem tile_twice (b : Fin 16) (n : Fin 4) : (Scalar.muli (tileWord (BitVec.ofNat 32 b.val) (BitVec.ofNat 32 n.val)) 2#32).toInt = 2 * (2 * (b.val : ℤ) - 2 + n.val) := by
  revert b n; decide +kernel
theorem tile_neg (b : Fin 16) (n : Fin 4) : Scalar.cmpi .slt (tileWord (BitVec.ofNat 32 b.val) (BitVec.ofNat 32 n.val)) 0#32
    = BitVec.ofBool (decide (2 * (b.val : ℤ) - 2 + n.val < 0)) := by
  revert b n; decide +kernel

/-- The first position of a stretch. -/
theorem startOf_eq (b : Fin 16) (h : Fin 2) : startOf (BitVec.ofNat 32 b.val) (BitVec.ofNat 32 h.val) = (((256 * (2 * (b.val : ℤ) + h.val) : ℤ) : ℝ) : EReal) := by
  have hw : ∀ (b : Fin 16) (h : Fin 2), (Scalar.muli (Scalar.addi (Scalar.muli 2#32 (BitVec.ofNat 32 b.val)) (BitVec.ofNat 32 h.val)) 256#32).toInt
      = 256 * (2 * (b.val : ℤ) + h.val) := by decide +kernel
  rw [← hw]; rfl

/-- The slopes of the four heads. -/
theorem slope_0 (a : Fin 2) : slope (headW a) (Named.named κ "slope5" 0x3D38AA3B#32) (Named.named κ "slope1" 0x3F38AA3B#32) = ((pen a 0 * L : ℝ) : EReal) := by
  unfold slope; rw [head_1]
  fin_cases a <;> (simp [Scalar.select, Named.named, κ, pen, -EReal.coe_mul]; try norm_num)
theorem slope_1 (a : Fin 2) : slope (headW a) (Named.named κ "slope6" 0x3CB8AA3B#32) (Named.named κ "slope2" 0x3EB8AA3B#32) = ((pen a 1 * L : ℝ) : EReal) := by
  unfold slope; rw [head_1]
  fin_cases a <;> (simp [Scalar.select, Named.named, κ, pen, -EReal.coe_mul]; try norm_num)
theorem slope_2 (a : Fin 2) : slope (headW a) (Named.named κ "slope7" 0x3C38AA3B#32) (Named.named κ "slope3" 0x3E38AA3B#32) = ((pen a 2 * L : ℝ) : EReal) := by
  unfold slope; rw [head_1]
  fin_cases a <;> (simp [Scalar.select, Named.named, κ, pen, -EReal.coe_mul]; try norm_num)
theorem slope_3 (a : Fin 2) : slope (headW a) (Named.named κ "slope8" 0x3BB8AA3B#32) (Named.named κ "slope4" 0x3DB8AA3B#32) = ((pen a 3 * L : ℝ) : EReal) := by
  unfold slope; rw [head_1]
  fin_cases a <;> (simp [Scalar.select, Named.named, κ, pen, -EReal.coe_mul]; try norm_num)

/-! ## The block -/

/-- The halves of a block of keys and of a block of values. -/
theorem key_lo (x : Vec Ideal S1x512x128 .bf16) (r : Fin 256) (l : Fin 128) (m : Fin 512) (e : m.val = r.val) : View.ld x r0_0 (ix3 0 r l) = x (ix3 0 m l) := by
  rw [show m = ⟨r.val, by omega⟩ from Fin.ext e]
  pointwise []
theorem key_hi (x : Vec Ideal S1x512x128 .bf16) (r : Fin 256) (l : Fin 128) (m : Fin 512) (e : m.val = 256 + r.val) : View.ld x r0_2 (ix3 0 r l) = x (ix3 0 m l) := by
  rw [show m = ⟨256 + r.val, by omega⟩ from Fin.ext e]
  pointwise []
theorem val_lo (x : Vec Ideal S1x128x512 .bf16) (l : Fin 128) (r : Fin 256) (m : Fin 512) (e : m.val = r.val) : View.ld x r0_1 (ix3 0 l r) = x (ix3 0 l m) := by
  rw [show m = ⟨r.val, by omega⟩ from Fin.ext e]
  pointwise []
theorem val_hi (x : Vec Ideal S1x128x512 .bf16) (l : Fin 128) (r : Fin 256) (m : Fin 512) (e : m.val = 256 + r.val) : View.ld x r0_3 (ix3 0 l r) = x (ix3 0 l m) := by
  rw [show m = ⟨256 + r.val, by omega⟩ from Fin.ext e]
  pointwise []

section Block

variable (i : grid0.Coords) (a : Fin 2) (b : Fin 16) (x0 : Vec Ideal S1x256x512 .f32) (x1 x2 : Vec Ideal S1x512x128 .bf16) (x3 x4 : Vec Ideal S1x128x512 .bf16)
  (x5 : Vec Ideal S1x1x16x512 .f32) (x6 : Vec Ideal S1x256x512 .f32) (Q : Fin 256 → Fin 512 → ℝ) (K1 K2 : Fin 512 → Fin 128 → ℝ)

/-- A row of the block's 1024 keys. -/
def kRow (m : Fin 1024) : Fin 128 → ℝ := if h : m.val < 512 then K1 ⟨m.val, h⟩ else K2 ⟨m.val - 512, by omega⟩

/-- A value of the block's 1024 keys. -/
def vCol (e : Fin 128) (m : Fin 1024) : EReal := if h : m.val < 512 then x3 (ix3 0 e ⟨m.val, h⟩) else x4 (ix3 0 e ⟨m.val - 512, by omega⟩)

/-- The window average of head `g`'s column `d` for query `q` of stretch `h`. -/
def blkAvg (g : Fin 4) (d : Fin 64) (h : Fin 2) (q : Fin 256) : EReal :=
  avg (fun x : Fin 3 × Fin 256 => inWin (256 * (2 * (b.val : ℤ) + h.val) + q.val) (256 * (2 * (b.val : ℤ) + h.val) - 512 + 256 * x.1.val + x.2.val))
    (fun x => score (fun e => Q ⟨64 * g.val + e.val, by omega⟩ ⟨256 * h.val + q.val, by omega⟩)
      (fun e => kRow K1 K2 ⟨256 * (h.val + x.1.val) + x.2.val, by omega⟩ ⟨a.val * 64 + e.val, by omega⟩) (pen a g)
      (256 * (2 * (b.val : ℤ) + h.val) + q.val) (256 * (2 * (b.val : ℤ) + h.val) - 512 + 256 * x.1.val + x.2.val))
    (fun x => vCol x3 x4 ⟨a.val * 64 + d.val, by omega⟩ ⟨256 * (h.val + x.1.val) + x.2.val, by omega⟩)

/-- An element of the block. -/
def blkOut (z : S1x256x512.Idx) : EReal :=
  x6 z + blkAvg a b x3 x4 Q K1 K2 ⟨(z 1).val / 64, by have : (z 1).val < 256 := (z 1).isLt; omega⟩ ⟨(z 1).val % 64, by omega⟩
      ⟨(z 2).val / 256, by have : (z 2).val < 512 := (z 2).isLt; omega⟩ ⟨(z 2).val % 256, by omega⟩
    * Ideal.div 1 (1 + Ideal.exp (0 - x5 (ix4 0 0 ⟨8 + (z 1).val / 64, by have : (z 1).val < 256 := (z 1).isLt; omega⟩ ⟨(z 2).val, (z 2).isLt⟩)))

/-- A piece, at an index. -/
theorem piece_at (o : FVec Ideal S64x256 .f32) (g : Vec Ideal S1x1x1x256 .f32) (y : Vec Ideal S1x64x256 .f32) (d : Fin 64) (q : Fin 256) :
    piece o g y (ix3 0 d q) = y (ix3 0 d q) + o (ix2 d q) * Ideal.div 1 (1 + Ideal.exp (0 - g (ix4 0 0 0 q))) := by
  pointwise [piece, k0_pay137, k0_pay138]

/-- An element of a piece, from its head's window average. -/
theorem piece_out (g : Fin 4) (h : Fin 2) (d : Fin 64) (q : Fin 256) (o : FVec Ideal S64x256 .f32) (gt : Vec Ideal S1x1x1x256 .f32) (y : Vec Ideal S1x64x256 .f32)
    (ho : o (ix2 d q) = blkAvg a b x3 x4 Q K1 K2 g d h q)
    (hg : gt (ix4 0 0 0 q) = x5 (ix4 0 0 ⟨8 + g.val, by omega⟩ ⟨256 * h.val + q.val, by omega⟩))
    (hy : y (ix3 0 d q) = x6 (ix3 0 ⟨64 * g.val + d.val, by omega⟩ ⟨256 * h.val + q.val, by omega⟩))
    (z : S1x256x512.Idx) (hz : z = ix3 0 ⟨64 * g.val + d.val, by omega⟩ ⟨256 * h.val + q.val, by omega⟩) :
    piece o gt y (ix3 0 d q) = blkOut a b x3 x4 x5 x6 Q K1 K2 z := by
  subst hz
  rw [piece_at, ho, hg, hy]
  unfold blkOut
  have e1 : (⟨(64 * g.val + d.val) / 64, by omega⟩ : Fin 4) = g := Fin.ext (by show (64 * g.val + d.val) / 64 = g.val; omega)
  have e2 : (⟨(64 * g.val + d.val) % 64, by omega⟩ : Fin 64) = d := Fin.ext (by show (64 * g.val + d.val) % 64 = d.val; omega)
  have e3 : (⟨(256 * h.val + q.val) / 256, by omega⟩ : Fin 2) = h := Fin.ext (by show (256 * h.val + q.val) / 256 = h.val; omega)
  have e4 : (⟨(256 * h.val + q.val) % 256, by omega⟩ : Fin 256) = q := Fin.ext (by show (256 * h.val + q.val) % 256 = q.val; omega)
  have e5 : (⟨8 + (64 * g.val + d.val) / 64, by omega⟩ : Fin 16) = ⟨8 + g.val, by omega⟩ := Fin.ext (by show 8 + (64 * g.val + d.val) / 64 = 8 + g.val; omega)
  show _ = _ + blkAvg a b x3 x4 Q K1 K2 ⟨(64 * g.val + d.val) / 64, _⟩ ⟨(64 * g.val + d.val) % 64, _⟩ ⟨(256 * h.val + q.val) / 256, _⟩ ⟨(256 * h.val + q.val) % 256, _⟩
    * Ideal.div 1 (1 + Ideal.exp (0 - x5 (ix4 0 0 ⟨8 + (64 * g.val + d.val) / 64, _⟩ ⟨256 * h.val + q.val, _⟩)))
  rw [e1, e2, e3, e4, e5]

variable {i a b x0 x1 x2 Q K1 K2} (ha : (i 1).val = a.val) (hb : (i 2).val = b.val) (hQ : ∀ j c, x0 (ix3 0 j c) = ((Q j c : ℝ) : EReal))
  (h1 : ∀ r l, x1 (ix3 0 r l) = ((K1 r l : ℝ) : EReal)) (h2 : ∀ r l, x2 (ix3 0 r l) = ((K2 r l : ℝ) : EReal))

include ha hb hQ h1 h2

/-- A head's weighted values in the first stretch. -/
theorem head0_at (g : Fin 4) (d : Fin 64) (q : Fin 256) (y : Vec Ideal S1x64x256 .f32) (hy : ∀ e, y (ix3 0 e q) = x0 (ix3 0 ⟨64 * g.val + e.val, by omega⟩ ⟨256 * 0 + q.val, by omega⟩))
    (c : FVec Ideal S256x256 .bf16) (hc : ∀ x, c (ix2 x q) = qCol (headW a) y ((pen a g * L : ℝ) : EReal) (startOf (blockWord i) 0#32) q x) :
    head0 i x1 x2 x3 x4 c (ix2 d q) = blkAvg a b x3 x4 Q K1 K2 g d 0 q := by
  have hw : headWord i = headW a := by unfold headWord; rw [ha]
  have hbw : blockWord i = BitVec.ofNat 32 b.val := by unfold blockWord; rw [hb]
  rw [hbw, show startOf (BitVec.ofNat 32 b.val) 0#32 = _ from startOf_eq b 0] at hc
  unfold head0 key0 key1 key2
  rw [hw, hbw]
  have := head_eq a (fun n => tileWord (BitVec.ofNat 32 b.val) (BitVec.ofNat 32 (⟨n.val, by omega⟩ : Fin 4).val)) (2 * (b.val : ℤ) - 2) (by omega)
    (fun n => (tile_twice b ⟨n.val, by omega⟩).trans (by push_cast; ring))
    (fun n => (tile_neg b ⟨n.val, by omega⟩).trans (by congr 2 <;> (push_cast; congr 1; ring)))
    ![View.ld x1 r0_0, View.ld x1 r0_2, View.ld x2 r0_0] ![View.ld x3 r0_1, View.ld x3 r0_3, View.ld x4 r0_1]
    (fun n r => kRow K1 K2 ⟨256 * (0 + n.val) + r.val, by omega⟩)
    (fun n r l => by
      fin_cases n
      · show View.ld x1 r0_0 (ix3 0 r l) = _
        rw [kRow, dif_pos (by show 256 * (0 + 0) + r.val < 512; omega), ← h1]
        exact key_lo x1 r l _ (by show 256 * (0 + 0) + r.val = _; omega)
      · show View.ld x1 r0_2 (ix3 0 r l) = _
        rw [kRow, dif_pos (by show 256 * (0 + 1) + r.val < 512; omega), ← h1]
        exact key_hi x1 r l _ (by show 256 * (0 + 1) + r.val = _; omega)
      · show View.ld x2 r0_0 (ix3 0 r l) = _
        rw [kRow, dif_neg (by show ¬ 256 * (0 + 2) + r.val < 512; omega), ← h2]
        exact key_lo x2 r l _ (by show 256 * (0 + 2) + r.val - 512 = _; omega))
    y (fun e => Q ⟨64 * g.val + e.val, by omega⟩ ⟨256 * 0 + q.val, by omega⟩) (pen a g) (256 * (2 * (b.val : ℤ) + (0 : Fin 2).val)) (by simp; try ring) d q
    (fun e => by rw [hy, hQ]) c hc
  refine this.trans ?_
  unfold blkAvg
  congr 1
  funext x
  obtain ⟨n, r⟩ := x
  unfold vCol
  fin_cases n
  · show View.ld x3 r0_1 (ix3 0 ⟨a.val * 64 + d.val, by omega⟩ r) = _
    rw [dif_pos (by show 256 * (0 + 0) + r.val < 512; omega)]
    exact val_lo x3 _ r _ (by show 256 * (0 + 0) + r.val = _; omega)
  · show View.ld x3 r0_3 (ix3 0 ⟨a.val * 64 + d.val, by omega⟩ r) = _
    rw [dif_pos (by show 256 * (0 + 1) + r.val < 512; omega)]
    exact val_hi x3 _ r _ (by show 256 * (0 + 1) + r.val = _; omega)
  · show View.ld x4 r0_1 (ix3 0 ⟨a.val * 64 + d.val, by omega⟩ r) = _
    rw [dif_neg (by show ¬ 256 * (0 + 2) + r.val < 512; omega)]
    exact val_lo x4 _ r _ (by show 256 * (0 + 2) + r.val - 512 = _; omega)

/-- A head's weighted values in the second stretch. -/
theorem head1_at (g : Fin 4) (d : Fin 64) (q : Fin 256) (y : Vec Ideal S1x64x256 .f32) (hy : ∀ e, y (ix3 0 e q) = x0 (ix3 0 ⟨64 * g.val + e.val, by omega⟩ ⟨256 * 1 + q.val, by omega⟩))
    (c : FVec Ideal S256x256 .bf16) (hc : ∀ x, c (ix2 x q) = qCol (headW a) y ((pen a g * L : ℝ) : EReal) (startOf (blockWord i) 1#32) q x) :
    head1 i x1 x2 x3 x4 c (ix2 d q) = blkAvg a b x3 x4 Q K1 K2 g d 1 q := by
  have hw : headWord i = headW a := by unfold headWord; rw [ha]
  have hbw : blockWord i = BitVec.ofNat 32 b.val := by unfold blockWord; rw [hb]
  rw [hbw, show startOf (BitVec.ofNat 32 b.val) 1#32 = _ from startOf_eq b 1] at hc
  unfold head1 key1 key2 key3
  rw [hw, hbw]
  have := head_eq a (fun n => tileWord (BitVec.ofNat 32 b.val) (BitVec.ofNat 32 (⟨1 + n.val, by omega⟩ : Fin 4).val)) (2 * (b.val : ℤ) - 1) (by omega)
    (fun n => (tile_twice b ⟨1 + n.val, by omega⟩).trans (by push_cast; ring))
    (fun n => (tile_neg b ⟨1 + n.val, by omega⟩).trans (by congr 2 <;> (push_cast; congr 1; ring)))
    ![View.ld x1 r0_2, View.ld x2 r0_0, View.ld x2 r0_2] ![View.ld x3 r0_3, View.ld x4 r0_1, View.ld x4 r0_3]
    (fun n r => kRow K1 K2 ⟨256 * (1 + n.val) + r.val, by omega⟩)
    (fun n r l => by
      fin_cases n
      · show View.ld x1 r0_2 (ix3 0 r l) = _
        rw [kRow, dif_pos (by show 256 * (1 + 0) + r.val < 512; omega), ← h1]
        exact key_hi x1 r l _ (by show 256 * (1 + 0) + r.val = _; omega)
      · show View.ld x2 r0_0 (ix3 0 r l) = _
        rw [kRow, dif_neg (by show ¬ 256 * (1 + 1) + r.val < 512; omega), ← h2]
        exact key_lo x2 r l _ (by show 256 * (1 + 1) + r.val - 512 = _; omega)
      · show View.ld x2 r0_2 (ix3 0 r l) = _
        rw [kRow, dif_neg (by show ¬ 256 * (1 + 2) + r.val < 512; omega), ← h2]
        exact key_hi x2 r l _ (by show 256 * (1 + 2) + r.val - 512 = _; omega))
    y (fun e => Q ⟨64 * g.val + e.val, by omega⟩ ⟨256 * 1 + q.val, by omega⟩) (pen a g) (256 * (2 * (b.val : ℤ) + (1 : Fin 2).val)) (by simp; try ring) d q
    (fun e => by rw [hy, hQ]) c hc
  refine this.trans ?_
  unfold blkAvg
  congr 1
  funext x
  obtain ⟨n, r⟩ := x
  unfold vCol
  fin_cases n
  · show View.ld x3 r0_3 (ix3 0 ⟨a.val * 64 + d.val, by omega⟩ r) = _
    rw [dif_pos (by show 256 * (1 + 0) + r.val < 512; omega)]
    exact val_hi x3 _ r _ (by show 256 * (1 + 0) + r.val = _; omega)
  · show View.ld x4 r0_1 (ix3 0 ⟨a.val * 64 + d.val, by omega⟩ r) = _
    rw [dif_neg (by show ¬ 256 * (1 + 1) + r.val < 512; omega)]
    exact val_lo x4 _ r _ (by show 256 * (1 + 1) + r.val - 512 = _; omega)
  · show View.ld x4 r0_3 (ix3 0 ⟨a.val * 64 + d.val, by omega⟩ r) = _
    rw [dif_neg (by show ¬ 256 * (1 + 2) + r.val < 512; omega)]
    exact val_hi x4 _ r _ (by show 256 * (1 + 2) + r.val - 512 = _; omega)

omit ha hb hQ h1 h2 in
/-- A piece's index is a column of the head and a query. -/
theorem idx_of (x : S1x64x256.Idx) : ∃ (d : Fin 64) (q : Fin 256), x = ix3 0 d q := by
  idx_vars x
  exact ⟨x1, x2, by rw [Subsingleton.elim x0 0]⟩

omit ha hb hQ h1 h2 in
/-- Where a piece's index lies in the block. -/
theorem emb_at (o1 o2 : Nat) (inb : ∀ a, ![0, o1, o2] a + S1x64x256.size a ≤ S1x256x512.size a) (d : Fin 64) (q : Fin 256) (j : Fin 256) (c : Fin 512)
    (hj : j.val = o1 + d.val) (hc : c.val = o2 + q.val) :
    (Rect.unit (s := S1x256x512) ![0, o1, o2] S1x64x256.size inb).emb (ix3 0 d q) = ix3 0 j c := by
  funext e
  apply Fin.ext
  rw [Rect.emb_apply]
  fin_cases e
  · rfl
  · simp only [Rect.off_unit, Rect.stride_unit, Nat.one_mul]; exact hj.symm
  · simp only [Rect.off_unit, Rect.stride_unit, Nat.one_mul]; exact hc.symm

/-- The block, element by element. -/
theorem out_at (z : S1x256x512.Idx) : out0_7 (F := Ideal) i x0 x1 x2 x3 x4 x5 x6 z = blkOut a b x3 x4 x5 x6 Q K1 K2 z := by
  have hw : headWord i = headW a := by unfold headWord; rw [ha]
  rw [out_eq]
  refine View.canon_apply_of_pieces (Val := Elt Ideal) (blkOut a b x3 x4 x5 x6 Q K1 K2) _ ?_ z (cover0_7 _ _ _ _ _ _ _ _ z)
  intro p hp
  simp only [List.mem_cons, List.not_mem_nil, or_false] at hp
  rcases hp with rfl | rfl | rfl | rfl | rfl | rfl | rfl | rfl
  · intro (x : S1x64x256.Idx)
    obtain ⟨d, q, rfl⟩ := idx_of x
    show piece _ _ _ (ix3 0 d q) = _
    refine piece_out a b x3 x4 x5 x6 Q K1 K2 3 1 d q _ _ _ (head1_at x3 x4 ha hb hQ h1 h2 3 d q (View.ld x0 r0_11) (fun e => ?_) _ (fun x => ?_)) ?_ ?_ _ ?_
    · pointwise []
    · unfold qry1 qOf
      rw [cut3_at, hw, slope_3]
    · pointwise []
    · pointwise []
    · exact emb_at 192 256 (by decide) d q _ _ rfl rfl
  · intro (x : S1x64x256.Idx)
    obtain ⟨d, q, rfl⟩ := idx_of x
    show piece _ _ _ (ix3 0 d q) = _
    refine piece_out a b x3 x4 x5 x6 Q K1 K2 2 1 d q _ _ _ (head1_at x3 x4 ha hb hQ h1 h2 2 d q (View.ld x0 r0_10) (fun e => ?_) _ (fun x => ?_)) ?_ ?_ _ ?_
    · pointwise []
    · unfold qry1 qOf
      rw [cut2_at, hw, slope_2]
    · pointwise []
    · pointwise []
    · exact emb_at 128 256 (by decide) d q _ _ rfl rfl
  · intro (x : S1x64x256.Idx)
    obtain ⟨d, q, rfl⟩ := idx_of x
    show piece _ _ _ (ix3 0 d q) = _
    refine piece_out a b x3 x4 x5 x6 Q K1 K2 1 1 d q _ _ _ (head1_at x3 x4 ha hb hQ h1 h2 1 d q (View.ld x0 r0_9) (fun e => ?_) _ (fun x => ?_)) ?_ ?_ _ ?_
    · pointwise []
    · unfold qry1 qOf
      rw [cut1_at, hw, slope_1]
    · pointwise []
    · pointwise []
    · exact emb_at 64 256 (by decide) d q _ _ rfl rfl
  · intro (x : S1x64x256.Idx)
    obtain ⟨d, q, rfl⟩ := idx_of x
    show piece _ _ _ (ix3 0 d q) = _
    refine piece_out a b x3 x4 x5 x6 Q K1 K2 0 1 d q _ _ _ (head1_at x3 x4 ha hb hQ h1 h2 0 d q (View.ld x0 r0_8) (fun e => ?_) _ (fun x => ?_)) ?_ ?_ _ ?_
    · pointwise []
    · unfold qry1 qOf
      rw [cut0_at, hw, slope_0]
    · pointwise []
    · pointwise []
    · exact emb_at 0 256 (by decide) d q _ _ rfl rfl
  · intro (x : S1x64x256.Idx)
    obtain ⟨d, q, rfl⟩ := idx_of x
    show piece _ _ _ (ix3 0 d q) = _
    refine piece_out a b x3 x4 x5 x6 Q K1 K2 3 0 d q _ _ _ (head0_at x3 x4 ha hb hQ h1 h2 3 d q (View.ld x0 r0_7) (fun e => ?_) _ (fun x => ?_)) ?_ ?_ _ ?_
    · pointwise []
    · unfold qry0 qOf
      rw [cut3_at, hw, slope_3]
    · pointwise []
    · pointwise []
    · exact emb_at 192 0 (by decide) d q _ _ rfl rfl
  · intro (x : S1x64x256.Idx)
    obtain ⟨d, q, rfl⟩ := idx_of x
    show piece _ _ _ (ix3 0 d q) = _
    refine piece_out a b x3 x4 x5 x6 Q K1 K2 2 0 d q _ _ _ (head0_at x3 x4 ha hb hQ h1 h2 2 d q (View.ld x0 r0_6) (fun e => ?_) _ (fun x => ?_)) ?_ ?_ _ ?_
    · pointwise []
    · unfold qry0 qOf
      rw [cut2_at, hw, slope_2]
    · pointwise []
    · pointwise []
    · exact emb_at 128 0 (by decide) d q _ _ rfl rfl
  · intro (x : S1x64x256.Idx)
    obtain ⟨d, q, rfl⟩ := idx_of x
    show piece _ _ _ (ix3 0 d q) = _
    refine piece_out a b x3 x4 x5 x6 Q K1 K2 1 0 d q _ _ _ (head0_at x3 x4 ha hb hQ h1 h2 1 d q (View.ld x0 r0_5) (fun e => ?_) _ (fun x => ?_)) ?_ ?_ _ ?_
    · pointwise []
    · unfold qry0 qOf
      rw [cut1_at, hw, slope_1]
    · pointwise []
    · pointwise []
    · exact emb_at 64 0 (by decide) d q _ _ rfl rfl
  · intro (x : S1x64x256.Idx)
    obtain ⟨d, q, rfl⟩ := idx_of x
    show piece _ _ _ (ix3 0 d q) = _
    refine piece_out a b x3 x4 x5 x6 Q K1 K2 0 0 d q _ _ _ (head0_at x3 x4 ha hb hQ h1 h2 0 d q (View.ld x0 r0_4) (fun e => ?_) _ (fun x => ?_)) ?_ ?_ _ ?_
    · pointwise []
    · unfold qry0 qOf
      rw [cut0_at, hw, slope_0]
    · pointwise []
    · pointwise []
    · exact emb_at 0 0 (by decide) d q _ _ rfl rfl

end Block

end Cert.WinIdeal.Block
-- ==== Proof.WinRef.lean ====
/-
  The sliding-window attention of the layer on the extended reals: the plain reference's result, read at an index.
-/
module

public import proofs.«01_k».proof.Proof.WinRow
public import proofs.«01_k».proof.Proof.Gen.WinRefIdeal.Run
public import Idealize.ShloMosaic.Lib.Pipeline.ValueKit
public import Idealize.ShloMosaic.Lib.Pointwise
public import Idealize.ShloMosaic.Lib.IdealHost
public import Idealize.ShloMosaic.Lib.Tactic.CleanTypes

@[expose] public section

set_option maxRecDepth 16384

noncomputable section

open Idealize.ShloMosaic Idealize.ShloMosaic.TcCoe

namespace Cert.WinRefIdeal.Row

open Cert.WinRefIdeal Cert.WinRefIdeal.Gen Cert.WinRow

/-- The distance from key to query, for every pair of positions. -/
def rDist : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- Which pairs lie in the window. -/
def rOk : IVec S8192x8192 1 :=
  andi (cmpi .sge rDist (broadcastInDim S8192x8192 ![] bcast_S_S8192x8192 (constantI S_ 32 0#32)))
    (cmpi .slt rDist (broadcastInDim S8192x8192 ![] bcast_S_S8192x8192 (constantI S_ 32 512#32)))

/-- The query-key products. -/
def rDots (q : FVec Ideal S8x8192x512 .f32) (k : FVec Ideal S8x8192x128 .f32) : FVec Ideal S8x2x4x8192x8192 .f32 :=
  transpose S8x2x4x8192x8192 [0, 1, 4, 3, 2] (Host.dotGeneral (φ₁ := .f32) (φ₂ := .f32) dot_S8x8192x2x64_S8x8192x2x4x64_S8x2x8192x8192x4_3_4_1_13_02_02 none
    (shapeCast _ k shapeCasts_S8x8192x128_S8x8192x2x64)
    (shapeCast _ (mulf q (broadcastInDim S8x8192x512 ![] bcast_S_S8x8192x512 (constant S_ .f32 0x3E000000#32))) shapeCasts_S8x8192x512_S8x8192x2x4x64))
    transposes_S8x2x8192x8192x4_S8x2x4x8192x8192_0_1_4_3_2

/-- The distance penalties of the eight heads. -/
def rBias : FVec Ideal S2x4x8192x8192 .f32 :=
  mulf (broadcastInDim S2x4x8192x8192 ![0, 1, 2, 3] bcast_S2x4x1x1_S2x4x8192x8192_0_1_2_3 (broadcastInDim S2x4x1x1 ![0, 1] bcast_S2x4_S2x4x1x1_0_1
      ((fun i => FloatOps.ofBits .f32 (lit0 (S2x4.rowMajor i))))))
    (broadcastInDim S2x4x8192x8192 ![0, 1, 2, 3] bcast_S1x1x8192x8192_S2x4x8192x8192_0_1_2_3
      (broadcastInDim S1x1x8192x8192 ![2, 3] bcast_S8192x8192_S1x1x8192x8192_2_3 (sitofp .f32 rDist)))

/-- The masked scores. -/
def rScore (q : FVec Ideal S8x8192x512 .f32) (k : FVec Ideal S8x8192x128 .f32) : FVec Ideal S8x2x4x8192x8192 .f32 :=
  select (broadcastInDim S8x2x4x8192x8192 ![3, 4] bcast_S8192x8192_S8x2x4x8192x8192_3_4 rOk)
    (subf (rDots q k) (broadcastInDim S8x2x4x8192x8192 ![0, 1, 2, 3, 4] bcast_S1x2x4x8192x8192_S8x2x4x8192x8192_0_1_2_3_4
      (broadcastInDim S1x2x4x8192x8192 ![1, 2, 3, 4] bcast_S2x4x8192x8192_S1x2x4x8192x8192_1_2_3_4 rBias)))
    (broadcastInDim S8x2x4x8192x8192 ![] bcast_S_S8x2x4x8192x8192 (id (constant S_ .f32 0xFF800000#32)))

/-- The greatest score of each row. -/
def rMax (s : FVec Ideal S8x2x4x8192x8192 .f32) : FVec Ideal S8x2x4x8192 .f32 :=
  Host.reduce FloatOps.maximumf s (constant S_ .f32 0xFF800000#32) reducesTo_S8x2x4x8192x8192_S8x2x4x8192_d4 h_S_

/-- The exponentials of the scores less their row's greatest. -/
def rExp (s : FVec Ideal S8x2x4x8192x8192 .f32) (mx : FVec Ideal S8x2x4x8192 .f32) : FVec Ideal S8x2x4x8192x8192 .f32 :=
  Host.exp (subf s (broadcastInDim S8x2x4x8192x8192 ![0, 1, 2, 3, 4] bcast_S8x2x4x8192x1_S8x2x4x8192x8192_0_1_2_3_4
    (broadcastInDim S8x2x4x8192x1 ![0, 1, 2, 3] bcast_S8x2x4x8192_S8x2x4x8192x1_0_1_2_3
      (maximumf (broadcastInDim S8x2x4x8192 ![] bcast_S_S8x2x4x8192 (constant S_ .f32 0xFF800000#32))
        mx))))

/-- The attention weights. -/
def rProb (e : FVec Ideal S8x2x4x8192x8192 .f32) : FVec Ideal S8x2x4x8192x8192 .f32 :=
  Host.divf e (broadcastInDim S8x2x4x8192x8192 ![0, 1, 2, 3, 4] bcast_S8x2x4x8192x1_S8x2x4x8192x8192_0_1_2_3_4
    (broadcastInDim S8x2x4x8192x1 ![0, 1, 2, 3] bcast_S8x2x4x8192_S8x2x4x8192x1_0_1_2_3
      (Host.reduceAdd e (constant S_ .f32 0x00000000#32) reducesTo_S8x2x4x8192x8192_S8x2x4x8192_d4 h_S_)))

/-- The weighted values. -/
def rMix (v : FVec Ideal S8x8192x128 .f32) (p : FVec Ideal S8x2x4x8192x8192 .f32) : FVec Ideal S8x8192x2x4x64 .f32 :=
  transpose S8x8192x2x4x64 [0, 4, 1, 3, 2] (Host.dotGeneral (φ₁ := .f32) (φ₂ := .f32) dot_S8x8192x2x64_S8x2x4x8192x8192_S8x2x64x4x8192_1_4_3_23_02_01 none
    (shapeCast _ v shapeCasts_S8x8192x128_S8x8192x2x64) p) transposes_S8x2x64x4x8192_S8x8192x2x4x64_0_4_1_3_2

/-- The window branch's gates. -/
def rGate (g : FVec Ideal S8x8192x24 .f32) : FVec Ideal S8x8192x2x4x1 .f32 :=
  extractStridedSlice S8x8192x2x4x1 ![0, 0, 0, 0, 2] (Host.divf (broadcastInDim S8x8192x2x4x3 ![] bcast_S_S8x8192x2x4x3 (constant S_ .f32 0x3F800000#32))
    (addf (broadcastInDim S8x8192x2x4x3 ![] bcast_S_S8x8192x2x4x3 (constant S_ .f32 0x3F800000#32))
      (Host.exp (Host.negf (shapeCast _ g shapeCasts_S8x8192x24_S8x8192x2x4x3))))) slices_S8x8192x2x4x3_S8x8192x2x4x1_0_0_0_0_2

/-- The gated branch added to the other branches. -/
def rSum (g : FVec Ideal S8x8192x24 .f32) (o : FVec Ideal S8x8192x2x4x64 .f32) (other : FVec Ideal S8x8192x512 .f32) : FVec Ideal S8x512x8192 .f32 :=
  transpose S8x512x8192 [0, 2, 1] (addf other (shapeCast _ (mulf (broadcastInDim S8x8192x2x4x64 ![0, 1, 2, 3, 4] bcast_S8x8192x2x4x1_S8x8192x2x4x64_0_1_2_3_4 (rGate g)) o)
    shapeCasts_S8x8192x2x4x64_S8x8192x512)) transposes_S8x8192x512_S8x512x8192_0_2_1

/-- The whole reference, stage by stage. -/
def rOut (q : FVec Ideal S8x8192x512 .f32) (k v : FVec Ideal S8x8192x128 .f32) (g : FVec Ideal S8x8192x24 .f32)
    (other : FVec Ideal S8x8192x512 .f32) : FVec Ideal S8x512x8192 .f32 :=
  rSum g (rMix v (rProb (rExp (rScore q k) (rMax (rScore q k))))) other

/-- The reference's result is its stages composed. -/
theorem res_eq (m : (ℓ : Loc nD τ sig) → Buf (Elt Ideal) ℓ) (c : Dev nD) :
    Value.res_main_v53 m c = rOut (m ((c.tc : Thread nD τ).loc main_arg0)) (m ((c.tc : Thread nD τ).loc main_arg2))
      (m ((c.tc : Thread nD τ).loc main_arg4)) (m ((c.tc : Thread nD τ).loc main_arg5)) (m ((c.tc : Thread nD τ).loc main_arg6)) := rfl

/-- A maximum along the last of five axes, at an index. -/
theorem max_last {n0 n1 n2 n3 n4 : Nat} {t u : Shape} (h : (⟨5, ![n0, n1, n2, n3, n4]⟩ : Shape).ReducesTo [4] t) (hu : 0 < u.numel)
    (s : (⟨5, ![n0, n1, n2, n3, n4]⟩ : Shape).Idx → EReal) (init : u.Idx → EReal) (j : t.Idx) :
    Host.reduce (FloatOps.maximumf (F := Ideal) (φ := .f32)) s init h hu j = Finset.fold max (init (Shape.Idx.first hu)) (fun k : Fin n4 =>
      s (ix5 ⟨(j ⟨0, h.lt_r5_a4_0⟩).val, Shape.coordLt (j ⟨0, h.lt_r5_a4_0⟩) h.size_r5_a4_0⟩ ⟨(j ⟨1, h.lt_r5_a4_1⟩).val, Shape.coordLt (j ⟨1, h.lt_r5_a4_1⟩) h.size_r5_a4_1⟩
        ⟨(j ⟨2, h.lt_r5_a4_2⟩).val, Shape.coordLt (j ⟨2, h.lt_r5_a4_2⟩) h.size_r5_a4_2⟩ ⟨(j ⟨3, h.lt_r5_a4_3⟩).val, Shape.coordLt (j ⟨3, h.lt_r5_a4_3⟩) h.size_r5_a4_3⟩ k)) Finset.univ :=
  (Host.reduce_eq_fold (max : EReal → EReal → EReal) s init h hu j).trans (h.fold_fiber_r5_a4 j max _ s)

/-- The greatest score of a row. -/
theorem rMax_at (s : FVec Ideal S8x2x4x8192x8192 .f32) (b : Fin 8) (h : Fin 2) (g : Fin 4) (t : Fin 8192) :
    rMax s (ix4 b h g t) = Finset.fold max (Ideal.ofBits .f32 0xFF800000#32) (fun x => s (ix5 b h g t x)) Finset.univ := by
  unfold rMax
  rw [max_last]
  congr 1

/-- An exponential, at an index. -/
theorem rExp_at (e : FVec Ideal S8x2x4x8192x8192 .f32) (mx : FVec Ideal S8x2x4x8192 .f32) (b : Fin 8) (h : Fin 2) (g : Fin 4) (t s : Fin 8192) :
    rExp e mx (ix5 b h g t s) = Ideal.exp (e (ix5 b h g t s) - max (Ideal.ofBits .f32 0xFF800000#32) (mx (ix4 b h g t))) := by
  pointwise [rExp]

/-- A weight, at an index. -/
theorem rProb_at (e : FVec Ideal S8x2x4x8192x8192 .f32) (b : Fin 8) (h : Fin 2) (g : Fin 4) (t s : Fin 8192) :
    rProb e (ix5 b h g t s) = Ideal.div (e (ix5 b h g t s)) (∑ s, e (ix5 b h g t s)) := by
  pointwise [rProb]

/-- A distance word, at an index. -/
theorem rDist_at (t s : Fin 8192) : rDist (ix2 t s) = BitVec.ofNat 32 t.val - BitVec.ofNat 32 s.val := by
  pointwise [rDist]
  rfl

/-- A distance word read as an integer. -/
theorem dist_toInt (t s : Fin 8192) : (BitVec.ofNat 32 t.val - BitVec.ofNat 32 s.val).toInt = (t.val : ℤ) - s.val := by
  have ht := t.isLt
  have hs := s.isLt
  rw [BitVec.toInt_sub, BitVec.toInt_eq_toNat_bmod, BitVec.toInt_eq_toNat_bmod, BitVec.toNat_ofNat, BitVec.toNat_ofNat, Int.bmod_def, Int.bmod_def, Int.bmod_def]
  omega

/-- The mask, at an index: the window's two conditions. -/
theorem rOk_at (t s : Fin 8192) : rOk (ix2 t s) = BitVec.ofBool (decide (inWin t.val s.val)) := by
  pointwise [rOk, rDist_at]
  simp only [IntOp.cmpi, IntOp.andi, BitVec.sle, BitVec.slt, dist_toInt]
  have hs := s.isLt
  have e : decide (inWin t.val s.val) = (decide ((0#32 : BitVec 32).toInt ≤ (t.val : ℤ) - s.val) && decide ((t.val : ℤ) - s.val < (512#32 : BitVec 32).toInt)) := by
    rw [← Bool.decide_and, decide_eq_decide]
    show _ ↔ (0 : ℤ) ≤ _ ∧ _ < (512 : ℤ)
    unfold inWin; omega
  rw [e]
  generalize decide ((0#32 : BitVec 32).toInt ≤ (t.val : ℤ) - s.val) = x
  generalize decide ((t.val : ℤ) - s.val < (512#32 : BitVec 32).toInt) = y
  cases x <;> cases y <;> rfl

/-- The eighth. -/
theorem ofBits_eighth : Ideal.ofBits .f32 0x3E000000#32 = ((1 / 8 : ℝ) : EReal) := by
  simp [Ideal.ofBits, Ideal.ieee, -EReal.coe_mul]; norm_num

/-- A query-key product, at an index. -/
theorem rDots_at (q : FVec Ideal S8x8192x512 .f32) (k : FVec Ideal S8x8192x128 .f32) (b : Fin 8) (h : Fin 2) (g : Fin 4) (t s : Fin 8192) :
    rDots q k (ix5 b h g t s) = ∑ x : Fin 64, k (ix3 b s ⟨h.val * 64 + x.val, by omega⟩)
      * (q (ix3 b t ⟨h.val * 256 + g.val * 64 + x.val, by omega⟩) * ((1 / 8 : ℝ) : EReal)) := by
  rw [← ofBits_eighth]
  pointwise [rDots]

/-- A slope, from the table. -/
theorem slope_at (h : Fin 2) (g : Fin 4) : Ideal.ofBits .f32 (lit0 (S2x4.rowMajor (ix2 h g))) = ((pen h g : ℝ) : EReal) := by
  have e : lit0 (S2x4.rowMajor (ix2 h g)) = BitVec.ofNat 32 ((126 - (4 * h.val + g.val)) * 8388608) := by
    revert h g; decide +kernel
  rw [e]
  fin_cases h <;> fin_cases g <;> (simp [Ideal.ofBits, Ideal.ieee, pen, -EReal.coe_mul]; try norm_num)

/-- A penalty, at an index. -/
theorem rBias_at (h : Fin 2) (g : Fin 4) (t s : Fin 8192) :
    rBias (ix4 h g t s) = ((pen h g * ((t.val : ℝ) - s.val) : ℝ) : EReal) := by
  have e : rBias (ix4 h g t s) = Ideal.ofBits .f32 (lit0 (S2x4.rowMajor (ix2 h g)))
      * (((BitVec.ofNat 32 t.val - BitVec.ofNat 32 s.val).toInt : ℝ) : EReal) := by
    pointwise [rBias, rDist_at]
    try rfl
  rw [e, slope_at, dist_toInt, ← EReal.coe_mul]
  push_cast
  rfl

/-- The constant `⊥`. -/
theorem ofBits_bot : Ideal.ofBits .f32 0xFF800000#32 = ⊥ := by
  simp [Ideal.ofBits, Ideal.ieee]

/-- A masked score, at an index, for real queries and keys. -/
theorem rScore_at (q : S8x8192x512.Idx → ℝ) (k : S8x8192x128.Idx → ℝ) (b : Fin 8) (h : Fin 2) (g : Fin 4) (t s : Fin 8192) :
    rScore (fun i => (q i : EReal)) (fun i => (k i : EReal)) (ix5 b h g t s) = masked (inWin t.val s.val)
      (score (fun x => q (ix3 b t ⟨h.val * 256 + g.val * 64 + x.val, by omega⟩)) (fun x => k (ix3 b s ⟨h.val * 64 + x.val, by omega⟩))
        (pen h g) t.val s.val) := by
  have e : rScore (fun i => (q i : EReal)) (fun i => (k i : EReal)) (ix5 b h g t s)
      = Scalar.select (rOk (ix2 t s)) (rDots (fun i => (q i : EReal)) (fun i => (k i : EReal)) (ix5 b h g t s) - rBias (ix4 h g t s))
        (Ideal.ofBits .f32 0xFF800000#32) := by
    pointwise [rScore]
    try rfl
  rw [e, rOk_at, ofBits_bot, rDots_at, rBias_at]
  simp only [← EReal.coe_mul, coe_sum, ← EReal.coe_sub]
  by_cases hw : inWin t.val s.val
  · simp [masked, hw, Scalar.select, score]
  · simp [masked, hw, Scalar.select]

/-- A weighted value, at an index. -/
theorem rMix_at (v : FVec Ideal S8x8192x128 .f32) (p : FVec Ideal S8x2x4x8192x8192 .f32) (b : Fin 8) (t : Fin 8192) (h : Fin 2) (g : Fin 4) (d : Fin 64) :
    rMix v p (ix5 b t h g d) = ∑ s : Fin 8192, v (ix3 b s ⟨h.val * 64 + d.val, by omega⟩) * p (ix5 b h g t s) := by
  pointwise [rMix]

/-- A result element, from the weighted values. -/
theorem rSum_at (g : FVec Ideal S8x8192x24 .f32) (o : FVec Ideal S8x8192x2x4x64 .f32) (other : FVec Ideal S8x8192x512 .f32) (b : Fin 8) (j : Fin 512) (t : Fin 8192) :
    rSum g o other (ix3 b j t) = other (ix3 b t j) + Ideal.div 1 (1 + Ideal.exp (-g (ix3 b t ⟨j.val / 256 * 12 + j.val / 64 % 4 * 3 + 2, by omega⟩)))
      * o (ix5 b t ⟨j.val / 256, by omega⟩ ⟨j.val / 64 % 4, by omega⟩ ⟨j.val % 64, by omega⟩) := by
  pointwise [rSum, rGate]

/-- The window average of one query head at one value column. -/
def headAvg (q : S8x8192x512.Idx → ℝ) (k : S8x8192x128.Idx → ℝ) (v : FVec Ideal S8x8192x128 .f32) (b : Fin 8) (t : Fin 8192)
    (h : Fin 2) (g : Fin 4) (d : Fin 64) : EReal :=
  avg (fun s : Fin 8192 => inWin t.val s.val)
    (fun s => score (fun x => q (ix3 b t ⟨h.val * 256 + g.val * 64 + x.val, by omega⟩)) (fun x => k (ix3 b s ⟨h.val * 64 + x.val, by omega⟩)) (pen h g) t.val s.val)
    (fun s => v (ix3 b s ⟨h.val * 64 + d.val, by omega⟩))

/-- The weighted values are the window average. -/
theorem mix_eq (q : S8x8192x512.Idx → ℝ) (k : S8x8192x128.Idx → ℝ) (v : FVec Ideal S8x8192x128 .f32) (b : Fin 8) (t : Fin 8192)
    (h : Fin 2) (g : Fin 4) (d : Fin 64) :
    rMix v (rProb (rExp (rScore (fun i => (q i : EReal)) (fun i => (k i : EReal))) (rMax (rScore (fun i => (q i : EReal)) (fun i => (k i : EReal)))))) (ix5 b t h g d)
      = headAvg q k v b t h g d := by
  have hp : inWin t.val t.val := ⟨by omega, by omega, by omega⟩
  rw [rMix_at]
  simp only [rProb_at, rExp_at, rMax_at, rScore_at, ofBits_bot, max_eq_right bot_le]
  generalize hM : Finset.fold max (⊥ : EReal) _ (Finset.univ : Finset (Fin 8192)) = M
  have ht : M ≠ ⊤ := by rw [← hM]; exact fold_ne_top (ι := Fin 8192) _ _
  have hb : M ≠ ⊥ := by rw [← hM]; exact fold_ne_bot (ι := Fin 8192) (i₀ := t) _ _ hp
  lift M to ℝ using ⟨ht, hb⟩
  exact avg_of_probs (ι := Fin 8192) (i₀ := t) _ _ _ hp M

/-- A result element of the reference, for real queries and keys. -/
theorem rOut_at (q : S8x8192x512.Idx → ℝ) (k : S8x8192x128.Idx → ℝ) (v : FVec Ideal S8x8192x128 .f32) (g : FVec Ideal S8x8192x24 .f32)
    (other : FVec Ideal S8x8192x512 .f32) (b : Fin 8) (j : Fin 512) (t : Fin 8192) :
    rOut (fun i => (q i : EReal)) (fun i => (k i : EReal)) v g other (ix3 b j t)
      = other (ix3 b t j) + Ideal.div 1 (1 + Ideal.exp (-g (ix3 b t ⟨j.val / 256 * 12 + j.val / 64 % 4 * 3 + 2, by omega⟩)))
        * headAvg q k v b t ⟨j.val / 256, by omega⟩ ⟨j.val / 64 % 4, by omega⟩ ⟨j.val % 64, by omega⟩ := by
  unfold rOut
  rw [rSum_at, mix_eq]

end Cert.WinRefIdeal.Row
-- ==== Proof.WinValue.lean ====
/-
  The window kernel's whole result array is the plain reference's: a grid point writes the rows of one key head's query
  heads for 512 tokens of one sequence, and together the 256 points write every row.
-/
module

public import proofs.«01_k».proof.Proof.WinPiece
public import proofs.«01_k».proof.Proof.WinRef

@[expose] public section

set_option maxRecDepth 16384

noncomputable section

open Idealize.ShloMosaic Idealize.ShloMosaic.TcCoe Idealize.SL.Sem

namespace Cert.WinRow

/-- Only the keys that count matter to an average. -/
theorem avg_congr {ι : Type} [Fintype ι] (P P' : ι → Prop) [DecidablePred P] [DecidablePred P'] (a a' : ι → ℝ) (v v' : ι → EReal)
    (hP : ∀ i, P i ↔ P' i) (ha : ∀ i, P i → a i = a' i) (hv : ∀ i, P i → v i = v' i) : avg P a v = avg P' a' v' := by
  have hw : ∀ i, wt P a i = wt P' a' i := fun i => by
    unfold wt
    by_cases h : P i
    · rw [if_pos h, if_pos ((hP i).1 h), ha i h]
    · rw [if_neg h, if_neg fun h' => h ((hP i).2 h')]
  unfold avg
  simp only [hw]
  refine Finset.sum_congr rfl fun i _ => ?_
  by_cases h : P i
  · rw [hv i h]
  · rw [show wt P' a' i = 0 from if_neg fun h' => h ((hP i).2 h'), zero_div]
    simp

end Cert.WinRow

namespace Cert.WinIdeal.Whole

open Cert.WinIdeal Cert.WinIdeal.Gen Cert.WinRow Cert.WinRefIdeal.Row

variable (m : (ℓ : Loc nD τ sig) → Buf (Elt Ideal) ℓ)

/-- The reference's function of the kernel's arguments. -/
def goal (c : Dev nD) : FVec Ideal S8x512x8192 .f32 :=
  rOut (m ((c.tc : Thread nD τ).loc main_arg0)) (m ((c.tc : Thread nD τ).loc main_arg2))
      (m ((c.tc : Thread nD τ).loc main_arg4)) (m ((c.tc : Thread nD τ).loc main_arg5)) (m ((c.tc : Thread nD τ).loc main_arg6))

/-- Where each window's block stands at a grid point. -/
theorem index_maps : ∀ t : Fin grid0.N,
    win0_0.index t = ![(grid0.coords t 0).val, (grid0.coords t 1).val, (grid0.coords t 2).val]
    ∧ win0_1.index t = ![(grid0.coords t 0).val, (grid0.coords t 2).val - 1, 2]
    ∧ win0_2.index t = ![(grid0.coords t 0).val, (grid0.coords t 2).val, 2]
    ∧ win0_3.index t = ![(grid0.coords t 0).val, 1, (grid0.coords t 2).val - 1]
    ∧ win0_4.index t = ![(grid0.coords t 0).val, 1, (grid0.coords t 2).val]
    ∧ win0_5.index t = ![(grid0.coords t 0).val, (grid0.coords t 1).val, 0, (grid0.coords t 2).val]
    ∧ win0_6.index t = ![(grid0.coords t 0).val, (grid0.coords t 1).val, (grid0.coords t 2).val]
    ∧ win0_7.index t = ![(grid0.coords t 0).val, (grid0.coords t 1).val, (grid0.coords t 2).val] := by
  decide +kernel

/-- The sequence a grid point works on. -/
def seqOf (t : Fin grid0.N) : Fin 8 := ⟨(grid0.coords t 0).val, (grid0.coords t 0).isLt⟩
/-- The key head a grid point works on. -/
def kvOf (t : Fin grid0.N) : Fin 2 := ⟨(grid0.coords t 1).val, (grid0.coords t 1).isLt⟩
/-- The block of queries a grid point works on. -/
def blkOf (t : Fin grid0.N) : Fin 16 := ⟨(grid0.coords t 2).val, (grid0.coords t 2).isLt⟩

/-- Row `r` of block `b`, as a token of its sequence. -/
def tok (b : Fin 16) (r : Fin 512) : Fin 8192 := ⟨b.val * 512 + r.val, by omega⟩
/-- Row `r` of the block before block `b` (of block 0 itself at the start), as a token of its sequence. -/
def tokPrev (b : Fin 16) (r : Fin 512) : Fin 8192 := ⟨(b.val - 1) * 512 + r.val, by omega⟩
/-- Column `j` of key head `a`'s queries. -/
def colOf (a : Fin 2) (j : Fin 256) : Fin 512 := ⟨a.val * 256 + j.val, by omega⟩

/-- Where an element of the result's block lies in the result. -/
theorem emb7 (t : Fin grid0.N) (j : Fin 256) (r : Fin 512) :
    ((View.whole main_v14).slice (win0_7.rect t)).emb (ix3 0 j r) = ix3 (seqOf t) (colOf (kvOf t) j) (tok (blkOf t) r) := by
  blk_ext [index_maps t, seqOf, colOf, kvOf, tok, blkOf]

/-- The block of queries. -/
theorem blk0 (c : Dev nD) (t : Fin grid0.N) (j : Fin 256) (r : Fin 512) :
    iblk m c 0 t (ix3 0 j r) = m ((c.tc : Thread nD τ).loc main_arg0) (ix3 (seqOf t) (tok (blkOf t) r) (colOf (kvOf t) j)) := by
  blk_simp [iblk]
  simp only [V, hostOps0, hostOps0_1, hostOps0_2, List.flatten_cons, List.flatten_nil, List.append_nil, List.cons_append, List.nil_append]
  entry_read; pointwise
  blk_ext [index_maps t, seqOf, colOf, kvOf, tok, blkOf]

/-- The last piece of the key array. -/
theorem cat_last (u0 u1 u2 u3 : FVec Ideal S8x8192x64 .f32) (u4 : FVec Ideal S8x8192x128 .f32) (B : Fin 8) (s : Fin 8192) (l : Fin 128) (j : Fin 384)
    (hj : j.val = 256 + l.val) :
    concatenate S8x8192x384 2 [⟨S8x8192x64, u0⟩, ⟨S8x8192x64, u1⟩, ⟨S8x8192x64, u2⟩, ⟨S8x8192x64, u3⟩, ⟨S8x8192x128, u4⟩]
      concatenates_S8x8192x64_S8x8192x64_S8x8192x64_S8x8192x64_S8x8192x128_S8x8192x384_d2 (ix3 B s j) = u4 (ix3 B s l) := by
  pointwise
  simp only [hj]
  rw [dif_neg (by omega), dif_neg (by omega), dif_neg (by omega), dif_neg (by omega)]
  exact congrArg (fun x => u4 (ix3 B s x)) (Fin.ext (by show 256 + l.val - 64 - 64 - 64 - 64 = l.val; omega))

/-- The array of keys ends with the window's keys. -/
theorem keys_eq (c : Dev nD) : ∃ u0 u1 u2 u3 : FVec Ideal S8x8192x64 .f32, V m c main_v5 = truncf .bf16 (concatenate S8x8192x384 2
      [⟨S8x8192x64, u0⟩, ⟨S8x8192x64, u1⟩, ⟨S8x8192x64, u2⟩, ⟨S8x8192x64, u3⟩, ⟨S8x8192x128, m ((c.tc : Thread nD τ).loc main_arg2)⟩]
      concatenates_S8x8192x64_S8x8192x64_S8x8192x64_S8x8192x64_S8x8192x128_S8x8192x384_d2) bitsLt_bf16_f32 :=
  ⟨_, _, _, _, rfl⟩

/-- The window's keys, read off the array of keys. -/
theorem keys_at (c : Dev nD) (B : Fin 8) (s : Fin 8192) (l : Fin 128) :
    V m c main_v5 (ix3 B s (⟨256 + l.val, by omega⟩ : Fin 384)) = m ((c.tc : Thread nD τ).loc main_arg2) (ix3 B s l) := by
  obtain ⟨u0, u1, u2, u3, h⟩ := keys_eq m c
  rw [h]
  exact cat_last u0 u1 u2 u3 _ B s l _ rfl

/-- Where the block before lies in the keys. -/
theorem emb1 (t : Fin grid0.N) (r : Fin 512) (l : Fin 128) :
    ((View.whole main_v5).slice (win0_1.rect t)).emb (ix3 0 r l) = ix3 (seqOf t) (tokPrev (blkOf t) r) (⟨256 + l.val, by omega⟩ : Fin 384) := by
  blk_ext [index_maps t, seqOf, tokPrev, blkOf]

/-- Where the block lies in the keys. -/
theorem emb2 (t : Fin grid0.N) (r : Fin 512) (l : Fin 128) :
    ((View.whole main_v5).slice (win0_2.rect t)).emb (ix3 0 r l) = ix3 (seqOf t) (tok (blkOf t) r) (⟨256 + l.val, by omega⟩ : Fin 384) := by
  blk_ext [index_maps t, seqOf, tok, blkOf]

/-- Where the block before lies in the values. -/
theorem emb3 (t : Fin grid0.N) (e : Fin 128) (r : Fin 512) :
    ((View.whole main_v8).slice (win0_3.rect t)).emb (ix3 0 e r) = ix3 (seqOf t) (⟨128 + e.val, by omega⟩ : Fin 256) (tokPrev (blkOf t) r) := by
  blk_ext [index_maps t, seqOf, tokPrev, blkOf]

/-- Where the block lies in the values. -/
theorem emb4 (t : Fin grid0.N) (e : Fin 128) (r : Fin 512) :
    ((View.whole main_v8).slice (win0_4.rect t)).emb (ix3 0 e r) = ix3 (seqOf t) (⟨128 + e.val, by omega⟩ : Fin 256) (tok (blkOf t) r) := by
  blk_ext [index_maps t, seqOf, tok, blkOf]

/-- Where the block lies in the gates. -/
theorem emb5 (t : Fin grid0.N) (g : Fin 4) (r : Fin 512) :
    ((View.whole main_v12).slice (win0_5.rect t)).emb (ix4 0 0 ⟨8 + g.val, by omega⟩ r)
      = ix4 (seqOf t) (kvOf t) (⟨8 + g.val, by omega⟩ : Fin 16) (tok (blkOf t) r) := by
  blk_ext [index_maps t, seqOf, tok, blkOf, kvOf]

/-- The window's values, read off the array of values. -/
theorem vals_at (c : Dev nD) (B : Fin 8) (s : Fin 8192) (e : Fin 128) :
    V m c main_v8 (ix3 B (⟨128 + e.val, by omega⟩ : Fin 256) s) = m ((c.tc : Thread nD τ).loc main_arg4) (ix3 B s e) := by
  simp only [V, hostOps0, hostOps0_1, hostOps0_2, List.flatten_cons, List.flatten_nil, List.append_nil, List.cons_append, List.nil_append]
  entry_read; pointwise

/-- The window's gates, read off the array of gates. -/
theorem gates_at (c : Dev nD) (B : Fin 8) (a : Fin 2) (g : Fin 4) (s : Fin 8192) :
    V m c main_v12 (ix4 B a (⟨8 + g.val, by omega⟩ : Fin 16) s)
      = m ((c.tc : Thread nD τ).loc main_arg5) (ix3 B s ⟨a.val * 12 + g.val * 3 + 2, by omega⟩) := by
  simp only [V, hostOps0, hostOps0_1, hostOps0_2, List.flatten_cons, List.flatten_nil, List.append_nil, List.cons_append, List.nil_append]
  entry_read
  simp only [StableHlo.TRef.toBuf, StableHlo.TRef.ofBuf, cast_eq]
  pointwise
  rw [dif_pos (by omega)]
  exact congrArg (fun x => m ((c.tc : Thread nD τ).loc main_arg5) (ix3 B s x))
    (Fin.ext (by show a.val * 12 + (8 + g.val) % 4 * 3 + (8 + g.val) / 4 = a.val * 12 + g.val * 3 + 2; omega))

/-- The keys of the block before. -/
theorem blk1 (c : Dev nD) (t : Fin grid0.N) (r : Fin 512) (l : Fin 128) :
    iblk m c 1 t (ix3 0 r l) = m ((c.tc : Thread nD τ).loc main_arg2) (ix3 (seqOf t) (tokPrev (blkOf t) r) l) := by
  blk_simp [iblk]
  rw [emb1]
  exact keys_at m c _ _ _

/-- The keys of the block. -/
theorem blk2 (c : Dev nD) (t : Fin grid0.N) (r : Fin 512) (l : Fin 128) :
    iblk m c 2 t (ix3 0 r l) = m ((c.tc : Thread nD τ).loc main_arg2) (ix3 (seqOf t) (tok (blkOf t) r) l) := by
  blk_simp [iblk]
  rw [emb2]
  exact keys_at m c _ _ _

/-- The values of the block before. -/
theorem blk3 (c : Dev nD) (t : Fin grid0.N) (e : Fin 128) (r : Fin 512) :
    iblk m c 3 t (ix3 0 e r) = m ((c.tc : Thread nD τ).loc main_arg4) (ix3 (seqOf t) (tokPrev (blkOf t) r) e) := by
  blk_simp [iblk]
  rw [emb3]
  exact vals_at m c _ _ _

/-- The values of the block. -/
theorem blk4 (c : Dev nD) (t : Fin grid0.N) (e : Fin 128) (r : Fin 512) :
    iblk m c 4 t (ix3 0 e r) = m ((c.tc : Thread nD τ).loc main_arg4) (ix3 (seqOf t) (tok (blkOf t) r) e) := by
  blk_simp [iblk]
  rw [emb4]
  exact vals_at m c _ _ _

/-- The window's gates. -/
theorem blk5 (c : Dev nD) (t : Fin grid0.N) (g : Fin 4) (r : Fin 512) :
    iblk m c 5 t (ix4 0 0 ⟨8 + g.val, by omega⟩ r)
      = m ((c.tc : Thread nD τ).loc main_arg5) (ix3 (seqOf t) (tok (blkOf t) r) ⟨(kvOf t).val * 12 + g.val * 3 + 2, by omega⟩) := by
  blk_simp [iblk]
  rw [emb5]
  exact gates_at m c _ _ _ _

/-- The block of the other branches' sum. -/
theorem blk6 (c : Dev nD) (t : Fin grid0.N) (j : Fin 256) (r : Fin 512) :
    iblk m c 6 t (ix3 0 j r) = m ((c.tc : Thread nD τ).loc main_arg6) (ix3 (seqOf t) (tok (blkOf t) r) (colOf (kvOf t) j)) := by
  blk_simp [iblk]
  simp only [V, hostOps0, hostOps0_1, hostOps0_2, List.flatten_cons, List.flatten_nil, List.append_nil, List.cons_append, List.nil_append]
  entry_read; pointwise
  blk_ext [index_maps t, seqOf, colOf, kvOf, tok, blkOf]

section Final

/-- A key of a block's 1024 keys, by its place in the sequence. -/
theorem key_at (b : Fin 16) (B : Fin 8) (k : S8x8192x128.Idx → ℝ) (n : Fin 1024) (z : Fin 8192) (hz : (z.val : ℤ) = 512 * ((b.val : ℤ) - 1) + n.val) (l : Fin 128) :
    Block.kRow (fun r l => k (ix3 B (tokPrev b r) l)) (fun r l => k (ix3 B (tok b r) l)) n l = k (ix3 B z l) := by
  unfold Block.kRow
  split
  · rename_i h
    exact congrArg (fun x => k (ix3 B x l)) (Fin.ext (by show (b.val - 1) * 512 + n.val = z.val; omega))
  · rename_i h
    exact congrArg (fun x => k (ix3 B x l)) (Fin.ext (by show b.val * 512 + (n.val - 512) = z.val; omega))

/-- A value of a block's 1024 keys, by its place in the sequence. -/
theorem val_at (c : Dev nD) (t : Fin grid0.N) (e : Fin 128) (n : Fin 1024) (z : Fin 8192) (hz : (z.val : ℤ) = 512 * (((blkOf t).val : ℤ) - 1) + n.val) :
    Block.vCol (iblk m c 3 t) (iblk m c 4 t) e n = m ((c.tc : Thread nD τ).loc main_arg4) (ix3 (seqOf t) z e) := by
  unfold Block.vCol
  split
  · rename_i h
    rw [blk3]
    exact congrArg (fun x => m ((c.tc : Thread nD τ).loc main_arg4) (ix3 (seqOf t) x e)) (Fin.ext (by show ((blkOf t).val - 1) * 512 + n.val = z.val; omega))
  · rename_i h
    rw [blk4]
    exact congrArg (fun x => m ((c.tc : Thread nD τ).loc main_arg4) (ix3 (seqOf t) x e)) (Fin.ext (by show (blkOf t).val * 512 + (n.val - 512) = z.val; omega))

/-- A place of the sequence, from an integer (the first place for one outside). -/
def place (z : ℤ) : Fin 8192 := if h : z.toNat < 8192 then ⟨z.toNat, h⟩ else 0

theorem place_val (s : Fin 8192) : place (s.val : ℤ) = s := by
  unfold place
  rw [dif_pos (by rw [Int.toNat_natCast]; exact s.isLt)]
  exact Fin.ext (Int.toNat_natCast _)

theorem place_of (z : ℤ) (h0 : 0 ≤ z) (h1 : z < 8192) : ((place z).val : ℤ) = z := by
  unfold place
  rw [dif_pos (by omega)]
  exact Int.toNat_of_nonneg h0

/-- The window average over a block's tiles is the one over the whole sequence. -/
theorem blkAvg_eq (c : Dev nD) (t : Fin grid0.N) (g : Fin 4) (d : Fin 64) (h : Fin 2) (q : Fin 256) (q' : S8x8192x512.Idx → ℝ) (k' : S8x8192x128.Idx → ℝ)
    (T : Fin 8192) (hT : T.val = (blkOf t).val * 512 + 256 * h.val + q.val) :
    Block.blkAvg (kvOf t) (blkOf t) (iblk m c 3 t) (iblk m c 4 t) (fun j r => q' (ix3 (seqOf t) (tok (blkOf t) r) (colOf (kvOf t) j)))
        (fun r l => k' (ix3 (seqOf t) (tokPrev (blkOf t) r) l)) (fun r l => k' (ix3 (seqOf t) (tok (blkOf t) r) l)) g d h q
      = headAvg q' k' (m ((c.tc : Thread nD τ).loc main_arg4)) (seqOf t) T (kvOf t) g d := by
  have hb := (blkOf t).isLt
  have eT : (256 * (2 * ((blkOf t).val : ℤ) + h.val) + q.val : ℤ) = T.val := by omega
  have key := avg_tiles (fun z => score (fun x => q' (ix3 (seqOf t) T ⟨(kvOf t).val * 256 + g.val * 64 + x.val, by omega⟩))
      (fun x => k' (ix3 (seqOf t) (place z) ⟨(kvOf t).val * 64 + x.val, by omega⟩)) (pen (kvOf t) g) T.val z)
    (fun z => m ((c.tc : Thread nD τ).loc main_arg4) (ix3 (seqOf t) (place z) ⟨(kvOf t).val * 64 + d.val, by omega⟩))
    (256 * (2 * ((blkOf t).val : ℤ) + h.val)) q (by omega) (by omega)
  unfold Block.blkAvg headAvg
  rw [eT] at key ⊢
  simp only [place_val] at key
  rw [key]
  refine avg_congr _ _ _ _ _ _ (fun _ => Iff.rfl) (fun x hx => ?_) (fun x hx => ?_)
  · obtain ⟨h0, h1, h2⟩ := hx
    have hp := place_of _ h0 (by omega)
    refine congrArg₂ (fun u v => score u v (pen (kvOf t) g) T.val _) (funext fun e => ?_) (funext fun e => ?_)
    · refine congrArg₂ (fun u v => q' (ix3 (seqOf t) u v)) (Fin.ext ?_) (Fin.ext ?_)
      · show (blkOf t).val * 512 + (256 * h.val + q.val) = T.val; omega
      · show (kvOf t).val * 256 + (64 * g.val + e.val) = (kvOf t).val * 256 + g.val * 64 + e.val; omega
    · refine (key_at (blkOf t) (seqOf t) k' _ (place _) ?_ _)
      rw [hp]
      show _ = 512 * (((blkOf t).val : ℤ) - 1) + ((256 * (h.val + x.1.val) + x.2.val : ℕ) : ℤ)
      push_cast; ring
  · obtain ⟨h0, h1, h2⟩ := hx
    have hp := place_of _ h0 (by omega)
    refine val_at m c t _ _ (place _) ?_
    rw [hp]
    show _ = 512 * (((blkOf t).val : ℤ) - 1) + ((256 * (h.val + x.1.val) + x.2.val : ℕ) : ℤ)
    push_cast; ring

/-- The result array after the run, for finite queries and keys. -/
theorem final (c : Dev nD) (q' : S8x8192x512.Idx → ℝ) (k' : S8x8192x128.Idx → ℝ)
    (hq : m ((c.tc : Thread nD τ).loc main_arg0) = fun i => ((q' i : ℝ) : EReal)) (hk : m ((c.tc : Thread nD τ).loc main_arg2) = fun i => ((k' i : ℝ) : EReal)) :
    (dats m 0 c).arrAt 7 cfg0.N = goal m c := by
  refine (dats m 0 c).arrAt_eq_of_covers 7 _ (by decide +kernel) fun t hf y => ?_
  blk_simp
  rw [after0_7]
  idx_vars y
  obtain rfl : y0 = 0 := Subsingleton.elim _ _
  rw [emb7 t y1 y2]
  refine (Block.out_at (i := grid0.coords t) (a := kvOf t) (b := blkOf t) (x0 := iblk m c 0 t) (x1 := iblk m c 1 t) (x2 := iblk m c 2 t) (iblk m c 3 t) (iblk m c 4 t) (iblk m c 5 t) (iblk m c 6 t)
    (Q := fun j r => q' (ix3 (seqOf t) (tok (blkOf t) r) (colOf (kvOf t) j)))
    (K1 := fun r l => k' (ix3 (seqOf t) (tokPrev (blkOf t) r) l)) (K2 := fun r l => k' (ix3 (seqOf t) (tok (blkOf t) r) l)) rfl rfl
    (fun j r => by rw [blk0, hq]) (fun r l => by rw [blk1, hk]) (fun r l => by rw [blk2, hk]) (ix3 0 y1 y2)).trans ?_
  unfold goal
  rw [hq, hk]
  refine Eq.trans ?_ (rOut_at q' k' _ _ _ (seqOf t) (colOf (kvOf t) y1) (tok (blkOf t) y2)).symm
  unfold Block.blkOut
  have ha := (kvOf t).isLt
  have hj : (colOf (kvOf t) y1).val = (kvOf t).val * 256 + y1.val := rfl
  have e1 : (⟨(colOf (kvOf t) y1).val / 256, by omega⟩ : Fin 2) = kvOf t := Fin.ext (by show (colOf (kvOf t) y1).val / 256 = (kvOf t).val; omega)
  have e2 : (⟨(colOf (kvOf t) y1).val / 64 % 4, by omega⟩ : Fin 4) = ⟨y1.val / 64, by omega⟩ :=
    Fin.ext (by show (colOf (kvOf t) y1).val / 64 % 4 = y1.val / 64; omega)
  have e3 : (⟨(colOf (kvOf t) y1).val % 64, by omega⟩ : Fin 64) = ⟨y1.val % 64, by omega⟩ :=
    Fin.ext (by show (colOf (kvOf t) y1).val % 64 = y1.val % 64; omega)
  have e4 : (⟨(colOf (kvOf t) y1).val / 256 * 12 + (colOf (kvOf t) y1).val / 64 % 4 * 3 + 2, by omega⟩ : Fin 24)
      = ⟨(kvOf t).val * 12 + y1.val / 64 * 3 + 2, by omega⟩ :=
    Fin.ext (by show (colOf (kvOf t) y1).val / 256 * 12 + (colOf (kvOf t) y1).val / 64 % 4 * 3 + 2 = (kvOf t).val * 12 + y1.val / 64 * 3 + 2; omega)
  rw [e1, e2, e3, e4, blk6]
  refine congrArg₂ (· + ·) rfl ((mul_comm _ _).trans (congrArg₂ (· * ·) ?_ ?_))
  · rw [zero_sub]
    exact congrArg (fun x => Ideal.div 1 (1 + Ideal.exp (-x))) (blk5 m c t ⟨y1.val / 64, by omega⟩ y2)
  · exact blkAvg_eq m c t ⟨y1.val / 64, by omega⟩ ⟨y1.val % 64, by omega⟩ ⟨y2.val / 256, by omega⟩ ⟨y2.val % 256, by omega⟩ q' k' _
      (by show (blkOf t).val * 512 + y2.val = (blkOf t).val * 512 + 256 * (y2.val / 256) + y2.val % 256; omega)

end Final

end Cert.WinIdeal.Whole
-- ==== Proof.WinClaims.lean ====
/-
  The window program's claims: its frames, its named constants and its equality with the plain reference.
-/
module

public import proofs.«01_k».proof.Defs
public import proofs.«01_k».proof.Proof.Gen.Win.Frame
public import proofs.«01_k».proof.Proof.Gen.Pre_finite
public import proofs.«01_k».proof.Proof.WinValue
public import Idealize.ShloMosaic.Lib.Quiescent

@[expose] public section

noncomputable section

open Idealize.ShloMosaic Idealize.ShloMosaic.TcCoe Idealize.SL.Sem

namespace Cert.Proof.WinClaims

/-- Every run of the kernel ends with its arguments unchanged. -/
theorem frame_p : Cert.quiescent_Win := fun m ρ _ => Cert.Win.Gen.frame m ρ
/-- The same, on the extended reals. -/
theorem frame_pi : Cert.quiescent_WinIdeal := fun m ρ _ => Cert.WinIdeal.Gen.frame m ρ
/-- The same, for finite queries and keys. -/
theorem frame_pi_finite : Cert.quiescent_WinIdeal_pre_finite := fun m ρ _ => Cert.WinIdeal.Gen.frame m ρ
/-- Every run of the reference ends with its arguments unchanged. -/
theorem frame_ri : Cert.quiescent_WinRefIdeal := fun m ρ _ =>
  (θ_run Cert.WinRefIdeal.defs _ _).mono (fun r h => ⟨fun c => (h c).2,
      Idealize.ShloMosaic.sem_eq_zero_of_no_sems (by decide) r.2⟩)
    (Cert.WinRefIdeal.Value.run (F := Ideal) m ρ)
/-- The same, for finite queries and keys. -/
theorem frame_ri_finite : Cert.quiescent_WinRefIdeal_pre_finite := fun m ρ _ => frame_ri m ρ trivial

/-- Each named constant's float is its value's reading. -/
theorem preserves : Cert.preserves_Win_WinIdeal :=
  ⟨IdealRules.named_const.statement Cert.WinIdeal.κ "slope3" .f32 _ _ rfl, IdealRules.named_const.statement Cert.WinIdeal.κ "slope5" .f32 _ _ rfl,
    IdealRules.named_const.statement Cert.WinIdeal.κ "slope1" .f32 _ _ rfl, IdealRules.named_const.statement Cert.WinIdeal.κ "neg" .f32 _ _ rfl,
    IdealRules.named_const.statement Cert.WinIdeal.κ "slope6" .f32 _ _ rfl, IdealRules.named_const.statement Cert.WinIdeal.κ "slope2" .f32 _ _ rfl,
    IdealRules.named_const.statement Cert.WinIdeal.κ "slope7" .f32 _ _ rfl, IdealRules.named_const.statement Cert.WinIdeal.κ "slope8" .f32 _ _ rfl,
    IdealRules.named_const.statement Cert.WinIdeal.κ "slope4" .f32 _ _ rfl⟩

/-- The float infinity. -/
theorem top_f32 : Ideal.ofBits .f32 0x7F800000#32 = (⊤ : EReal) := by
  simp [Ideal.ofBits, Ideal.ieee]

/-- An extended real of magnitude below infinity is a real. -/
theorem real_of (x : EReal) (h : BitVec.ofBool (decide (FloatOps.absf (F := Ideal) (φ := .f32) x < Ideal.ofBits .f32 0x7F800000#32)) = 1#1) :
    x = ((x.toReal : ℝ) : EReal) := by
  rw [top_f32] at h
  have h' : max x (-x) < (⊤ : EReal) := by
    by_contra hn
    have hn' : ¬ (FloatOps.absf (F := Ideal) (φ := .f32) x < (⊤ : EReal)) := hn
    rw [decide_eq_false hn'] at h
    exact absurd h (by decide)
  refine (EReal.coe_toReal (fun e => ?_) (fun e => ?_)).symm
  · subst e; simp at h'
  · subst e; simp at h'

/-- The precondition: the queries are reals. -/
theorem queries_real (m : (ℓ : Loc Cert.WinIdeal.nD Cert.WinIdeal.τ Cert.WinIdeal.sig) → Buf (Elt Ideal) ℓ) (h : Cert.Pre_WinIdeal_finite m) (c : Dev Cert.WinIdeal.nD) :
    (m ((c.tc : Thread Cert.WinIdeal.nD Cert.WinIdeal.τ).loc Cert.WinIdeal.main_arg0) : Cert.WinIdeal.S8x8192x512.Idx → EReal)
      = fun i => ((EReal.toReal (m ((c.tc : Thread Cert.WinIdeal.nD Cert.WinIdeal.τ).loc Cert.WinIdeal.main_arg0) i) : ℝ) : EReal) := by
  funext i
  have e := h c
  idx_vars i
  refine real_of _ ?_
  have e' := congrFun e (ix3 i0 i1 (⟨i2.val, by omega⟩ : Fin 640))
  revert e'
  pointwise [Cert.Pre_finite.fn]
  exact id

/-- The precondition: the keys are reals. -/
theorem keys_real (m : (ℓ : Loc Cert.WinIdeal.nD Cert.WinIdeal.τ Cert.WinIdeal.sig) → Buf (Elt Ideal) ℓ) (h : Cert.Pre_WinIdeal_finite m) (c : Dev Cert.WinIdeal.nD) :
    (m ((c.tc : Thread Cert.WinIdeal.nD Cert.WinIdeal.τ).loc Cert.WinIdeal.main_arg2) : Cert.WinIdeal.S8x8192x128.Idx → EReal)
      = fun i => ((EReal.toReal (m ((c.tc : Thread Cert.WinIdeal.nD Cert.WinIdeal.τ).loc Cert.WinIdeal.main_arg2) i) : ℝ) : EReal) := by
  funext i
  have e := h c
  idx_vars i
  refine real_of _ ?_
  have e' := congrFun e (ix3 i0 i1 (⟨512 + i2.val, by omega⟩ : Fin 640))
  revert e'
  pointwise [Cert.Pre_finite.fn]
  exact id

/-- Kernel and reference compute the same array on the extended reals, for finite queries and keys. -/
theorem algebraic : Cert.algebraic_WinIdeal_WinRefIdeal_pre_finite := by
  intro m ρ m' ρ' hpre hag
  refine ⟨fun c => Cert.WinIdeal.Whole.goal m c, ?_, ?_⟩
  · exact (θ_run Cert.WinIdeal.defs _ _).mono (fun _ h c => ⟨(h c).1.trans (Cert.WinIdeal.Whole.final m c _ _
        (queries_real m hpre c) (keys_real m hpre c)), (h c).2⟩)
      (Cert.WinIdeal.Value.run_blocks (F := Ideal) m ρ)
  · refine (θ_run Cert.WinRefIdeal.defs _ _).mono (fun _ h c => ⟨(h c).1.trans ?_, (h c).2⟩)
      (Cert.WinRefIdeal.Value.run (F := Ideal) m' ρ')
    rw [Cert.WinRefIdeal.Row.res_eq m' c]
    unfold Cert.WinIdeal.Whole.goal
    obtain ⟨h0, h1, h2, h3, h4, h5, h6⟩ := hag c
    rw [h0, h2, h4, h5, h6]

end Cert.Proof.WinClaims
-- ==== Proof.CmpRow.lean ====
/-
  The compression network on the extended reals, and the plain reference's result read as it.

  A block of 32 positions of one key-value head (32 times 64 numbers) gets the position embedding added, goes through a
  hidden layer of 256 units with gelu, and a second layer to 64 channels. Blocks start every 16 positions; the positions go
  round the end of the sequence, which matters to the last block only.
-/
module

public import proofs.«01_k».proof.Proof.Gen.CmpRefIdeal.Run
public import proofs.«01_k».proof.Proof.InRow

@[expose] public section

set_option maxRecDepth 16384

noncomputable section

open Idealize.ShloMosaic Idealize.ShloMosaic.TcCoe

namespace Cert.CmpRow

/-- Position `p` of block `n`. -/
def posOf (n : Fin 512) (p : Nat) : Fin 8192 := ⟨(n.val * 16 + p) % 8192, Nat.mod_lt _ (by omega)⟩

/-- Channel `d` of head `h`, among the channels of both heads. -/
def chOf (h : Fin 2) (d : Nat) (hd : d < 64) : Fin 128 := ⟨h.val * 64 + d, by omega⟩

/-- A hidden unit before its gelu: the block plus the position embedding, against the unit's weights. -/
def pre (x : Fin 8192 → Fin 128 → EReal) (po w : Fin 2048 → EReal) (n : Fin 512) (h : Fin 2) : EReal :=
  ∑ f : Fin 2048, (x (posOf n (f.val / 64)) (chOf h (f.val % 64) (by omega)) + po f) * w f

/-- A channel of the compressed block. -/
def net (x : Fin 8192 → Fin 128 → EReal) (po : Fin 2048 → EReal) (w1 : Fin 2048 → Fin 256 → EReal) (w2 : Fin 256 → EReal)
    (n : Fin 512) (h : Fin 2) : EReal :=
  ∑ k : Fin 256, InRow.gelu (pre x po (fun f => w1 f k) n h) * w2 k

end Cert.CmpRow

namespace Cert.CmpRefIdeal.Row

open Cert.CmpRefIdeal Cert.CmpRefIdeal.Gen Cert.CmpRow

/-- The positions in groups of 16, the channels by head. -/
def rCh (x : FVec Ideal S8x8192x128 .f32) : FVec Ideal S8x512x16x2x64 .f32 := shapeCast S8x512x16x2x64 x shapeCasts_S8x8192x128_S8x512x16x2x64

/-- The groups moved up by one, the first one after the last. -/
def rAfter (c : FVec Ideal S8x512x16x2x64 .f32) : FVec Ideal S8x512x16x2x64 .f32 :=
  concatenate S8x512x16x2x64 1 [⟨S8x511x16x2x64, extractStridedSlice S8x511x16x2x64 ![0, 1, 0, 0, 0] c slices_S8x512x16x2x64_S8x511x16x2x64_0_1_0_0_0⟩,
    ⟨S8x1x16x2x64, extractStridedSlice S8x1x16x2x64 ![0, 0, 0, 0, 0] c slices_S8x512x16x2x64_S8x1x16x2x64_0_0_0_0_0⟩]
    concatenates_S8x511x16x2x64_S8x1x16x2x64_S8x512x16x2x64_d1

/-- The blocks of 32 positions. -/
def rBlk (c : FVec Ideal S8x512x16x2x64 .f32) : FVec Ideal S8x512x32x2x64 .f32 :=
  concatenate S8x512x32x2x64 2 [⟨S8x512x16x2x64, c⟩, ⟨S8x512x16x2x64, rAfter c⟩] concatenates_S8x512x16x2x64_S8x512x16x2x64_S8x512x32x2x64_d2

/-- The blocks with the position embedding, one row for each head. -/
def rIn (k : FVec Ideal S8x512x32x2x64 .f32) (po : FVec Ideal S1x32x64 .f32) : FVec Ideal S8x512x2x2048 .f32 :=
  shapeCast S8x512x2x2048 (transpose S8x512x2x32x64 [0, 1, 3, 2, 4] (addf k (broadcastInDim S8x512x32x2x64 ![0, 1, 2, 3, 4] bcast_S1x1x32x1x64_S8x512x32x2x64_0_1_2_3_4
    (broadcastInDim S1x1x32x1x64 ![2, 4] bcast_S32x64_S1x1x32x1x64_2_4 (shapeCast S32x64 po shapeCasts_S1x32x64_S32x64))))
    transposes_S8x512x32x2x64_S8x512x2x32x64_0_1_3_2_4) shapeCasts_S8x512x2x32x64_S8x512x2x2048

/-- The hidden units before their gelu. -/
def rPre (i : FVec Ideal S8x512x2x2048 .f32) (w1 : FVec Ideal S1x2048x256 .f32) : FVec Ideal S8x512x2x256 .f32 :=
  Host.dotGeneral (φ₁ := .f32) (φ₂ := .f32) dot_S8x512x2x2048_S2048x256_S8x512x2x256_3_0_012_1_n_n none i (shapeCast S2048x256 w1 shapeCasts_S1x2048x256_S2048x256)

/-- gelu of the hidden units. -/
def rGelu (a : FVec Ideal S8x512x2x256 .f32) : FVec Ideal S8x512x2x256 .f32 :=
  mulf a (mulf (broadcastInDim S8x512x2x256 ![] bcast_S_S8x512x2x256 (constant S_ .f32 0x3F000000#32))
    (addf (broadcastInDim S8x512x2x256 ![] bcast_S_S8x512x2x256 (constant S_ .f32 0x3F800000#32))
      (Host.tanh (mulf (broadcastInDim S8x512x2x256 ![] bcast_S_S8x512x2x256 (constant S_ .f32 0x3F4C422A#32))
        (addf a (mulf (broadcastInDim S8x512x2x256 ![] bcast_S_S8x512x2x256 (constant S_ .f32 0x3D372713#32)) (mulf (mulf a a) a)))))))

/-- The network on one of the two arrays. -/
def rNet (x : FVec Ideal S8x8192x128 .f32) (po : FVec Ideal S1x32x64 .f32) (w1 : FVec Ideal S1x2048x256 .f32) (w2 : FVec Ideal S1x256x64 .f32) :
    FVec Ideal S8x512x2x64 .f32 :=
  Host.dotGeneral (φ₁ := .f32) (φ₂ := .f32) dot_S8x512x2x256_S256x64_S8x512x2x64_3_0_012_1_n_n none (rGelu (rPre (rIn (rBlk (rCh x)) po) w1))
    (shapeCast S256x64 w2 shapeCasts_S1x256x64_S256x64)

/-- Two arrays stacked, with channels before blocks. -/
def rStack (a b : FVec Ideal S8x512x2x64 .f32) : FVec Ideal S2x8x2x64x512 .bf16 :=
  truncf .bf16 (transpose S2x8x2x64x512 [0, 1, 3, 4, 2] (concatenate S2x8x512x2x64 0
    [⟨S1x8x512x2x64, broadcastInDim S1x8x512x2x64 ![1, 2, 3, 4] bcast_S8x512x2x64_S1x8x512x2x64_1_2_3_4 a⟩,
     ⟨S1x8x512x2x64, broadcastInDim S1x8x512x2x64 ![1, 2, 3, 4] bcast_S8x512x2x64_S1x8x512x2x64_1_2_3_4 b⟩]
    concatenates_S1x8x512x2x64_S1x8x512x2x64_S2x8x512x2x64_d0) transposes_S2x8x512x2x64_S2x8x2x64x512_0_1_3_4_2) bitsLt_bf16_f32

/-- The whole reference, stage by stage. -/
def rCmp (k v : FVec Ideal S8x8192x128 .f32) (po : FVec Ideal S2x32x64 .f32) (w1 : FVec Ideal S2x2048x256 .f32) (w2 : FVec Ideal S2x256x64 .f32) :
    FVec Ideal S2x8x2x64x512 .bf16 :=
  rStack (rNet k (extractStridedSlice S1x32x64 ![0, 0, 0] po slices_S2x32x64_S1x32x64_0_0_0)
      (extractStridedSlice S1x2048x256 ![0, 0, 0] w1 slices_S2x2048x256_S1x2048x256_0_0_0) (extractStridedSlice S1x256x64 ![0, 0, 0] w2 slices_S2x256x64_S1x256x64_0_0_0))
    (rNet v (extractStridedSlice S1x32x64 ![1, 0, 0] po slices_S2x32x64_S1x32x64_1_0_0)
      (extractStridedSlice S1x2048x256 ![1, 0, 0] w1 slices_S2x2048x256_S1x2048x256_1_0_0) (extractStridedSlice S1x256x64 ![1, 0, 0] w2 slices_S2x256x64_S1x256x64_1_0_0))

set_option maxHeartbeats 2000000 in
/-- The reference's result is its stages composed. -/
theorem res_eq (m : (ℓ : Loc nD τ sig) → Buf (Elt Ideal) ℓ) (c : Dev nD) :
    Value.res_main_v66 m c = rCmp (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- A position of a group. -/
theorem rCh_at (x : FVec Ideal S8x8192x128 .f32) (b : Fin 8) (n : Fin 512) (p : Fin 16) (h : Fin 2) (d : Fin 64) :
    rCh x (ix5 b n p h d) = x (ix3 b ⟨n.val * 16 + p.val, by omega⟩ (chOf h d.val d.isLt)) := by
  pointwise [rCh, chOf]

/-- A position of the next group. -/
theorem rAfter_at (x : FVec Ideal S8x8192x128 .f32) (b : Fin 8) (n : Fin 512) (p : Fin 16) (h : Fin 2) (d : Fin 64) :
    rAfter (rCh x) (ix5 b n p h d) = x (ix3 b (posOf n (16 + p.val)) (chOf h d.val d.isLt)) := by
  by_cases hn : n.val < 511
  · pointwise [rAfter, rCh_at]
    rw [dif_pos hn]
    refine congrArg (fun s => x (ix3 b s (chOf h d.val d.isLt))) (Fin.ext ?_)
    unfold posOf
    dsimp only
    omega
  · pointwise [rAfter, rCh_at]
    rw [dif_neg hn]
    refine congrArg (fun s => x (ix3 b s (chOf h d.val d.isLt))) (Fin.ext ?_)
    unfold posOf
    dsimp only
    omega

/-- A position of a block. -/
theorem rBlk_at (x : FVec Ideal S8x8192x128 .f32) (b : Fin 8) (n : Fin 512) (p : Fin 32) (h : Fin 2) (d : Fin 64) :
    rBlk (rCh x) (ix5 b n p h d) = x (ix3 b (posOf n p.val) (chOf h d.val d.isLt)) := by
  by_cases hp : p.val < 16
  · pointwise [rBlk, rCh_at]
    rw [dif_pos hp]
    refine congrArg (fun s => x (ix3 b s (chOf h d.val d.isLt))) (Fin.ext ?_)
    unfold posOf
    dsimp only
    omega
  · pointwise [rBlk, rAfter_at]
    rw [dif_neg hp]
    refine congrArg (fun s => x (ix3 b s (chOf h d.val d.isLt))) (Fin.ext ?_)
    unfold posOf
    dsimp only
    omega

/-- An entry of a head's row. -/
theorem rIn_at (k : FVec Ideal S8x512x32x2x64 .f32) (po : FVec Ideal S1x32x64 .f32) (b : Fin 8) (n : Fin 512) (h : Fin 2) (f : Fin 2048) :
    rIn k po (ix4 b n h f) = k (ix5 b n ⟨f.val / 64, by omega⟩ h ⟨f.val % 64, by omega⟩) + po (ix3 0 ⟨f.val / 64, by omega⟩ ⟨f.val % 64, by omega⟩) := by
  pointwise [rIn]

/-- A hidden unit before its gelu. -/
theorem rPre_at (x : FVec Ideal S8x8192x128 .f32) (po : FVec Ideal S1x32x64 .f32) (w1 : FVec Ideal S1x2048x256 .f32) (b : Fin 8) (n : Fin 512) (h : Fin 2) (c : Fin 256) :
    rPre (rIn (rBlk (rCh x)) po) w1 (ix4 b n h c) = pre (fun t j => x (ix3 b t j)) (fun f => po (ix3 0 ⟨f.val / 64, by omega⟩ ⟨f.val % 64, by omega⟩))
      (fun f => w1 (ix3 0 f c)) n h := by
  pointwise [rPre, pre, rIn_at, rBlk_at]

/-- gelu, element by element. -/
theorem rGelu_at (a : FVec Ideal S8x512x2x256 .f32) (b : Fin 8) (n : Fin 512) (h : Fin 2) (c : Fin 256) :
    rGelu a (ix4 b n h c) = InRow.gelu (a (ix4 b n h c)) := by
  pointwise [rGelu, InRow.gelu]

/-- A channel of a compressed block. -/
theorem rNet_at (x : FVec Ideal S8x8192x128 .f32) (po : FVec Ideal S1x32x64 .f32) (w1 : FVec Ideal S1x2048x256 .f32) (w2 : FVec Ideal S1x256x64 .f32)
    (b : Fin 8) (n : Fin 512) (h : Fin 2) (d : Fin 64) :
    rNet x po w1 w2 (ix4 b n h d) = net (fun t j => x (ix3 b t j)) (fun f => po (ix3 0 ⟨f.val / 64, by omega⟩ ⟨f.val % 64, by omega⟩))
      (fun f c => w1 (ix3 0 f c)) (fun c => w2 (ix3 0 c d)) n h := by
  pointwise [rNet, net, rGelu_at, rPre_at]

/-- An entry of the stacked arrays. -/
theorem rStack_at (a e : FVec Ideal S8x512x2x64 .f32) (t : Fin 2) (b : Fin 8) (h : Fin 2) (d : Fin 64) (n : Fin 512) :
    rStack a e (ix5 t b h d n) = if t.val = 0 then a (ix4 b n h d) else e (ix4 b n h d) := by
  fin_cases t
  · pointwise [rStack]
  · pointwise [rStack]

/-- An entry of the reference's result. -/
theorem rCmp_at (k v : FVec Ideal S8x8192x128 .f32) (po : FVec Ideal S2x32x64 .f32) (w1 : FVec Ideal S2x2048x256 .f32) (w2 : FVec Ideal S2x256x64 .f32)
    (t : Fin 2) (b : Fin 8) (h : Fin 2) (d : Fin 64) (n : Fin 512) :
    rCmp k v po w1 w2 (ix5 t b h d n) = net (fun s j => if t.val = 0 then k (ix3 b s j) else v (ix3 b s j))
      (fun f => po (ix3 t ⟨f.val / 64, by omega⟩ ⟨f.val % 64, by omega⟩)) (fun f c => w1 (ix3 t f c)) (fun c => w2 (ix3 t c d)) n h := by
  unfold rCmp
  rw [rStack_at, rNet_at, rNet_at]
  fin_cases t
  · pointwise
  · pointwise

end Cert.CmpRefIdeal.Row
-- ==== Proof.CmpBlock.lean ====
/-
  The compression kernel's result block, entry by entry.
-/
module

public import proofs.«01_k».proof.Proof.Gen.CmpIdeal.Value
public import proofs.«01_k».proof.Proof.CmpRow

@[expose] public section

set_option maxRecDepth 16384

noncomputable section

open Idealize.ShloMosaic Idealize.ShloMosaic.TcCoe

namespace Cert.CmpIdeal.Block

open Cert.CmpIdeal Cert.CmpIdeal.Gen Cert.CmpRow

/-- The group after group `n`, the first one after the last. -/
def nextOf (n : Fin 512) : Fin 512 := ⟨(n.val + 512 - 511) % 512, Nat.mod_lt _ (by omega)⟩

/-- A hidden unit before its gelu, as the kernel computes it: group `n` against the weights of a block's first half, the
    next group against those of the second half, and the position embedding against the weights. -/
def kpre (x : Fin 512 → Fin 2048 → EReal) (wa wb po w : Fin 2048 → EReal) (n : Fin 512) : EReal :=
  ((∑ f : Fin 2048, x n f * wa f) + ∑ f : Fin 2048, x (nextOf n) f * wb f) + ∑ f : Fin 2048, po f * w f

/-- The product with the weights of both halves and both heads. -/
theorem pay1_at (x : Vec Ideal S1x1x512x2048 .bf16) (w : Vec Ideal S1x2048x1024 .bf16) (n : Fin 512) (j : Fin 1024) :
    k0_pay1 (F := Ideal) x w (ix2 n j) = ∑ f : Fin 2048, x (ix4 0 0 n f) * w (ix3 0 f j) := by
  pointwise [k0_pay1]

/-- The position embedding against the weights. -/
theorem pay2_at (po : Vec Ideal S1x8x2048 .f32) (w : Vec Ideal S1x2048x256 .bf16) (c : Fin 256) :
    k0_pay2 (F := Ideal) po w (ix2 0 c) = ∑ f : Fin 2048, po (ix3 0 0 f) * w (ix3 0 f c) := by
  pointwise [k0_pay2]

/-- The first head's hidden units. -/
theorem pay3_at (x : Vec Ideal S1x1x512x2048 .bf16) (w : Vec Ideal S1x2048x1024 .bf16) (po : Vec Ideal S1x8x2048 .f32) (w1 : Vec Ideal S1x2048x256 .bf16)
    (n : Fin 512) (c : Fin 256) :
    k0_pay3 (F := Ideal) x w po w1 (ix2 n c) = InRow.gelu (k0_pay1 (F := Ideal) x w (ix2 n ⟨c.val, by omega⟩)
      + k0_pay1 (F := Ideal) x w (ix2 (nextOf n) ⟨256 + c.val, by omega⟩) + k0_pay2 (F := Ideal) po w1 (ix2 0 c)) := by
  pointwise [k0_pay3, InRow.gelu]
  rfl

/-- The second head's result, from the two products. -/
theorem pay13_at (y : FVec Ideal S512x1024 .f32) (e : FVec Ideal S1x256 .f32) (w2 : Vec Ideal S1x256x64 .bf16) (n : Fin 512) (d : Fin 64) :
    k0_pay13 (F := Ideal) y e w2 (ix2 n d) = ∑ c : Fin 256, InRow.gelu (y (ix2 n ⟨512 + c.val, by omega⟩)
      + y (ix2 (nextOf n) ⟨768 + c.val, by omega⟩) + e (ix2 0 c)) * w2 (ix3 0 c d) := by
  pointwise [k0_pay13, InRow.gelu]
  rfl

/-- A channel of a compressed block of one head, from the call's operands. -/
def unit (x : Vec Ideal S1x1x512x2048 .bf16) (w : Vec Ideal S1x2048x1024 .bf16) (w1 : Vec Ideal S1x2048x256 .bf16) (po : Vec Ideal S1x8x2048 .f32)
    (w2 : Vec Ideal S1x256x64 .bf16) (h : Fin 2) (d : Fin 64) (n : Fin 512) : EReal :=
  ∑ c : Fin 256, InRow.gelu (kpre (fun n f => x (ix4 0 0 n f))
      (fun f => w (ix3 0 f ⟨h.val * 512 + c.val, by omega⟩)) (fun f => w (ix3 0 f ⟨h.val * 512 + 256 + c.val, by omega⟩))
      (fun f => po (ix3 0 0 f)) (fun f => w1 (ix3 0 f c)) n) * w2 (ix3 0 c d)

/-- The first head's part of the result block. -/
theorem head0_at (x : Vec Ideal S1x1x512x2048 .bf16) (w : Vec Ideal S1x2048x1024 .bf16) (w1 : Vec Ideal S1x2048x256 .bf16) (po : Vec Ideal S1x8x2048 .f32)
    (w2 : Vec Ideal S1x256x64 .bf16) (d : Fin 64) (n : Fin 512) :
    k0_pay12 (F := Ideal) (k0_pay5 (k0_pay23 x w w1 po w2) (k0_pay24 x w w1 po w2) (k0_pay20 x w w1 po w2)) (ix5 0 0 0 d n)
      = unit x w w1 po w2 0 d n := by
  pointwise [k0_pay12, k0_pay5, k0_pay4, k0_pay20, k0_pay23, k0_pay24, pay3_at, pay1_at, pay2_at, unit, kpre]

/-- The second head's part of the result block. -/
theorem head1_at (x : Vec Ideal S1x1x512x2048 .bf16) (w : Vec Ideal S1x2048x1024 .bf16) (w1 : Vec Ideal S1x2048x256 .bf16) (po : Vec Ideal S1x8x2048 .f32)
    (w2 : Vec Ideal S1x256x64 .bf16) (d : Fin 64) (n : Fin 512) :
    k0_pay19 (F := Ideal) (k0_pay13 (k0_pay21 x w w1 po w2) (k0_pay22 x w w1 po w2) w2) (ix5 0 0 0 d n)
      = unit x w w1 po w2 1 d n := by
  pointwise [k0_pay19, k0_pay21, k0_pay22, pay13_at, pay1_at, pay2_at, unit, kpre]

/-- An entry of the result block. -/
theorem out_at (x : Vec Ideal S1x1x512x2048 .bf16) (w : Vec Ideal S1x2048x1024 .bf16) (w1 : Vec Ideal S1x2048x256 .bf16) (po : Vec Ideal S1x8x2048 .f32)
    (w2 : Vec Ideal S1x256x64 .bf16) (h : Fin 2) (d : Fin 64) (n : Fin 512) :
    out0_6 (F := Ideal) x w w1 po w2 (ix5 0 0 h d n) = unit x w w1 po w2 h d n := by
  frame_out
  canon_tiles i e
  · idx_vars i
    obtain rfl : i0 = 0 := Subsingleton.elim _ _
    obtain rfl : i1 = 0 := Subsingleton.elim _ _
    obtain rfl : i2 = 0 := Subsingleton.elim _ _
    obtain rfl : d = i3 := Fin.ext e3
    obtain rfl : n = i4 := Fin.ext e4
    obtain rfl : h = 1 := Fin.ext e2
    exact head1_at x w w1 po w2 d n
  · idx_vars i
    obtain rfl : i0 = 0 := Subsingleton.elim _ _
    obtain rfl : i1 = 0 := Subsingleton.elim _ _
    obtain rfl : i2 = 0 := Subsingleton.elim _ _
    obtain rfl : d = i3 := Fin.ext e3
    obtain rfl : n = i4 := Fin.ext e4
    obtain rfl : h = 0 := Fin.ext e2
    exact head0_at x w w1 po w2 d n

end Cert.CmpIdeal.Block
-- ==== Proof.CmpSum.lean ====
/-
  Two ways of summing a block against a hidden unit's weights.

  The kernel keeps both heads' channels in a row and multiplies by weights that are zero on the other head's channels; it
  takes a block's two halves of 16 positions separately, and the position embedding by itself. For a real position embedding
  and real weights this is the plain sum.
-/
module

public import proofs.«01_k».proof.Proof.CmpBlock

@[expose] public section

set_option maxRecDepth 16384

noncomputable section

open Idealize.ShloMosaic Idealize.ShloMosaic.TcCoe

namespace Cert.CmpSum

open Cert.CmpRow Cert.CmpIdeal.Block

/-- A row's channel belongs to head `h`: one, else zero. -/
def sel (f : Fin 2048) (h : Fin 2) : EReal := if f.val / 64 % 2 = h.val then 1 else 0

/-- Where entry `q` of a head's half block stands in the row of both heads. -/
def wide (h : Fin 2) (q : Fin 1024) : Fin 2048 := ⟨q.val / 64 * 128 + h.val * 64 + q.val % 64, by omega⟩

/-- The entry of a head's half block that a row's entry is. -/
def slim (f : Fin 2048) : Fin 1024 := ⟨f.val / 128 * 64 + f.val % 64, by omega⟩

/-- Different entries stand at different places. -/
theorem wide_inj (h : Fin 2) : Function.Injective (wide h) := by
  intro a b e
  have e' := congrArg Fin.val e
  unfold wide at e'
  dsimp only at e'
  exact Fin.ext (by omega)

/-- A sum against weights that are zero on the other head's channels is the sum over the head's own. -/
theorem half_sum (a : Fin 2048 → EReal) (w : Fin 1024 → EReal) (h : Fin 2) :
    ∑ f : Fin 2048, a f * (w (slim f) * sel f h) = ∑ q : Fin 1024, a (wide h q) * w q := by
  refine (Fintype.sum_of_injective (wide h) (wide_inj h) _ _ (fun f hf => ?_) (fun q => ?_)).symm
  · have hs : sel f h = 0 := by
      unfold sel
      rw [if_neg]
      intro e
      refine hf ⟨slim f, Fin.ext ?_⟩
      unfold wide slim
      dsimp only
      omega
    rw [hs, mul_zero, mul_zero]
  · have hs : sel (wide h q) h = 1 := by
      unfold sel wide
      dsimp only
      rw [if_pos]
      omega
    have hq : slim (wide h q) = q := by
      refine Fin.ext ?_
      unfold wide slim
      dsimp only
      omega
    rw [hs, hq, mul_one]

/-- A sum over 2048 in two halves. -/
theorem two_halves (g : Fin 2048 → EReal) :
    ∑ f : Fin 2048, g f = (∑ q : Fin 1024, g ⟨q.val, by omega⟩) + ∑ q : Fin 1024, g ⟨1024 + q.val, by omega⟩ :=
  Fin.sum_univ_add (a := 1024) (b := 1024) (f := g)

/-- Multiplication by a real distributes over adding a real. -/
theorem distrib (x : EReal) (p w : ℝ) : (x + (p : EReal)) * (w : EReal) = x * (w : EReal) + (p : EReal) * (w : EReal) := by
  induction x using EReal.rec with
  | bot =>
    rcases lt_trichotomy w 0 with hw | hw | hw
    · rw [EReal.bot_add, EReal.bot_mul_coe_of_neg hw, ← EReal.coe_mul, EReal.top_add_coe]
    · subst hw; simp
    · rw [EReal.bot_add, EReal.bot_mul_coe_of_pos hw, EReal.bot_add]
  | coe x => rw [← EReal.coe_add, ← EReal.coe_mul, ← EReal.coe_mul, ← EReal.coe_mul, ← EReal.coe_add, add_mul]
  | top =>
    rcases lt_trichotomy w 0 with hw | hw | hw
    · rw [EReal.top_add_coe, EReal.top_mul_coe_of_neg hw, EReal.bot_add]
    · subst hw; simp
    · rw [EReal.top_add_coe, EReal.top_mul_coe_of_pos hw, ← EReal.coe_mul, EReal.top_add_coe]

/-- The kernel's way and the plain sum agree for a real position embedding and real weights. -/
theorem kpre_eq (x : Fin 8192 → Fin 128 → EReal) (po w : Fin 2048 → EReal)
    (hpo : ∀ f, po f = (((po f).toReal : ℝ) : EReal)) (hw : ∀ f, w f = (((w f).toReal : ℝ) : EReal)) (n : Fin 512) (h : Fin 2) :
    kpre (fun n f => x ⟨n.val * 16 + f.val / 128, by omega⟩ ⟨f.val % 128, by omega⟩)
      (fun f => w ⟨(slim f).val, by omega⟩ * sel f h) (fun f => w ⟨1024 + (slim f).val, by omega⟩ * sel f h) po w n
      = pre x po w n h := by
  unfold kpre pre
  rw [half_sum (fun f => x ⟨n.val * 16 + f.val / 128, by omega⟩ ⟨f.val % 128, by omega⟩) (fun q => w ⟨q.val, by omega⟩) h,
    half_sum (fun f => x ⟨(nextOf n).val * 16 + f.val / 128, by omega⟩ ⟨f.val % 128, by omega⟩) (fun q => w ⟨1024 + q.val, by omega⟩) h]
  have hd : ∀ f : Fin 2048, (x (posOf n (f.val / 64)) (chOf h (f.val % 64) (by omega)) + po f) * w f
      = x (posOf n (f.val / 64)) (chOf h (f.val % 64) (by omega)) * w f + po f * w f := by
    intro f
    rw [hpo f, hw f]
    exact distrib _ _ _
  rw [Finset.sum_congr rfl (fun f _ => hd f), Finset.sum_add_distrib,
    two_halves (fun f => x (posOf n (f.val / 64)) (chOf h (f.val % 64) (by omega)) * w f)]
  refine congrArg (· + _) (congrArg₂ (· + ·) (Finset.sum_congr rfl fun q _ => ?_) (Finset.sum_congr rfl fun q _ => ?_))
  · refine congrArg (· * _) (congrArg₂ x (Fin.ext ?_) (Fin.ext ?_))
    · unfold wide posOf; dsimp only; omega
    · unfold wide chOf; dsimp only; omega
  · refine congrArg (· * _) (congrArg₂ x (Fin.ext ?_) (Fin.ext ?_))
    · unfold wide posOf nextOf; dsimp only; omega
    · unfold wide chOf; dsimp only; omega

end Cert.CmpSum
-- ==== Proof.CmpEmb.lean ====
/-
  The compression kernel's whole result array is the plain reference's: each grid point writes the compressed blocks of one
  sequence's keys or values, both heads, and together the 16 points write every entry.
-/
module

public import proofs.«01_k».proof.Proof.CmpSum

@[expose] public section

set_option maxRecDepth 16384

noncomputable section

open Idealize.ShloMosaic Idealize.ShloMosaic.TcCoe Idealize.SL.Sem

namespace Cert.CmpIdeal.Whole

open Cert.CmpIdeal Cert.CmpIdeal.Gen Cert.CmpRow Cert.CmpSum Cert.CmpRefIdeal.Row

variable (m : (ℓ : Loc nD τ sig) → Buf (Elt Ideal) ℓ)

/-- The reference's function of the kernel's arguments. -/
def goal (c : Dev nD) : FVec Ideal S2x8x2x64x512 .bf16 :=
  rCmp (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- Where each window's block stands at a grid point. -/
theorem index_maps : ∀ t : Fin grid0.N,
    win0_0.index t = ![(grid0.coords t 0).val, (grid0.coords t 1).val, 0, 0] ∧ win0_1.index t = ![(grid0.coords t 0).val, 0, 0]
    ∧ win0_2.index t = ![(grid0.coords t 0).val, 0, 0] ∧ win0_3.index t = ![(grid0.coords t 0).val, 0, 0]
    ∧ win0_4.index t = ![(grid0.coords t 0).val, 0, 0] ∧ win0_6.index t = ![(grid0.coords t 0).val, (grid0.coords t 1).val, 0, 0, 0] := by
  decide +kernel

/-- Keys or values. -/
def arrOf (t : Fin grid0.N) : Fin 2 := ⟨(grid0.coords t 0).val, (grid0.coords t 0).isLt⟩

/-- The sequence a grid point works on. -/
def seqOf (t : Fin grid0.N) : Fin 8 := ⟨(grid0.coords t 1).val, (grid0.coords t 1).isLt⟩

/-- Where an entry of the result's block lies in the result. -/
theorem emb6 (t : Fin grid0.N) (h : Fin 2) (d : Fin 64) (n : Fin 512) :
    ((View.whole main_v25_1).slice (win0_6.rect t)).emb (ix5 0 0 h d n) = ix5 (arrOf t) (seqOf t) h d n := by
  blk_ext [index_maps t, arrOf, seqOf]

/-- Where an entry of the block of keys or values lies in the stacked arrays. -/
theorem emb0 (t : Fin grid0.N) (n : Fin 512) (f : Fin 2048) :
    ((View.whole main_v4).slice (win0_0.rect t)).emb (ix4 0 0 n f) = ix4 (arrOf t) (seqOf t) n f := by
  blk_ext [index_maps t, arrOf, seqOf]

/-- Where an entry of the block of widened weights lies in them. -/
theorem emb1 (t : Fin grid0.N) (f : Fin 2048) (j : Fin 1024) :
    ((View.whole main_v22).slice (win0_1.rect t)).emb (ix3 0 f j) = ix3 (arrOf t) f j := by
  blk_ext [index_maps t, arrOf, seqOf]

/-- Where an entry of the block of weights lies in them. -/
theorem emb2 (t : Fin grid0.N) (f : Fin 2048) (j : Fin 256) :
    ((View.whole main_v23).slice (win0_2.rect t)).emb (ix3 0 f j) = ix3 (arrOf t) f j := by
  blk_ext [index_maps t, arrOf, seqOf]

/-- Where an entry of the block of the position embedding lies in it. -/
theorem emb3 (t : Fin grid0.N) (f : Fin 2048) :
    ((View.whole main_v6).slice (win0_3.rect t)).emb (ix3 0 0 f) = ix3 (arrOf t) 0 f := by
  blk_ext [index_maps t, arrOf, seqOf]

/-- Where an entry of the block of second-layer weights lies in them. -/
theorem emb4 (t : Fin grid0.N) (k : Fin 256) (d : Fin 64) :
    ((View.whole main_v24).slice (win0_4.rect t)).emb (ix3 0 k d) = ix3 (arrOf t) k d := by
  blk_ext [index_maps t, arrOf, seqOf]

end Cert.CmpIdeal.Whole
-- ==== Proof.CmpBlkA.lean ====
/-
  The compression kernel's block of keys or values, read off the arrays.
-/
module

public import proofs.«01_k».proof.Proof.CmpEmb

@[expose] public section

set_option maxRecDepth 16384

noncomputable section

open Idealize.ShloMosaic Idealize.ShloMosaic.TcCoe Idealize.SL.Sem

namespace Cert.CmpIdeal.Whole

open Cert.CmpIdeal Cert.CmpIdeal.Gen Cert.CmpRow Cert.CmpSum Cert.CmpRefIdeal.Row

variable (m : (ℓ : Loc nD τ sig) → Buf (Elt Ideal) ℓ)

/-- Keys and values stacked, 16 positions with both heads' channels in a row. -/
def hTok (k v : FVec Ideal S8x8192x128 .f32) : FVec Ideal S2x8x512x2048 .bf16 :=
  shapeCast S2x8x512x2048 (truncf .bf16 (concatenate S2x8x8192x128 0
    [⟨S1x8x8192x128, broadcastInDim S1x8x8192x128 ![1, 2, 3] bcast_S8x8192x128_S1x8x8192x128_1_2_3 k⟩,
     ⟨S1x8x8192x128, broadcastInDim S1x8x8192x128 ![1, 2, 3] bcast_S8x8192x128_S1x8x8192x128_1_2_3 v⟩]
    concatenates_S1x8x8192x128_S1x8x8192x128_S2x8x8192x128_d0) bitsLt_bf16_f32) shapeCasts_S2x8x8192x128_S2x8x512x2048

/-- An entry of the stacked rows. -/
theorem hTok_at (k v : FVec Ideal S8x8192x128 .f32) (a : Fin 2) (b : Fin 8) (n : Fin 512) (f : Fin 2048) :
    hTok k v (ix4 a b n f) = if a.val = 0 then k (ix3 b ⟨n.val * 16 + f.val / 128, by omega⟩ ⟨f.val % 128, by omega⟩)
      else v (ix3 b ⟨n.val * 16 + f.val / 128, by omega⟩ ⟨f.val % 128, by omega⟩) := by
  by_cases ha : a.val = 0
  · pointwise [hTok]
    rw [dif_pos (by omega), if_pos ha]
  · pointwise [hTok]
    rw [dif_neg (by omega), if_neg ha]

/-- The stacked rows the kernel reads. -/
theorem tok_eq (c : Dev nD) : V m c main_v4 = hTok (m ((c.tc : Thread nD τ).loc main_arg0)) (m ((c.tc : Thread nD τ).loc main_arg1)) := by
  entry_read
  rfl

/-- The block of window 0 of any family of arrays. -/
theorem read0 (c : Dev nD) (t : Fin grid0.N) (W : (b : Ref sig .tc) → Buf (Elt Ideal) ((c : Thread nD τ).loc b)) (n : Fin 512) (f : Fin 2048) :
    ((cfg0.win 0).blk t).view.read (Elt Ideal) (W (Pipeline.arrRef spec0 0)) (ix4 0 0 n f) = W main_v4 (ix4 (arrOf t) (seqOf t) n f) :=
  congrArg (W main_v4) (emb0 t n f)

/-- A row of keys or values: 16 positions, both heads' channels. -/
theorem blk0 (c : Dev nD) (t : Fin grid0.N) (n : Fin 512) (f : Fin 2048) :
    iblk m c 0 t (ix4 0 0 n f) = hTok (m ((c.tc : Thread nD τ).loc main_arg0)) (m ((c.tc : Thread nD τ).loc main_arg1)) (ix4 (arrOf t) (seqOf t) n f) :=
  (read0 c t (V m c) n f).trans (congrFun (tok_eq m c) _)

end Cert.CmpIdeal.Whole
-- ==== Proof.CmpBlkB.lean ====
/-
  The compression kernel's block of widened weights, read off the weights.
-/
module

public import proofs.«01_k».proof.Proof.CmpEmb

@[expose] public section

set_option maxRecDepth 16384

noncomputable section

open Idealize.ShloMosaic Idealize.ShloMosaic.TcCoe Idealize.SL.Sem

namespace Cert.CmpIdeal.Whole

open Cert.CmpIdeal Cert.CmpIdeal.Gen Cert.CmpRow Cert.CmpSum Cert.CmpRefIdeal.Row

variable (m : (ℓ : Loc nD τ sig) → Buf (Elt Ideal) ℓ)

/-- One on the diagonal, zero off it. -/
def hEye : FVec Ideal S2x2 .f32 :=
  uitofp .f32 (cmpi .eq (addi (iotaInDim S2x2 32 0) (broadcastInDim S2x2 ![] bcast_S_S2x2 (constantI S_ 32 0#32))) (iotaInDim S2x2 32 1))

/-- The weights for both heads' channels in a row and both halves of a block, zero on the other head's channels. -/
def hBig (w : FVec Ideal S2x2048x256 .f32) : FVec Ideal S2x2048x1024 .bf16 :=
  truncf .bf16 (shapeCast S2x2048x1024 (mulf
    (broadcastInDim S2x16x2x64x2x2x256 ![0, 1, 2, 3, 4, 5, 6] bcast_S2x16x1x64x1x2x256_S2x16x2x64x2x2x256_0_1_2_3_4_5_6
      (broadcastInDim S2x16x1x64x1x2x256 ![0, 1, 3, 5, 6] bcast_S2x16x64x2x256_S2x16x1x64x1x2x256_0_1_3_5_6
        (transpose S2x16x64x2x256 [0, 2, 3, 1, 4] (shapeCast S2x2x16x64x256 w shapeCasts_S2x2048x256_S2x2x16x64x256)
          transposes_S2x2x16x64x256_S2x16x64x2x256_0_2_3_1_4)))
    (broadcastInDim S2x16x2x64x2x2x256 ![0, 1, 2, 3, 4, 5, 6] bcast_S1x1x2x1x2x1x1_S2x16x2x64x2x2x256_0_1_2_3_4_5_6
      (broadcastInDim S1x1x2x1x2x1x1 ![2, 3, 4, 5, 6] bcast_S2x1x2x1x1_S1x1x2x1x2x1x1_2_3_4_5_6
        (broadcastInDim S2x1x2x1x1 ![0, 2] bcast_S2x2_S2x1x2x1x1_0_2 hEye))))
    shapeCasts_S2x16x2x64x2x2x256_S2x2048x1024) bitsLt_bf16_f32

/-- An entry of the diagonal array. -/
theorem hEye_at (a h : Fin 2) : hEye (ix2 a h) = if a.val = h.val then (1 : EReal) else 0 := by
  have h1 : FloatOps.uitofp (F := Ideal) FTy.f32 1#1 = (1 : EReal) := by
    show (((1#1 : BitVec 1).toNat : ℝ) : EReal) = 1
    simp
  have h0 : FloatOps.uitofp (F := Ideal) FTy.f32 0#1 = (0 : EReal) := by
    show (((0#1 : BitVec 1).toNat : ℝ) : EReal) = 0
    simp
  fin_cases a <;> fin_cases h
  · pointwise [hEye]
    exact h1
  · pointwise [hEye]
    exact h0
  · pointwise [hEye]
    exact h0
  · pointwise [hEye]
    exact h1

/-- The widened weights the kernel reads. -/
theorem big_eq (c : Dev nD) : V m c main_v22 = hBig (m ((c.tc : Thread nD τ).loc main_arg3)) := by
  entry_read
  rfl

/-- The widened weights: a block's first half. -/
theorem hBig_a (w : FVec Ideal S2x2048x256 .f32) (a : Fin 2) (f : Fin 2048) (h : Fin 2) (k : Fin 256) :
    hBig w (ix3 a f ⟨h.val * 512 + k.val, by omega⟩) = w (ix3 a ⟨(slim f).val, by omega⟩ k) * sel f h := by
  pointwise [hBig, hEye_at, slim, sel]
  refine congrArg (fun q => w (ix3 a q k) * _) (Fin.ext ?_)
  dsimp only
  omega

/-- The widened weights: a block's second half. -/
theorem hBig_b (w : FVec Ideal S2x2048x256 .f32) (a : Fin 2) (f : Fin 2048) (h : Fin 2) (k : Fin 256) :
    hBig w (ix3 a f ⟨h.val * 512 + 256 + k.val, by omega⟩) = w (ix3 a ⟨1024 + (slim f).val, by omega⟩ k) * sel f h := by
  pointwise [hBig, hEye_at, slim, sel]
  refine congrArg (fun q => w (ix3 a q k) * _) (Fin.ext ?_)
  dsimp only
  omega

/-- The block of widened weights. -/
theorem blk1 (c : Dev nD) (t : Fin grid0.N) (f : Fin 2048) (j : Fin 1024) :
    iblk m c 1 t (ix3 0 f j) = hBig (m ((c.tc : Thread nD τ).loc main_arg3)) (ix3 (arrOf t) f j) := by
  blk_simp [iblk]; rw [emb1, big_eq]

end Cert.CmpIdeal.Whole
-- ==== Proof.CmpBlkC.lean ====
/-
  The compression kernel's other blocks, read off the arrays.
-/
module

public import proofs.«01_k».proof.Proof.CmpEmb

@[expose] public section

set_option maxRecDepth 16384

noncomputable section

open Idealize.ShloMosaic Idealize.ShloMosaic.TcCoe Idealize.SL.Sem

namespace Cert.CmpIdeal.Whole

open Cert.CmpIdeal Cert.CmpIdeal.Gen Cert.CmpRow Cert.CmpSum Cert.CmpRefIdeal.Row

variable (m : (ℓ : Loc nD τ sig) → Buf (Elt Ideal) ℓ)

/-- The first-layer weights. -/
theorem blk2 (c : Dev nD) (t : Fin grid0.N) (f : Fin 2048) (k : Fin 256) :
    iblk m c 2 t (ix3 0 f k) = m ((c.tc : Thread nD τ).loc main_arg3) (ix3 (arrOf t) f k) := by
  blk_simp [iblk]; rw [emb2]
  entry_read; pointwise

/-- The position embedding. -/
theorem blk3 (c : Dev nD) (t : Fin grid0.N) (f : Fin 2048) :
    iblk m c 3 t (ix3 0 0 f) = m ((c.tc : Thread nD τ).loc main_arg2) (ix3 (arrOf t) ⟨f.val / 64, by omega⟩ ⟨f.val % 64, by omega⟩) := by
  blk_simp [iblk]; rw [emb3]
  entry_read; pointwise

/-- The second-layer weights. -/
theorem blk4 (c : Dev nD) (t : Fin grid0.N) (k : Fin 256) (d : Fin 64) :
    iblk m c 4 t (ix3 0 k d) = m ((c.tc : Thread nD τ).loc main_arg4) (ix3 (arrOf t) k d) := by
  blk_simp [iblk]; rw [emb4]
  entry_read; pointwise

end Cert.CmpIdeal.Whole
-- ==== Proof.CmpValue.lean ====
/-
  The compression kernel's whole result array is the plain reference's: each grid point writes the compressed blocks of one
  sequence's keys or values, both heads, and together the 16 points write every entry.
-/
module

public import proofs.«01_k».proof.Proof.CmpBlkA
public import proofs.«01_k».proof.Proof.CmpBlkB
public import proofs.«01_k».proof.Proof.CmpBlkC

@[expose] public section

set_option maxRecDepth 16384

noncomputable section

open Idealize.ShloMosaic Idealize.ShloMosaic.TcCoe Idealize.SL.Sem

namespace Cert.CmpIdeal.Whole

open Cert.CmpIdeal Cert.CmpIdeal.Gen Cert.CmpRow Cert.CmpSum Cert.CmpRefIdeal.Row

variable (m : (ℓ : Loc nD τ sig) → Buf (Elt Ideal) ℓ)

/-- A block's channel is the reference's, once the call's operands are the host's layouts of the arguments. -/
theorem unit_eq (k v : FVec Ideal S8x8192x128 .f32) (po : FVec Ideal S2x32x64 .f32) (w1 : FVec Ideal S2x2048x256 .f32) (w2 : FVec Ideal S2x256x64 .f32)
    (hpo : ∀ i, po i = (((po i).toReal : ℝ) : EReal)) (hw : ∀ i, w1 i = (((w1 i).toReal : ℝ) : EReal)) (a : Fin 2) (b : Fin 8)
    (x : Vec Ideal S1x1x512x2048 .bf16) (u : Vec Ideal S1x2048x1024 .bf16) (u1 : Vec Ideal S1x2048x256 .bf16) (p : Vec Ideal S1x8x2048 .f32)
    (u2 : Vec Ideal S1x256x64 .bf16) (h0 : ∀ n f, x (ix4 0 0 n f) = hTok k v (ix4 a b n f)) (h1 : ∀ f j, u (ix3 0 f j) = hBig w1 (ix3 a f j))
    (h2 : ∀ f j, u1 (ix3 0 f j) = w1 (ix3 a f j)) (h3 : ∀ f : Fin 2048, p (ix3 0 0 f) = po (ix3 a ⟨f.val / 64, by omega⟩ ⟨f.val % 64, by omega⟩))
    (h4 : ∀ c d, u2 (ix3 0 c d) = w2 (ix3 a c d)) (h : Fin 2) (d : Fin 64) (n : Fin 512) :
    Block.unit x u u1 p u2 h d n = rCmp k v po w1 w2 (ix5 a b h d n) := by
  rw [rCmp_at]
  unfold Block.unit net
  refine Finset.sum_congr rfl fun c _ => ?_
  rw [h4]
  refine congrArg (fun e => InRow.gelu e * w2 (ix3 a c d)) ?_
  simp only [h0, h1, h2, h3, hTok_at, hBig_a, hBig_b]
  exact kpre_eq (fun s j => if a.val = 0 then k (ix3 b s j) else v (ix3 b s j))
    (fun f => po (ix3 a ⟨f.val / 64, by omega⟩ ⟨f.val % 64, by omega⟩)) (fun f => w1 (ix3 a f c)) (fun f => hpo _) (fun f => hw _) n h

/-- The result array after the run, for a real position embedding and real first-layer weights. -/
theorem final (c : Dev nD)
    (hpo : ∀ i, (m ((c.tc : Thread nD τ).loc main_arg2) : S2x32x64.Idx → EReal) i
      = ((EReal.toReal ((m ((c.tc : Thread nD τ).loc main_arg2) : S2x32x64.Idx → EReal) i) : ℝ) : EReal))
    (hw : ∀ i, (m ((c.tc : Thread nD τ).loc main_arg3) : S2x2048x256.Idx → EReal) i
      = ((EReal.toReal ((m ((c.tc : Thread nD τ).loc main_arg3) : S2x2048x256.Idx → EReal) i) : ℝ) : EReal)) :
    (dats m 0 c).arrAt 6 cfg0.N = goal m c := by
  refine (dats m 0 c).arrAt_eq_of_covers 6 _ (by decide +kernel) fun t hf y => ?_
  blk_simp
  rw [after0_6]
  idx_vars y
  obtain rfl : y0 = 0 := Subsingleton.elim _ _
  obtain rfl : y1 = 0 := Subsingleton.elim _ _
  rw [emb6 t y2 y3 y4]
  refine (Block.out_at (iblk m c 0 t) (iblk m c 1 t) (iblk m c 2 t) (iblk m c 3 t) (iblk m c 4 t) y2 y3 y4).trans ?_
  exact unit_eq _ _ _ _ _ hpo hw (arrOf t) (seqOf t) _ _ _ _ _ (blk0 m c t) (blk1 m c t) (blk2 m c t) (blk3 m c t) (blk4 m c t) y2 y3 y4

end Cert.CmpIdeal.Whole
-- ==== Proof.CmpClaims.lean ====
/-
  The compression program's claims: its frames and its equality with the plain reference.
-/
module

public import proofs.«01_k».proof.Defs
public import proofs.«01_k».proof.Proof.Gen.Cmp.Frame
public import proofs.«01_k».proof.Proof.Gen.Pre_finite_weights
public import proofs.«01_k».proof.Proof.WinClaims
public import proofs.«01_k».proof.Proof.CmpValue
public import Idealize.ShloMosaic.Lib.Quiescent

@[expose] public section

noncomputable section

open Idealize.ShloMosaic Idealize.ShloMosaic.TcCoe Idealize.SL.Sem

namespace Cert.Proof.CmpClaims

/-- Every run of the kernel ends with its arguments unchanged. -/
theorem frame_p : Cert.quiescent_Cmp := fun m ρ _ => Cert.Cmp.Gen.frame m ρ
/-- The same, on the extended reals. -/
theorem frame_pi : Cert.quiescent_CmpIdeal := fun m ρ _ => Cert.CmpIdeal.Gen.frame m ρ
/-- The same, for finite position embedding and weights. -/
theorem frame_pi_finite : Cert.quiescent_CmpIdeal_pre_finite_weights := fun m ρ _ => Cert.CmpIdeal.Gen.frame m ρ
/-- Every run of the reference ends with its arguments unchanged. -/
theorem frame_ri : Cert.quiescent_CmpRefIdeal := fun m ρ _ =>
  (θ_run Cert.CmpRefIdeal.defs _ _).mono (fun r h => ⟨fun c => (h c).2,
      Idealize.ShloMosaic.sem_eq_zero_of_no_sems (by decide) r.2⟩)
    (Cert.CmpRefIdeal.Value.run (F := Ideal) m ρ)
/-- The same, for finite position embedding and weights. -/
theorem frame_ri_finite : Cert.quiescent_CmpRefIdeal_pre_finite_weights := fun m ρ _ => frame_ri m ρ trivial

/-- The precondition: the position embedding is real. -/
theorem pos_real (m : (ℓ : Loc Cert.CmpIdeal.nD Cert.CmpIdeal.τ Cert.CmpIdeal.sig) → Buf (Elt Ideal) ℓ) (h : Cert.Pre_CmpIdeal_finite_weights m)
    (c : Dev Cert.CmpIdeal.nD) (i : Cert.CmpIdeal.S2x32x64.Idx) :
    (m ((c.tc : Thread Cert.CmpIdeal.nD Cert.CmpIdeal.τ).loc Cert.CmpIdeal.main_arg2) : Cert.CmpIdeal.S2x32x64.Idx → EReal) i
      = ((EReal.toReal ((m ((c.tc : Thread Cert.CmpIdeal.nD Cert.CmpIdeal.τ).loc Cert.CmpIdeal.main_arg2) : Cert.CmpIdeal.S2x32x64.Idx → EReal) i) : ℝ) : EReal) := by
  have e := h c
  idx_vars i
  refine Cert.Proof.WinClaims.real_of _ ?_
  have e' := congrFun e (ix3 i0 (⟨i1.val * 64 + i2.val, by omega⟩ : Fin 2048) (0 : Fin 257))
  revert e'
  pointwise [Cert.Pre_finite_weights.fn]
  exact id

/-- The precondition: the first-layer weights are real. -/
theorem weights_real (m : (ℓ : Loc Cert.CmpIdeal.nD Cert.CmpIdeal.τ Cert.CmpIdeal.sig) → Buf (Elt Ideal) ℓ) (h : Cert.Pre_CmpIdeal_finite_weights m)
    (c : Dev Cert.CmpIdeal.nD) (i : Cert.CmpIdeal.S2x2048x256.Idx) :
    (m ((c.tc : Thread Cert.CmpIdeal.nD Cert.CmpIdeal.τ).loc Cert.CmpIdeal.main_arg3) : Cert.CmpIdeal.S2x2048x256.Idx → EReal) i
      = ((EReal.toReal ((m ((c.tc : Thread Cert.CmpIdeal.nD Cert.CmpIdeal.τ).loc Cert.CmpIdeal.main_arg3) : Cert.CmpIdeal.S2x2048x256.Idx → EReal) i) : ℝ) : EReal) := by
  have e := h c
  idx_vars i
  refine Cert.Proof.WinClaims.real_of _ ?_
  have e' := congrFun e (ix3 i0 i1 (⟨1 + i2.val, by omega⟩ : Fin 257))
  revert e'
  pointwise [Cert.Pre_finite_weights.fn]
  exact id

/-- Kernel and reference compute the same array on the extended reals, for finite position embedding and weights. -/
theorem algebraic : Cert.algebraic_CmpIdeal_CmpRefIdeal_pre_finite_weights := by
  intro m ρ m' ρ' hpre hag
  refine ⟨fun c => Cert.CmpIdeal.Whole.goal m c, ?_, ?_⟩
  · exact (θ_run Cert.CmpIdeal.defs _ _).mono (fun _ h c => ⟨(h c).2.1.trans (Cert.CmpIdeal.Whole.final m c (pos_real m hpre c) (weights_real m hpre c)), (h c).2.2⟩)
      (Cert.CmpIdeal.Value.run_blocks (F := Ideal) m ρ)
  · refine (θ_run Cert.CmpRefIdeal.defs _ _).mono (fun _ h c => ⟨(h c).1.trans ?_, (h c).2⟩)
      (Cert.CmpRefIdeal.Value.run (F := Ideal) m' ρ')
    rw [Cert.CmpRefIdeal.Row.res_eq m' c]
    unfold Cert.CmpIdeal.Whole.goal
    obtain ⟨h0, h1, h2, h3, h4⟩ := hag c
    rw [h0, h1, h2, h3, h4]

end Cert.Proof.CmpClaims
-- ==== Proof.lean ====
module

public import proofs.«01_k».proof.Defs
public import proofs.«01_k».proof.Proof.FfnClaims
public import proofs.«01_k».proof.Proof.OutClaims
public import proofs.«01_k».proof.Proof.InClaims
public import proofs.«01_k».proof.Proof.AdaClaims
public import proofs.«01_k».proof.Proof.WinClaims
public import proofs.«01_k».proof.Proof.CmpClaims
public import proofs.«01_k».proof.Proof.Gen.Cmp.Frame
public import proofs.«01_k».proof.Proof.Gen.CmpIdeal.Value
public import proofs.«01_k».proof.Proof.Gen.CmpRefIdeal.Run
public import proofs.«01_k».proof.Proof.Gen.Pre_finite_weights
public import proofs.«01_k».proof.Proof.Gen.Pre_finite
public import proofs.«01_k».proof.Proof.Gen.Win.Frame
public import proofs.«01_k».proof.Proof.Gen.WinIdeal.Value
public import proofs.«01_k».proof.Proof.Gen.WinRefIdeal.Run

@[expose] public section

namespace Cert.Proof

/-- All the claims of this certificate. -/
theorem claim : Cert.Claim :=
  ⟨Cert.Win.Gen.facts, Cert.WinIdeal.Gen.facts, Cert.WinRefIdeal.Gen.facts, Cert.Ffn.Gen.facts, Cert.FfnIdeal.Gen.facts, Cert.FfnRefIdeal.Gen.facts,
    Cert.Out.Gen.facts, Cert.OutIdeal.Gen.facts, Cert.OutRefIdeal.Gen.facts,
    Cert.InP.Gen.facts, Cert.InPIdeal.Gen.facts, Cert.InPRefIdeal.Gen.facts,
    Cert.Ada.Gen.facts, Cert.AdaIdeal.Gen.facts, Cert.AdaRefIdeal.Gen.facts,
    Cert.Cmp.Gen.facts, Cert.CmpIdeal.Gen.facts, Cert.CmpRefIdeal.Gen.facts,
    Cert.Pre_finite.Gen.facts, Cert.Pre_finite_weights.Gen.facts,
    WinClaims.frame_p, WinClaims.frame_pi, WinClaims.frame_pi_finite, WinClaims.frame_ri, WinClaims.frame_ri_finite,
    FfnClaims.frame_p, FfnClaims.frame_pi, FfnClaims.frame_ri,
    OutClaims.frame_p, OutClaims.frame_pi, OutClaims.frame_ri,
    InClaims.frame_p, InClaims.frame_pi, InClaims.frame_ri,
    AdaClaims.frame_p, AdaClaims.frame_pi, AdaClaims.frame_ri,
    CmpClaims.frame_p, CmpClaims.frame_pi, CmpClaims.frame_pi_finite, CmpClaims.frame_ri, CmpClaims.frame_ri_finite,
    WinClaims.preserves, WinClaims.algebraic, trivial, FfnClaims.algebraic, trivial, OutClaims.algebraic, trivial, InClaims.algebraic,
    trivial, AdaClaims.algebraic, trivial, CmpClaims.algebraic⟩

end Cert.Proof
